-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prepared [hPre_prepared : Cert.Pre_prepared.Facts] (m : (ℓ : Loc Cert.KernelIdeal.nD Cert.KernelIdeal.τ Cert.KernelIdeal.sig) → Buf (Elt Ideal) ℓ) : Prop :=
  ∀ c : Dev Cert.KernelIdeal.nD,
    (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prepared [hPre_prepared : Cert.Pre_prepared.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_weighing [hPre_weighing : Cert.Pre_weighing.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_weighing.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_weighing [hPre_weighing : Cert.Pre_weighing.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_weighing.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_prepared [hKernelIdeal : Cert.KernelIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prepared m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_prepared [hReferenceIdeal : Cert.ReferenceIdeal.Facts] [hPre_prepared : Cert.Pre_prepared.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prepared m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_weighing [hKernel6Ideal : Cert.Kernel6Ideal.Facts] [hPre_weighing : Cert.Pre_weighing.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_weighing m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_weighing [hReference6Ideal : Cert.Reference6Ideal.Facts] [hPre_weighing : Cert.Pre_weighing.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_weighing m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_prepared [hKernelIdeal : Cert.KernelIdeal.Facts] [hReferenceIdeal : Cert.ReferenceIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prepared m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal_pre_weighing [hKernel6Ideal : Cert.Kernel6Ideal.Facts] [hReference6Ideal : Cert.Reference6Ideal.Facts] [hPre_weighing : Cert.Pre_weighing.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_weighing m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_prepared : Cert.Pre_prepared.Facts) (hPre_routed : Cert.Pre_routed.Facts) (hPre_weighing : Cert.Pre_weighing.Facts),
    quiescent_Kernel (hKernel := hKernel)
    ∧ quiescent_KernelIdeal (hKernelIdeal := hKernelIdeal)
    ∧ quiescent_KernelIdeal_pre_prepared (hKernelIdeal := hKernelIdeal) (hPre_prepared := hPre_prepared)
    ∧ quiescent_ReferenceIdeal (hReferenceIdeal := hReferenceIdeal)
    ∧ quiescent_ReferenceIdeal_pre_prepared (hReferenceIdeal := hReferenceIdeal) (hPre_prepared := hPre_prepared)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_weighing (hKernel6Ideal := hKernel6Ideal) (hPre_weighing := hPre_weighing)
    ∧ quiescent_Reference6Ideal (hReference6Ideal := hReference6Ideal)
    ∧ quiescent_Reference6Ideal_pre_weighing (hReference6Ideal := hReference6Ideal) (hPre_weighing := hPre_weighing)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_prepared (hKernelIdeal := hKernelIdeal) (hReferenceIdeal := hReferenceIdeal) (hPre_prepared := hPre_prepared)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_weighing (hKernel6Ideal := hKernel6Ideal) (hReference6Ideal := hReference6Ideal) (hPre_weighing := hPre_weighing)
    ∧ preserves_Kernel7_Kernel7Ideal
    ∧ algebraic_Kernel7Ideal_Reference7Ideal (hKernel7Ideal := hKernel7Ideal) (hReference7Ideal := hReference7Ideal)
-- ==== Pre_prepared.lean ====
abbrev S4x512x8192 : Shape := ⟨3, ![4, 512, 8192]⟩
abbrev S4x8448x256 : Shape := ⟨3, ![4, 8448, 256]⟩
abbrev S4x33x160x256 : Shape := ⟨4, ![4, 33, 160, 256]⟩
abbrev S8 : Shape := ⟨1, ![8]⟩
abbrev S1 : Shape := ⟨1, ![1]⟩
abbrev S4x8448x128 : Shape := ⟨3, ![4, 8448, 128]⟩
abbrev S4x8448x1 : Shape := ⟨3, ![4, 8448, 1]⟩
abbrev S4x8448 : Shape := ⟨2, ![4, 8448]⟩
abbrev S4x33x1x256 : Shape := ⟨4, ![4, 33, 1, 256]⟩
abbrev S4x33x256 : Shape := ⟨3, ![4, 33, 256]⟩
abbrev S_ : Shape := ⟨0, ![]⟩

class Facts : Prop where
  bitsLt_bf16_f32 : FTy.bits .bf16 < FTy.bits .f32
  slices_S4x8448x256_S4x8448x128_0_0_0 : S4x8448x256.Slices ![0, 0, 0] S4x8448x128
  slices_S4x8448x256_S4x8448x1_0_0_128 : S4x8448x256.Slices ![0, 0, 128] S4x8448x1
  shapeCasts_S4x8448x1_S4x8448 : S4x8448x1.ShapeCasts S4x8448
  slices_S4x33x160x256_S4x33x1x256_0_0_64_0 : S4x33x160x256.Slices ![0, 0, 64, 0] S4x33x1x256
  shapeCasts_S4x33x1x256_S4x33x256 : S4x33x1x256.ShapeCasts S4x33x256
  slices_S4x33x160x256_S4x33x1x256_0_0_144_0 : S4x33x160x256.Slices ![0, 0, 144, 0] S4x33x1x256
  bcast_S_S4x512x8192 : S_.BroadcastsInDim S4x512x8192 (![] : Fin 0 → Fin S4x512x8192.rank)
  reducesTo_S4x512x8192_S_d0_1_2 : S4x512x8192.ReducesTo [0, 1, 2] S_
  h_S_ : 0 < S_.numel
  bcast_S_S4x8448x128 : S_.BroadcastsInDim S4x8448x128 (![] : Fin 0 → Fin S4x8448x128.rank)
  reducesTo_S4x8448x128_S_d0_1_2 : S4x8448x128.ReducesTo [0, 1, 2] S_
  bcast_S_S1 : S_.BroadcastsInDim S1 (![] : Fin 0 → Fin S1.rank)
  reducesTo_S1_S_d0 : S1.ReducesTo [0] S_
  bcast_S_S4x8448 : S_.BroadcastsInDim S4x8448 (![] : Fin 0 → Fin S4x8448.rank)
  reducesTo_S4x8448_S_d0_1 : S4x8448.ReducesTo [0, 1] S_
  bcast_S_S4x33x256 : S_.BroadcastsInDim S4x33x256 (![] : Fin 0 → Fin S4x33x256.rank)
  reducesTo_S4x33x256_S_d0_1_2 : S4x33x256.ReducesTo [0, 1, 2] S_

variable [Facts]

def fn_part2 {F : FTy → Type} [FloatOps F] (main_v8 : FVec F S4x33x256 .f32) (main_v11 : FVec F S4x33x256 .f32) (main_v35 : IVec S_ 1) (main_cst_9 : FVec F S_ .f32) : IVec S_ 1 :=
  let main_v36 : FVec F S4x33x256 .f32 := broadcastInDim S4x33x256 ![] bcast_S_S4x33x256 main_cst_9
  let main_v37 : IVec S4x33x256 1 := cmpf .oeq main_v8 main_v36
  let main_c_10 : IVec S_ 1 := constantI S_ 1 1#1
  let main_v38 : IVec S_ 1 := (fun x v => Host.reduce IntOp.andi x v reducesTo_S4x33x256_S_d0_1_2 h_S_) main_v37 main_c_10
  let main_v39 : IVec S_ 1 := andi main_v35 main_v38
  let main_cst_11 : FVec F S_ .f32 := constant S_ .f32 0x3F800000#32
  let main_v40 : FVec F S4x33x256 .f32 := broadcastInDim S4x33x256 ![] bcast_S_S4x33x256 main_cst_11
  let main_v41 : IVec S4x33x256 1 := cmpf .oeq main_v11 main_v40
  let main_c_12 : IVec S_ 1 := constantI S_ 1 1#1
  let main_v42 : IVec S_ 1 := (fun x v => Host.reduce IntOp.andi x v reducesTo_S4x33x256_S_d0_1_2 h_S_) main_v41 main_c_12
  let main_v43 : IVec S_ 1 := andi main_v39 main_v42
  main_v43

def fn_part1 {F : FTy → Type} [FloatOps F] (main_arg4 : FVec F S1 .f32) (main_v2 : FVec F S4x8448x128 .f32) (main_v5 : FVec F S4x8448 .f32) (main_v8 : FVec F S4x33x256 .f32) (main_v11 : FVec F S4x33x256 .f32) (main_v17 : IVec S_ 1) (main_v19 : IVec S4x8448x128 1) : IVec S_ 1 :=
  let main_cst_2 : FVec F S_ .f32 := constant S_ .f32 0x7F800000#32
  let main_v20 : FVec F S4x8448x128 .f32 := broadcastInDim S4x8448x128 ![] bcast_S_S4x8448x128 main_cst_2
  let main_v21 : IVec S4x8448x128 1 := cmpf .olt main_v2 main_v20
  let main_v22 : IVec S4x8448x128 1 := andi main_v19 main_v21
  let main_c_3 : IVec S_ 1 := constantI S_ 1 1#1
  let main_v23 : IVec S_ 1 := (fun x v => Host.reduce IntOp.andi x v reducesTo_S4x8448x128_S_d0_1_2 h_S_) main_v22 main_c_3
  let main_v24 : IVec S_ 1 := andi main_v17 main_v23
  let main_cst_4 : FVec F S_ .f32 := constant S_ .f32 0xFF800000#32
  let main_v25 : FVec F S1 .f32 := broadcastInDim S1 ![] bcast_S_S1 main_cst_4
  let main_v26 : IVec S1 1 := cmpf .ogt main_arg4 main_v25
  let main_cst_5 : FVec F S_ .f32 := constant S_ .f32 0x7F800000#32
  let main_v27 : FVec F S1 .f32 := broadcastInDim S1 ![] bcast_S_S1 main_cst_5
  let main_v28 : IVec S1 1 := cmpf .olt main_arg4 main_v27
  let main_v29 : IVec S1 1 := andi main_v26 main_v28
  let main_c_6 : IVec S_ 1 := constantI S_ 1 1#1
  let main_v30 : IVec S_ 1 := (fun x v => Host.reduce IntOp.andi x v reducesTo_S1_S_d0 h_S_) main_v29 main_c_6
  let main_v31 : IVec S_ 1 := andi main_v24 main_v30
  let main_cst_7 : FVec F S_ .f32 := constant S_ .f32 0x3F800000#32
  let main_v32 : FVec F S4x8448 .f32 := broadcastInDim S4x8448 ![] bcast_S_S4x8448 main_cst_7
  let main_v33 : IVec S4x8448 1 := cmpf .oeq main_v5 main_v32
  let main_c_8 : IVec S_ 1 := constantI S_ 1 1#1
  let main_v34 : IVec S_ 1 := (fun x v => Host.reduce IntOp.andi x v reducesTo_S4x8448_S_d0_1 h_S_) main_v33 main_c_8
  let main_v35 : IVec S_ 1 := andi main_v31 main_v34
  let main_cst_9 : FVec F S_ .f32 := constant S_ .f32 0x3F800000#32
  fn_part2 (F := F) main_v8 main_v11 main_v35 main_cst_9

def fn {F : FTy → Type} [FloatOps F] (main_arg0 : FVec F S4x512x8192 .bf16) (main_arg1 : FVec F S4x8448x256 .bf16) (main_arg2 : FVec F S4x33x160x256 .bf16) (main_arg3 : FVec F S8 .f32) (main_arg4 : FVec F S1 .f32) : IVec S_ 1 :=
  let main_v0 : FVec F S4x512x8192 .f32 := (extf .f32 · bitsLt_bf16_f32) main_arg0
  let main_v1 : FVec F S4x8448x128 .bf16 := (extractStridedSlice S4x8448x128 ![0, 0, 0] · slices_S4x8448x256_S4x8448x128_0_0_0) main_arg1
  let main_v2 : FVec F S4x8448x128 .f32 := (extf .f32 · bitsLt_bf16_f32) main_v1
  let main_v3 : FVec F S4x8448x1 .bf16 := (extractStridedSlice S4x8448x1 ![0, 0, 128] · slices_S4x8448x256_S4x8448x1_0_0_128) main_arg1
  let main_v4 : FVec F S4x8448 .bf16 := shapeCast S4x8448 main_v3 shapeCasts_S4x8448x1_S4x8448
  let main_v5 : FVec F S4x8448 .f32 := (extf .f32 · bitsLt_bf16_f32) main_v4
  let main_v6 : FVec F S4x33x1x256 .bf16 := (extractStridedSlice S4x33x1x256 ![0, 0, 64, 0] · slices_S4x33x160x256_S4x33x1x256_0_0_64_0) main_arg2
  let main_v7 : FVec F S4x33x256 .bf16 := shapeCast S4x33x256 main_v6 shapeCasts_S4x33x1x256_S4x33x256
  let main_v8 : FVec F S4x33x256 .f32 := (extf .f32 · bitsLt_bf16_f32) main_v7
  let main_v9 : FVec F S4x33x1x256 .bf16 := (extractStridedSlice S4x33x1x256 ![0, 0, 144, 0] · slices_S4x33x160x256_S4x33x1x256_0_0_144_0) main_arg2
  let main_v10 : FVec F S4x33x256 .bf16 := shapeCast S4x33x256 main_v9 shapeCasts_S4x33x1x256_S4x33x256
  let main_v11 : FVec F S4x33x256 .f32 := (extf .f32 · bitsLt_bf16_f32) main_v10
  let main_cst : FVec F S_ .f32 := constant S_ .f32 0xFF800000#32
  let main_v12 : FVec F S4x512x8192 .f32 := broadcastInDim S4x512x8192 ![] bcast_S_S4x512x8192 main_cst
  let main_v13 : IVec S4x512x8192 1 := cmpf .ogt main_v0 main_v12
  let main_cst_0 : FVec F S_ .f32 := constant S_ .f32 0x7F800000#32
  let main_v14 : FVec F S4x512x8192 .f32 := broadcastInDim S4x512x8192 ![] bcast_S_S4x512x8192 main_cst_0
  let main_v15 : IVec S4x512x8192 1 := cmpf .olt main_v0 main_v14
  let main_v16 : IVec S4x512x8192 1 := andi main_v13 main_v15
  let main_c : IVec S_ 1 := constantI S_ 1 1#1
  let main_v17 : IVec S_ 1 := (fun x v => Host.reduce IntOp.andi x v reducesTo_S4x512x8192_S_d0_1_2 h_S_) main_v16 main_c
  let main_cst_1 : FVec F S_ .f32 := constant S_ .f32 0xFF800000#32
  let main_v18 : FVec F S4x8448x128 .f32 := broadcastInDim S4x8448x128 ![] bcast_S_S4x8448x128 main_cst_1
  let main_v19 : IVec S4x8448x128 1 := cmpf .ogt main_v2 main_v18
  fn_part1 (F := F) main_arg4 main_v2 main_v5 main_v8 main_v11 main_v17 main_v19
-- ==== Pre_routed.lean ====
abbrev S72 : Shape := ⟨1, ![72]⟩
abbrev S1 : Shape := ⟨1, ![1]⟩
abbrev S73728x1024 : Shape := ⟨2, ![73728, 1024]⟩
abbrev S16x1024x3584 : Shape := ⟨3, ![16, 1024, 3584]⟩
abbrev S16x3584x1024 : Shape := ⟨3, ![16, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S72 32) (main_arg1 : IVec S1 32) (main_arg2 : FVec F S73728x1024 .f32) (main_arg3 : FVec F S16x1024x3584 .f32) (main_arg4 : FVec F S16x1024x3584 .f32) (main_arg5 : FVec F S16x3584x1024 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 16#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 72#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_weighing.lean ====
abbrev S1x1024x1024 : Shape := ⟨3, ![1, 1024, 1024]⟩
abbrev S16x1024x3584 : Shape := ⟨3, ![16, 1024, 3584]⟩
abbrev S16x3584x1024 : Shape := ⟨3, ![16, 3584, 1024]⟩
abbrev S1x1024x128 : Shape := ⟨3, ![1, 1024, 128]⟩
abbrev S1x1x1024 : Shape := ⟨3, ![1, 1, 1024]⟩
abbrev S1x1024x8 : Shape := ⟨3, ![1, 1024, 8]⟩
abbrev S_ : Shape := ⟨0, ![]⟩

class Facts : Prop where
  slices_S1x1024x128_S1x1024x8_0_0_0 : S1x1024x128.Slices ![0, 0, 0] S1x1024x8
  bcast_S_S1x1024x8 : S_.BroadcastsInDim S1x1024x8 (![] : Fin 0 → Fin S1x1024x8.rank)
  reducesTo_S1x1024x8_S_d0_1_2 : S1x1024x8.ReducesTo [0, 1, 2] S_
  h_S_ : 0 < S_.numel

variable [Facts]

def fn {F : FTy → Type} [FloatOps F] (main_arg0 : FVec F S1x1024x1024 .bf16) (main_arg1 : FVec F S16x1024x3584 .f32) (main_arg2 : FVec F S16x1024x3584 .f32) (main_arg3 : FVec F S16x3584x1024 .f32) (main_arg4 : FVec F S1x1024x128 .f32) (main_arg5 : FVec F S1x1024x1024 .f32) (main_arg6 : FVec F S1x1x1024 .f32) : IVec S_ 1 :=
  let main_v0 : FVec F S1x1024x8 .f32 := (extractStridedSlice S1x1024x8 ![0, 0, 0] · slices_S1x1024x128_S1x1024x8_0_0_0) main_arg4
  let main_cst : FVec F S_ .f32 := constant S_ .f32 0x00000000#32
  let main_v1 : FVec F S1x1024x8 .f32 := broadcastInDim S1x1024x8 ![] bcast_S_S1x1024x8 main_cst
  let main_v2 : IVec S1x1024x8 1 := cmpf .oge main_v0 main_v1
  let main_cst_0 : FVec F S_ .f32 := constant S_ .f32 0x7F800000#32
  let main_v3 : FVec F S1x1024x8 .f32 := broadcastInDim S1x1024x8 ![] bcast_S_S1x1024x8 main_cst_0
  let main_v4 : IVec S1x1024x8 1 := cmpf .olt main_v0 main_v3
  let main_v5 : IVec S1x1024x8 1 := andi main_v2 main_v4
  let main_c : IVec S_ 1 := constantI S_ 1 1#1
  let main_v6 : IVec S_ 1 := (fun x v => Host.reduce IntOp.andi x v reducesTo_S1x1024x8_S_d0_1_2 h_S_) main_v5 main_c
  main_v6
-- ==== Kernel.lean ====
abbrev S4x512x8192 : Shape := ⟨3, ![4, 512, 8192]⟩
abbrev S4x8448x256 : Shape := ⟨3, ![4, 8448, 256]⟩
abbrev S4x33x160x256 : Shape := ⟨4, ![4, 33, 160, 256]⟩
abbrev S8 : Shape := ⟨1, ![8]⟩
abbrev S1 : Shape := ⟨1, ![1]⟩
abbrev S1x512x256 : Shape := ⟨3, ![1, 512, 256]⟩
abbrev S1x8448x256 : Shape := ⟨3, ![1, 8448, 256]⟩
abbrev S1x33x160x256 : Shape := ⟨4, ![1, 33, 160, 256]⟩
abbrev S2x256x1024 : Shape := ⟨3, ![2, 256, 1024]⟩
abbrev S2x80x1024 : Shape := ⟨3, ![2, 80, 1024]⟩
abbrev S2x2x2048x1024 : Shape := ⟨4, ![2, 2, 2048, 1024]⟩
abbrev S64x1024 : Shape := ⟨2, ![64, 1024]⟩
abbrev S128x1024 : Shape := ⟨2, ![128, 1024]⟩
abbrev S1x64x256 : Shape := ⟨3, ![1, 64, 256]⟩
abbrev S64x256 : Shape := ⟨2, ![64, 256]⟩
abbrev S256x1024 : Shape := ⟨2, ![256, 1024]⟩
abbrev S1x256x1024 : Shape := ⟨3, ![1, 256, 1024]⟩
abbrev S80x1024 : Shape := ⟨2, ![80, 1024]⟩
abbrev S1x80x1024 : Shape := ⟨3, ![1, 80, 1024]⟩
abbrev S1x2048x256 : Shape := ⟨3, ![1, 2048, 256]⟩
abbrev S2048x256 : Shape := ⟨2, ![2048, 256]⟩
abbrev S2048x1024 : Shape := ⟨2, ![2048, 1024]⟩
abbrev S1x1x2048x1024 : Shape := ⟨4, ![1, 1, 2048, 1024]⟩
abbrev S1x1x80x256 : Shape := ⟨4, ![1, 1, 80, 256]⟩
abbrev S80x256 : Shape := ⟨2, ![80, 256]⟩
abbrev S80x2048 : Shape := ⟨2, ![80, 2048]⟩
abbrev S1x256x256 : Shape := ⟨3, ![1, 256, 256]⟩
abbrev S256x256 : Shape := ⟨2, ![256, 256]⟩
abbrev S1x1x256x1024 : Shape := ⟨4, ![1, 1, 256, 1024]⟩
abbrev S1x1024 : Shape := ⟨2, ![1, 1024]⟩

abbrev nBuf : Space → Nat
  | .hbm => 6
  | .vmem => 11
  | .smem => 2
  | _ => 0

abbrev bufTy : (tb : Table) → Fin (tcTables nBuf tb) → BufTy
  | .hbm, ⟨0, _⟩ => ⟨S4x512x8192, .bf16⟩
  | .hbm, ⟨1, _⟩ => ⟨S4x8448x256, .bf16⟩
  | .hbm, ⟨2, _⟩ => ⟨S4x33x160x256, .bf16⟩
  | .hbm, ⟨3, _⟩ => ⟨S8, .f32⟩
  | .hbm, ⟨4, _⟩ => ⟨S1, .f32⟩
  | .hbm, ⟨5, _⟩ => ⟨S4x512x8192, .bf16⟩
  | .local _ .vmem, ⟨0, _⟩ => ⟨S1x512x256, .bf16⟩
  | .local _ .vmem, ⟨1, _⟩ => ⟨S1x512x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x33x160x256, .bf16⟩
  | .local _ .vmem, ⟨5, _⟩ => ⟨S1x33x160x256, .bf16⟩
  | .local _ .vmem, ⟨6, _⟩ => ⟨S1x512x256, .bf16⟩
  | .local _ .vmem, ⟨7, _⟩ => ⟨S1x512x256, .bf16⟩
  | .local _ .vmem, ⟨8, _⟩ => ⟨S2x256x1024, .bf16⟩
  | .local _ .vmem, ⟨9, _⟩ => ⟨S2x80x1024, .f32⟩
  | .local _ .vmem, ⟨10, _⟩ => ⟨S2x2x2048x1024, .bf16⟩
  | .local _ .smem, ⟨0, _⟩ => ⟨S8, .f32⟩
  | .local _ .smem, ⟨1, _⟩ => ⟨S1, .f32⟩
  | _, _ => ⟨S4x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 32], ![false, false]⟩

def k0_mult1 : BitVec 32 :=
  let c16_i32 : BitVec 32 := 16#32
  let c0_i32_51 : BitVec 32 := 0#32
  let v62 : BitVec 32 := Scalar.muli c16_i32 c0_i32_51
  let c8_i32 : BitVec 32 := 8#32
  let v63 : BitVec 32 := Scalar.addi v62 c8_i32
  let c256_i32 : BitVec 32 := 256#32
  let v64 : BitVec 32 := Scalar.muli v63 c256_i32
  v64
def k0_off1 (c8_i32 : BitVec 32) : Fin 3 → Nat :=
  let c0_52 : Index := 0#32
  let c16_i32 : BitVec 32 := 16#32
  let c0_i32_51 : BitVec 32 := 0#32
  let v62 : BitVec 32 := Scalar.muli c16_i32 c0_i32_51
  let v63 : BitVec 32 := Scalar.addi v62 c8_i32
  let c256_i32 : BitVec 32 := 256#32
  let v64 : BitVec 32 := Scalar.muli v63 c256_i32
  let v65 : BitVec 32 := v64
  let v66 : Index := Scalar.indexCast v65
  let c0_53 : Index := 0#32
  ![0, v66.toNat, 0]
def k0_off2 (c0_i32_70 : BitVec 32) : Fin 4 → Nat :=
  let c0_71 : Index := 0#32
  let c16_i32 : BitVec 32 := 16#32
  let c0_i32_51 : BitVec 32 := 0#32
  let v62 : BitVec 32 := Scalar.muli c16_i32 c0_i32_51
  let v85 : BitVec 32 := Scalar.addi v62 c0_i32_70
  let v86 : Index := Scalar.indexCast v85
  let c0_72 : Index := 0#32
  let c0_73 : Index := 0#32
  ![0, v86.toNat, 0, 0]
def k0_off3 (c0_i32_106 : BitVec 32) : Fin 4 → Nat :=
  let c0_107 : Index := 0#32
  let c16_i32 : BitVec 32 := 16#32
  let c0_i32_51 : BitVec 32 := 0#32
  let v62 : BitVec 32 := Scalar.muli c16_i32 c0_i32_51
  let v127 : BitVec 32 := Scalar.addi v62 c0_i32_106
  let v128 : Index := Scalar.indexCast v127
  let c80 : Index := 80#32
  let c0_108 : Index := 0#32
  ![0, v128.toNat, 80, 0]
def k0_mult2 : BitVec 32 :=
  let c16_i32 : BitVec 32 := 16#32
  let c0_i32_51 : BitVec 32 := 0#32
  let v62 : BitVec 32 := Scalar.muli c16_i32 c0_i32_51
  let c16_i32_148 : BitVec 32 := 16#32
  let v169 : BitVec 32 := Scalar.addi v62 c16_i32_148
  let c256_i32_149 : BitVec 32 := 256#32
  let v170 : BitVec 32 := Scalar.muli v169 c256_i32_149
  v170
def k0_off4 (c0_i32_169 : BitVec 32) : Fin 4 → Nat :=
  let c0_170 : Index := 0#32
  let c16_i32 : BitVec 32 := 16#32
  let c0_i32_51 : BitVec 32 := 0#32
  let v62 : BitVec 32 := Scalar.muli c16_i32 c0_i32_51
  let c8_i32_168 : BitVec 32 := 8#32
  let v191 : BitVec 32 := Scalar.addi v62 c8_i32_168
  let v192 : BitVec 32 := Scalar.addi v191 c0_i32_169
  let v193 : Index := Scalar.indexCast v192
  let c0_171 : Index := 0#32
  let c0_172 : Index := 0#32
  ![0, v193.toNat, 0, 0]
def k0_off5 (c0_i32_212 : BitVec 32) : Fin 4 → Nat :=
  let c0_213 : Index := 0#32
  let c16_i32 : BitVec 32 := 16#32
  let c0_i32_51 : BitVec 32 := 0#32
  let v62 : BitVec 32 := Scalar.muli c16_i32 c0_i32_51
  let c8_i32_168 : BitVec 32 := 8#32
  let v191 : BitVec 32 := Scalar.addi v62 c8_i32_168
  let v234 : BitVec 32 := Scalar.addi v191 c0_i32_212
  let v235 : Index := Scalar.indexCast v234
  let c80_214 : Index := 80#32
  let c0_215 : Index := 0#32
  ![0, v235.toNat, 80, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x33x160x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x512x8192 : Shape := ⟨3, ![4, 512, 8192]⟩
abbrev S4x8448x256 : Shape := ⟨3, ![4, 8448, 256]⟩
abbrev S4x33x160x256 : Shape := ⟨4, ![4, 33, 160, 256]⟩
abbrev S8 : Shape := ⟨1, ![8]⟩
abbrev S1 : Shape := ⟨1, ![1]⟩
abbrev S4x2x4x64x8192 : Shape := ⟨5, ![4, 2, 4, 64, 8192]⟩
abbrev S4x8448x128 : Shape := ⟨3, ![4, 8448, 128]⟩
abbrev S4x8448x2x64 : Shape := ⟨4, ![4, 8448, 2, 64]⟩
abbrev S4x33x2x80x256 : Shape := ⟨5, ![4, 33, 2, 80, 256]⟩
abbrev S4x33x2x64x256 : Shape := ⟨5, ![4, 33, 2, 64, 256]⟩
abbrev S4x33x256x2x64 : Shape := ⟨5, ![4, 33, 256, 2, 64]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩

abbrev nBuf : Space → Nat
  | .hbm => 38
  | .vmem => 0
  | .smem => 0
  | _ => 0

abbrev bufTy : (tb : Table) → Fin (tcTables nBuf tb) → BufTy
  | .hbm, ⟨0, _⟩ => ⟨S4x512x8192, .bf16⟩
  | .hbm, ⟨1, _⟩ => ⟨S4x8448x256, .bf16⟩
  | .hbm, ⟨2, _⟩ => ⟨S4x33x160x256, .bf16⟩
  | .hbm, ⟨3, _⟩ => ⟨S8, .f32⟩
  | .hbm, ⟨4, _⟩ => ⟨S1, .f32⟩
  | .hbm, ⟨5, _⟩ => ⟨S4x2x4x64x8192, .bf16⟩
  | .hbm, ⟨6, _⟩ => ⟨S4x8448x128, .bf16⟩
  | .hbm, ⟨7, _⟩ => ⟨S4x8448x2x64, .bf16⟩
  | .hbm, ⟨8, _⟩ => ⟨S4x33x2x80x256, .bf16⟩
  | .hbm, ⟨9, _⟩ => ⟨S4x33x2x64x256, .bf16⟩
  | .hbm, ⟨10, _⟩ => ⟨S4x33x256x2x64, .bf16⟩
  | .hbm, ⟨11, _⟩ => ⟨S4x8448x2x64, .bf16⟩
  | .hbm, ⟨12, _⟩ => ⟨S4x2x4x8192x8448, .f32⟩
  | .hbm, ⟨13, _⟩ => ⟨S4x2x4x8192x8448, .bf16⟩
  | .hbm, ⟨14, _⟩ => ⟨S4x2x4x8192x8448, .f32⟩
  | .hbm, ⟨15, _⟩ => ⟨S_, .f32⟩
  | .hbm, ⟨16, _⟩ => ⟨S_, .f32⟩
  | .hbm, ⟨17, _⟩ => ⟨S4x2x4x8192x8448, .f32⟩
  | .hbm, ⟨18, _⟩ => ⟨S4x2x4x8192x8448, .f32⟩
  | .hbm, ⟨19, _⟩ => ⟨S_, .f32⟩
  | .hbm, ⟨20, _⟩ => ⟨S4x2x4x8192, .f32⟩
  | .hbm, ⟨21, _⟩ => ⟨S_, .f32⟩
  | .hbm, ⟨22, _⟩ => ⟨S4x2x4x8192, .f32⟩
  | .hbm, ⟨23, _⟩ => ⟨S4x2x4x8192, .f32⟩
  | .hbm, ⟨24, _⟩ => ⟨S4x2x4x8192x1, .f32⟩
  | .hbm, ⟨25, _⟩ => ⟨S4x2x4x8192x8448, .f32⟩
  | .hbm, ⟨26, _⟩ => ⟨S4x2x4x8192x8448, .f32⟩
  | .hbm, ⟨27, _⟩ => ⟨S4x2x4x8192x8448, .f32⟩
  | .hbm, ⟨28, _⟩ => ⟨S_, .f32⟩
  | .hbm, ⟨29, _⟩ => ⟨S4x2x4x8192, .f32⟩
  | .hbm, ⟨30, _⟩ => ⟨S4x2x4x8192x1, .f32⟩
  | .hbm, ⟨31, _⟩ => ⟨S4x2x4x8192x8448, .f32⟩
  | .hbm, ⟨32, _⟩ => ⟨S4x2x4x8192x8448, .f32⟩
  | .hbm, ⟨33, _⟩ => ⟨S4x2x4x8192x8448, .bf16⟩
  | .hbm, ⟨34, _⟩ => ⟨S4x2x64x4x8192, .f32⟩
  | .hbm, ⟨35, _⟩ => ⟨S4x2x4x64x8192, .f32⟩
  | .hbm, ⟨36, _⟩ => ⟨S4x512x8192, .f32⟩
  | .hbm, ⟨37, _⟩ => ⟨S4x512x8192, .bf16⟩
  | _, _ => ⟨S4x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel2.lean ====
abbrev S72 : Shape := ⟨1, ![72]⟩
abbrev S1 : Shape := ⟨1, ![1]⟩
abbrev S73728x1024 : Shape := ⟨2, ![73728, 1024]⟩
abbrev S16x1024x3584 : Shape := ⟨3, ![16, 1024, 3584]⟩
abbrev S16x3584x1024 : Shape := ⟨3, ![16, 3584, 1024]⟩
abbrev S_ : Shape := ⟨0, ![]⟩
abbrev S72x1 : Shape := ⟨2, ![72, 1]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 20
  | .vmem => 11
  | .smem => 2
  | _ => 0

abbrev bufTy : (tb : Table) → Fin (tcTables nBuf tb) → BufTy
  | .hbm, ⟨0, _⟩ => ⟨S72, .i32⟩
  | .hbm, ⟨1, _⟩ => ⟨S73728x1024, .f32⟩
  | .hbm, ⟨2, _⟩ => ⟨S16x1024x3584, .f32⟩
  | .hbm, ⟨3, _⟩ => ⟨S16x1024x3584, .f32⟩
  | .hbm, ⟨4, _⟩ => ⟨S16x3584x1024, .f32⟩
  | .hbm, ⟨5, _⟩ => ⟨S72, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S72, .i32⟩
  | .hbm, ⟨10, _⟩ => ⟨S72, .i32⟩
  | .hbm, ⟨11, _⟩ => ⟨S_, .i32⟩
  | .hbm, ⟨12, _⟩ => ⟨S72, .i32⟩
  | .hbm, ⟨13, _⟩ => ⟨S72, .i1⟩
  | .hbm, ⟨14, _⟩ => ⟨S_, .i32⟩
  | .hbm, ⟨15, _⟩ => ⟨S72, .i32⟩
  | .hbm, ⟨16, _⟩ => ⟨S72, .i32⟩
  | .hbm, ⟨17, _⟩ => ⟨S72, .i32⟩
  | .hbm, ⟨18, _⟩ => ⟨S72x1, .i32⟩
  | .hbm, ⟨19, _⟩ => ⟨S73728x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S72, .i32⟩
  | .local _ .smem, ⟨1, _⟩ => ⟨S1, .i32⟩
  | _, _ => ⟨S72, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (k0_off1_inb : ∀ i : grid0.Coords, ∀ a, (k0_off1 i) a + S1.size a ≤ S72.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S72) ![v2.toNat] S1.size (k0_off1_inb i)) numel1_S1
  let c6_i32 : BitVec 32 := 6#32
  let v4 : BitVec 32 := Scalar.select v1 arg1 c6_i32
  let c0_i32 : BitVec 32 := 0#32
  let c0_i32_0 : BitVec 32 := 0#32
  ![v3.toNat, c0_i32.toNat, v4.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S72.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S72) ![v2.toNat] S1.size (k0_off1_inb i)) numel1_S1
  let c6_i32 : BitVec 32 := 6#32
  let v4 : BitVec 32 := Scalar.select v1 arg1 c6_i32
  let c0_i32 : BitVec 32 := 0#32
  let c0_i32_0 : BitVec 32 := 0#32
  ![v3.toNat, c0_i32.toNat, v4.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S72.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S72) ![v2.toNat] S1.size (k0_off1_inb i)) numel1_S1
  let c6_i32 : BitVec 32 := 6#32
  let v4 : BitVec 32 := Scalar.select v1 arg1 c6_i32
  let c0_i32 : BitVec 32 := 0#32
  let c0_i32_0 : BitVec 32 := 0#32
  ![v3.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S72 : Shape := ⟨1, ![72]⟩
abbrev S1 : Shape := ⟨1, ![1]⟩
abbrev S73728x1024 : Shape := ⟨2, ![73728, 1024]⟩
abbrev S16x1024x3584 : Shape := ⟨3, ![16, 1024, 3584]⟩
abbrev S16x3584x1024 : Shape := ⟨3, ![16, 3584, 1024]⟩
abbrev S16x3584x73728 : Shape := ⟨3, ![16, 3584, 73728]⟩
abbrev S16x73728x3584 : Shape := ⟨3, ![16, 73728, 3584]⟩
abbrev S_ : Shape := ⟨0, ![]⟩
abbrev S16x73728x1024 : Shape := ⟨3, ![16, 73728, 1024]⟩
abbrev S72x1024 : Shape := ⟨2, ![72, 1024]⟩
abbrev S73728 : Shape := ⟨1, ![73728]⟩
abbrev S16 : Shape := ⟨1, ![16]⟩
abbrev S16x1 : Shape := ⟨2, ![16, 1]⟩
abbrev S1x73728 : Shape := ⟨2, ![1, 73728]⟩
abbrev S16x73728 : Shape := ⟨2, ![16, 73728]⟩
abbrev S16x73728x1 : Shape := ⟨3, ![16, 73728, 1]⟩

abbrev nBuf : Space → Nat
  | .hbm => 49
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S73728x1024, .f32⟩
  | .hbm, ⟨3, _⟩ => ⟨S16x1024x3584, .f32⟩
  | .hbm, ⟨4, _⟩ => ⟨S16x1024x3584, .f32⟩
  | .hbm, ⟨5, _⟩ => ⟨S16x3584x1024, .f32⟩
  | .hbm, ⟨6, _⟩ => ⟨S16x3584x73728, .f32⟩
  | .hbm, ⟨7, _⟩ => ⟨S16x73728x3584, .f32⟩
  | .hbm, ⟨8, _⟩ => ⟨S16x3584x73728, .f32⟩
  | .hbm, ⟨9, _⟩ => ⟨S16x73728x3584, .f32⟩
  | .hbm, ⟨10, _⟩ => ⟨S16x73728x3584, .f32⟩
  | .hbm, ⟨11, _⟩ => ⟨S16x73728x3584, .f32⟩
  | .hbm, ⟨12, _⟩ => ⟨S_, .f32⟩
  | .hbm, ⟨13, _⟩ => ⟨S16x73728x3584, .f32⟩
  | .hbm, ⟨14, _⟩ => ⟨S16x73728x3584, .f32⟩
  | .hbm, ⟨15, _⟩ => ⟨S_, .f32⟩
  | .hbm, ⟨16, _⟩ => ⟨S16x73728x3584, .f32⟩
  | .hbm, ⟨17, _⟩ => ⟨S16x73728x3584, .f32⟩
  | .hbm, ⟨18, _⟩ => ⟨S16x73728x3584, .f32⟩
  | .hbm, ⟨19, _⟩ => ⟨S16x73728x3584, .f32⟩
  | .hbm, ⟨20, _⟩ => ⟨S16x73728x1024, .f32⟩
  | .hbm, ⟨21, _⟩ => ⟨S72x1024, .i32⟩
  | .hbm, ⟨22, _⟩ => ⟨S73728, .i32⟩
  | .hbm, ⟨23, _⟩ => ⟨S72, .i32⟩
  | .hbm, ⟨24, _⟩ => ⟨S_, .i32⟩
  | .hbm, ⟨25, _⟩ => ⟨S72, .i32⟩
  | .hbm, ⟨26, _⟩ => ⟨S72, .i1⟩
  | .hbm, ⟨27, _⟩ => ⟨S72x1024, .i1⟩
  | .hbm, ⟨28, _⟩ => ⟨S73728, .i1⟩
  | .hbm, ⟨29, _⟩ => ⟨S16, .i32⟩
  | .hbm, ⟨30, _⟩ => ⟨S16x1, .i32⟩
  | .hbm, ⟨31, _⟩ => ⟨S1x73728, .i32⟩
  | .hbm, ⟨32, _⟩ => ⟨S16x73728, .i32⟩
  | .hbm, ⟨33, _⟩ => ⟨S16x73728, .i32⟩
  | .hbm, ⟨34, _⟩ => ⟨S16x73728, .i1⟩
  | .hbm, ⟨35, _⟩ => ⟨S1x73728, .i1⟩
  | .hbm, ⟨36, _⟩ => ⟨S16x73728, .i1⟩
  | .hbm, ⟨37, _⟩ => ⟨S16x73728, .i1⟩
  | .hbm, ⟨38, _⟩ => ⟨S_, .f32⟩
  | .hbm, ⟨39, _⟩ => ⟨S_, .f32⟩
  | .hbm, ⟨40, _⟩ => ⟨S16x73728, .f32⟩
  | .hbm, ⟨41, _⟩ => ⟨S16x73728, .f32⟩
  | .hbm, ⟨42, _⟩ => ⟨S16x73728, .f32⟩
  | .hbm, ⟨43, _⟩ => ⟨S16x73728x1, .f32⟩
  | .hbm, ⟨44, _⟩ => ⟨S16x73728x1, .f32⟩
  | .hbm, ⟨45, _⟩ => ⟨S16x73728x1024, .f32⟩
  | .hbm, ⟨46, _⟩ => ⟨S16x73728x1024, .f32⟩
  | .hbm, ⟨47, _⟩ => ⟨S_, .f32⟩
  | .hbm, ⟨48, _⟩ => ⟨S73728x1024, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Kernel3.lean ====
abbrev S4x512x8192 : Shape := ⟨3, ![4, 512, 8192]⟩
abbrev S1024x1024 : Shape := ⟨2, ![1024, 1024]⟩
abbrev S4x8192x1024 : Shape := ⟨3, ![4, 8192, 1024]⟩
abbrev S4x1x1024 : Shape := ⟨3, ![4, 1, 1024]⟩
abbrev S1x1024 : Shape := ⟨2, ![1, 1024]⟩
abbrev S2x1024x2816 : Shape := ⟨3, ![2, 1024, 2816]⟩
abbrev S2x2816x1024 : Shape := ⟨3, ![2, 2816, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1x512x256 : Shape := ⟨3, ![1, 512, 256]⟩
abbrev S512x256 : Shape := ⟨2, ![512, 256]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 13
  | .vmem => 23
  | .smem => 0
  | _ => 0

abbrev bufTy : (tb : Table) → Fin (tcTables nBuf tb) → BufTy
  | .hbm, ⟨0, _⟩ => ⟨S4x512x8192, .bf16⟩
  | .hbm, ⟨1, _⟩ => ⟨S4x512x8192, .bf16⟩
  | .hbm, ⟨2, _⟩ => ⟨S1024x1024, .bf16⟩
  | .hbm, ⟨3, _⟩ => ⟨S4x8192x1024, .f32⟩
  | .hbm, ⟨4, _⟩ => ⟨S4x1x1024, .f32⟩
  | .hbm, ⟨5, _⟩ => ⟨S1x1024, .f32⟩
  | .hbm, ⟨6, _⟩ => ⟨S4x1x1024, .f32⟩
  | .hbm, ⟨7, _⟩ => ⟨S4x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S4x1x1024, .f32⟩
  | .hbm, ⟨12, _⟩ => ⟨S4x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x2816, .bf16⟩
  | .local _ .vmem, ⟨15, _⟩ => ⟨S1x1024x2816, .bf16⟩
  | .local _ .vmem, ⟨16, _⟩ => ⟨S1x2816x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x512x1024, .f32⟩
  | .local _ .vmem, ⟨20, _⟩ => ⟨S1x512x1024, .f32⟩
  | .local _ .vmem, ⟨21, _⟩ => ⟨S512x1024, .f32⟩
  | .local _ .vmem, ⟨22, _⟩ => ⟨S512x1024, .bf16⟩
  | _, _ => ⟨S4x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S4x512x8192 : Shape := ⟨3, ![4, 512, 8192]⟩
abbrev S1024x1024 : Shape := ⟨2, ![1024, 1024]⟩
abbrev S4x8192x1024 : Shape := ⟨3, ![4, 8192, 1024]⟩
abbrev S4x1x1024 : Shape := ⟨3, ![4, 1, 1024]⟩
abbrev S1x1024 : Shape := ⟨2, ![1, 1024]⟩
abbrev S2x1024x2816 : Shape := ⟨3, ![2, 1024, 2816]⟩
abbrev S2x2816x1024 : Shape := ⟨3, ![2, 2816, 1024]⟩
abbrev S4x1024x8192 : Shape := ⟨3, ![4, 1024, 8192]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x8192x2816 : Shape := ⟨3, ![4, 8192, 2816]⟩
abbrev S1x2816x1024 : Shape := ⟨3, ![1, 2816, 1024]⟩
abbrev S2816x1024 : Shape := ⟨2, ![2816, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4x512x8192, .bf16⟩
  | .hbm, ⟨1, _⟩ => ⟨S4x512x8192, .bf16⟩
  | .hbm, ⟨2, _⟩ => ⟨S1024x1024, .bf16⟩
  | .hbm, ⟨3, _⟩ => ⟨S4x8192x1024, .f32⟩
  | .hbm, ⟨4, _⟩ => ⟨S4x1x1024, .f32⟩
  | .hbm, ⟨5, _⟩ => ⟨S1x1024, .f32⟩
  | .hbm, ⟨6, _⟩ => ⟨S4x1x1024, .f32⟩
  | .hbm, ⟨7, _⟩ => ⟨S4x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S4x1x1024, .f32⟩
  | .hbm, ⟨12, _⟩ => ⟨S4x1024x8192, .bf16⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S1x1024x2816, .bf16⟩
  | .hbm, ⟨42, _⟩ => ⟨S1024x2816, .bf16⟩
  | .hbm, ⟨43, _⟩ => ⟨S1024x2816, .f32⟩
  | .hbm, ⟨44, _⟩ => ⟨S4x8192x2816, .f32⟩
  | .hbm, ⟨45, _⟩ => ⟨S1x1024x2816, .bf16⟩
  | .hbm, ⟨46, _⟩ => ⟨S1024x2816, .bf16⟩
  | .hbm, ⟨47, _⟩ => ⟨S1024x2816, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S_, .f32⟩
  | .hbm, ⟨52, _⟩ => ⟨S4x8192x2816, .f32⟩
  | .hbm, ⟨53, _⟩ => ⟨S4x8192x2816, .f32⟩
  | .hbm, ⟨54, _⟩ => ⟨S_, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S4x8192x2816, .f32⟩
  | .hbm, ⟨59, _⟩ => ⟨S1x2816x1024, .bf16⟩
  | .hbm, ⟨60, _⟩ => ⟨S2816x1024, .bf16⟩
  | .hbm, ⟨61, _⟩ => ⟨S2816x1024, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | _, _ => ⟨S4x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel4.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x3072 : Shape := ⟨2, ![1024, 3072]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩

abbrev nBuf : Space → Nat
  | .hbm => 7
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x3072, .bf16⟩
  | .hbm, ⟨5, _⟩ => ⟨S4x8192x1024, .bf16⟩
  | .hbm, ⟨6, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x3072 : Shape := ⟨2, ![1024, 3072]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S4x8192x3072 : Shape := ⟨3, ![4, 8192, 3072]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x3072, .bf16⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S1024x3072, .f32⟩
  | .hbm, ⟨30, _⟩ => ⟨S4x8192x3072, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .bf16⟩
  | .hbm, ⟨35, _⟩ => ⟨S4x8192x1024, .f32⟩
  | .hbm, ⟨36, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel5.lean ====
abbrev S4x512x8192 : Shape := ⟨3, ![4, 512, 8192]⟩
abbrev S1024x1024 : Shape := ⟨2, ![1024, 1024]⟩
abbrev S4x8192x1024 : Shape := ⟨3, ![4, 8192, 1024]⟩
abbrev S4x1x1024 : Shape := ⟨3, ![4, 1, 1024]⟩
abbrev S1x1024 : Shape := ⟨2, ![1, 1024]⟩
abbrev S2x1024x2816 : Shape := ⟨3, ![2, 1024, 2816]⟩
abbrev S2x2816x1024 : Shape := ⟨3, ![2, 2816, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1x512x256 : Shape := ⟨3, ![1, 512, 256]⟩
abbrev S512x256 : Shape := ⟨2, ![512, 256]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 13
  | .vmem => 23
  | .smem => 0
  | _ => 0

abbrev bufTy : (tb : Table) → Fin (tcTables nBuf tb) → BufTy
  | .hbm, ⟨0, _⟩ => ⟨S4x512x8192, .bf16⟩
  | .hbm, ⟨1, _⟩ => ⟨S4x512x8192, .bf16⟩
  | .hbm, ⟨2, _⟩ => ⟨S1024x1024, .bf16⟩
  | .hbm, ⟨3, _⟩ => ⟨S4x8192x1024, .f32⟩
  | .hbm, ⟨4, _⟩ => ⟨S4x1x1024, .f32⟩
  | .hbm, ⟨5, _⟩ => ⟨S1x1024, .f32⟩
  | .hbm, ⟨6, _⟩ => ⟨S4x1x1024, .f32⟩
  | .hbm, ⟨7, _⟩ => ⟨S4x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S4x1x1024, .f32⟩
  | .hbm, ⟨12, _⟩ => ⟨S4x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x2816, .bf16⟩
  | .local _ .vmem, ⟨15, _⟩ => ⟨S1x1024x2816, .bf16⟩
  | .local _ .vmem, ⟨16, _⟩ => ⟨S1x2816x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x512x1024, .f32⟩
  | .local _ .vmem, ⟨20, _⟩ => ⟨S1x512x1024, .f32⟩
  | .local _ .vmem, ⟨21, _⟩ => ⟨S512x1024, .f32⟩
  | .local _ .vmem, ⟨22, _⟩ => ⟨S512x1024, .bf16⟩
  | _, _ => ⟨S4x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S4x512x8192 : Shape := ⟨3, ![4, 512, 8192]⟩
abbrev S1024x1024 : Shape := ⟨2, ![1024, 1024]⟩
abbrev S4x8192x1024 : Shape := ⟨3, ![4, 8192, 1024]⟩
abbrev S4x1x1024 : Shape := ⟨3, ![4, 1, 1024]⟩
abbrev S1x1024 : Shape := ⟨2, ![1, 1024]⟩
abbrev S2x1024x2816 : Shape := ⟨3, ![2, 1024, 2816]⟩
abbrev S2x2816x1024 : Shape := ⟨3, ![2, 2816, 1024]⟩
abbrev S4x1024x8192 : Shape := ⟨3, ![4, 1024, 8192]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x8192x2816 : Shape := ⟨3, ![4, 8192, 2816]⟩
abbrev S1x2816x1024 : Shape := ⟨3, ![1, 2816, 1024]⟩
abbrev S2816x1024 : Shape := ⟨2, ![2816, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4x512x8192, .bf16⟩
  | .hbm, ⟨1, _⟩ => ⟨S4x512x8192, .bf16⟩
  | .hbm, ⟨2, _⟩ => ⟨S1024x1024, .bf16⟩
  | .hbm, ⟨3, _⟩ => ⟨S4x8192x1024, .f32⟩
  | .hbm, ⟨4, _⟩ => ⟨S4x1x1024, .f32⟩
  | .hbm, ⟨5, _⟩ => ⟨S1x1024, .f32⟩
  | .hbm, ⟨6, _⟩ => ⟨S4x1x1024, .f32⟩
  | .hbm, ⟨7, _⟩ => ⟨S4x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S4x1x1024, .f32⟩
  | .hbm, ⟨12, _⟩ => ⟨S4x1024x8192, .bf16⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S1x1024x2816, .bf16⟩
  | .hbm, ⟨42, _⟩ => ⟨S1024x2816, .bf16⟩
  | .hbm, ⟨43, _⟩ => ⟨S1024x2816, .f32⟩
  | .hbm, ⟨44, _⟩ => ⟨S4x8192x2816, .f32⟩
  | .hbm, ⟨45, _⟩ => ⟨S1x1024x2816, .bf16⟩
  | .hbm, ⟨46, _⟩ => ⟨S1024x2816, .bf16⟩
  | .hbm, ⟨47, _⟩ => ⟨S1024x2816, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S_, .f32⟩
  | .hbm, ⟨52, _⟩ => ⟨S4x8192x2816, .f32⟩
  | .hbm, ⟨53, _⟩ => ⟨S4x8192x2816, .f32⟩
  | .hbm, ⟨54, _⟩ => ⟨S_, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S4x8192x2816, .f32⟩
  | .hbm, ⟨59, _⟩ => ⟨S1x2816x1024, .bf16⟩
  | .hbm, ⟨60, _⟩ => ⟨S2816x1024, .bf16⟩
  | .hbm, ⟨61, _⟩ => ⟨S2816x1024, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | _, _ => ⟨S4x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel6.lean ====
abbrev S1x1024x1024 : Shape := ⟨3, ![1, 1024, 1024]⟩
abbrev S16x1024x3584 : Shape := ⟨3, ![16, 1024, 3584]⟩
abbrev S16x3584x1024 : Shape := ⟨3, ![16, 3584, 1024]⟩
abbrev S1x1024x128 : Shape := ⟨3, ![1, 1024, 128]⟩
abbrev S1x1x1024 : Shape := ⟨3, ![1, 1, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S1x1024x1024, .bf16⟩
  | .hbm, ⟨1, _⟩ => ⟨S16x1024x3584, .f32⟩
  | .hbm, ⟨2, _⟩ => ⟨S16x1024x3584, .f32⟩
  | .hbm, ⟨3, _⟩ => ⟨S16x3584x1024, .f32⟩
  | .hbm, ⟨4, _⟩ => ⟨S1x1024x128, .f32⟩
  | .hbm, ⟨5, _⟩ => ⟨S1x1024x1024, .f32⟩
  | .hbm, ⟨6, _⟩ => ⟨S1x1x1024, .f32⟩
  | .hbm, ⟨7, _⟩ => ⟨S1x1024x1024, .f32⟩
  | .local _ .vmem, ⟨0, _⟩ => ⟨S1x1024x1024, .bf16⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x512x1024, .f32⟩
  | .local _ .vmem, ⟨6, _⟩ => ⟨S1x512x1024, .f32⟩
  | .local _ .vmem, ⟨7, _⟩ => ⟨S1x1024x128, .f32⟩
  | .local _ .vmem, ⟨8, _⟩ => ⟨S1x1024x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1024x1024, .f32⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨4, ![1, 1, 8, 7], ![false, false, false, false]⟩

def k0_cond2 (i : grid0.Coords) : BitVec 1 :=
  let arg2 : BitVec 32 := BitVec.ofNat 32 (i 2).val
  let c7_i32 : BitVec 32 := 7#32
  let v3 : BitVec 1 := Scalar.cmpi .eq arg2 c7_i32
  let arg3 : BitVec 32 := BitVec.ofNat 32 (i 3).val
  let c6_i32 : BitVec 32 := 6#32
  let v4 : BitVec 1 := Scalar.cmpi .eq arg3 c6_i32
  let v5 : BitVec 1 := Scalar.andi v3 v4
  let v48 : BitVec 32 := Scalar.extui v5
  let c0_i32_27 : BitVec 32 := 0#32
  let v49 : BitVec 1 := Scalar.cmpi .ne v48 c0_i32_27
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c0_i32_0 : BitVec 32 := 0#32
  let c0_i32_1 : BitVec 32 := 0#32
  ![v0.toNat, c0_i32_0.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c0_i32_0 : BitVec 32 := 0#32
  let c0_i32_1 : BitVec 32 := 0#32
  ![v0.toNat, c0_i32_0.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c0_i32_0 : BitVec 32 := 0#32
  let c0_i32_1 : BitVec 32 := 0#32
  ![v0.toNat, arg3.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true, true]

abbrev stage0_4 : Fin 1 → Memref sig .tc .vmem S1x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false, false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]

abbrev stage0_7 : Fin 1 → Memref sig .tc .vmem S1x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false, false]
-- ==== Reference6Ideal.lean ====
abbrev S1x1024x1024 : Shape := ⟨3, ![1, 1024, 1024]⟩
abbrev S16x1024x3584 : Shape := ⟨3, ![16, 1024, 3584]⟩
abbrev S16x3584x1024 : Shape := ⟨3, ![16, 3584, 1024]⟩
abbrev S1x1024x128 : Shape := ⟨3, ![1, 1024, 128]⟩
abbrev S1x1x1024 : Shape := ⟨3, ![1, 1, 1024]⟩
abbrev S8x1024x3584 : Shape := ⟨3, ![8, 1024, 3584]⟩
abbrev S8x3584x1x1024 : Shape := ⟨4, ![8, 3584, 1, 1024]⟩
abbrev S8x1x1024x3584 : Shape := ⟨4, ![8, 1, 1024, 3584]⟩
abbrev S_ : Shape := ⟨0, ![]⟩
abbrev S8x3584x1024 : Shape := ⟨3, ![8, 3584, 1024]⟩
abbrev S8x1x1024x1024 : Shape := ⟨4, ![8, 1, 1024, 1024]⟩
abbrev S1x1024x8 : Shape := ⟨3, ![1, 1024, 8]⟩
abbrev S8x1x1024 : Shape := ⟨3, ![8, 1, 1024]⟩
abbrev S8x1x1024x1 : Shape := ⟨4, ![8, 1, 1024, 1]⟩

abbrev nBuf : Space → Nat
  | .hbm => 36
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S16x1024x3584, .f32⟩
  | .hbm, ⟨2, _⟩ => ⟨S16x1024x3584, .f32⟩
  | .hbm, ⟨3, _⟩ => ⟨S16x3584x1024, .f32⟩
  | .hbm, ⟨4, _⟩ => ⟨S1x1024x128, .f32⟩
  | .hbm, ⟨5, _⟩ => ⟨S1x1024x1024, .f32⟩
  | .hbm, ⟨6, _⟩ => ⟨S1x1x1024, .f32⟩
  | .hbm, ⟨7, _⟩ => ⟨S1x1024x1024, .f32⟩
  | .hbm, ⟨8, _⟩ => ⟨S8x1024x3584, .f32⟩
  | .hbm, ⟨9, _⟩ => ⟨S8x3584x1x1024, .f32⟩
  | .hbm, ⟨10, _⟩ => ⟨S8x1x1024x3584, .f32⟩
  | .hbm, ⟨11, _⟩ => ⟨S8x1024x3584, .f32⟩
  | .hbm, ⟨12, _⟩ => ⟨S8x3584x1x1024, .f32⟩
  | .hbm, ⟨13, _⟩ => ⟨S8x1x1024x3584, .f32⟩
  | .hbm, ⟨14, _⟩ => ⟨S8x1x1024x3584, .f32⟩
  | .hbm, ⟨15, _⟩ => ⟨S8x1x1024x3584, .f32⟩
  | .hbm, ⟨16, _⟩ => ⟨S_, .f32⟩
  | .hbm, ⟨17, _⟩ => ⟨S8x1x1024x3584, .f32⟩
  | .hbm, ⟨18, _⟩ => ⟨S8x1x1024x3584, .f32⟩
  | .hbm, ⟨19, _⟩ => ⟨S_, .f32⟩
  | .hbm, ⟨20, _⟩ => ⟨S8x1x1024x3584, .f32⟩
  | .hbm, ⟨21, _⟩ => ⟨S8x1x1024x3584, .f32⟩
  | .hbm, ⟨22, _⟩ => ⟨S8x1x1024x3584, .f32⟩
  | .hbm, ⟨23, _⟩ => ⟨S8x1x1024x3584, .f32⟩
  | .hbm, ⟨24, _⟩ => ⟨S8x3584x1024, .f32⟩
  | .hbm, ⟨25, _⟩ => ⟨S8x1x1024x1024, .f32⟩
  | .hbm, ⟨26, _⟩ => ⟨S1x1024x8, .f32⟩
  | .hbm, ⟨27, _⟩ => ⟨S8x1x1024, .f32⟩
  | .hbm, ⟨28, _⟩ => ⟨S8x1x1024x1, .f32⟩
  | .hbm, ⟨29, _⟩ => ⟨S8x1x1024x1024, .f32⟩
  | .hbm, ⟨30, _⟩ => ⟨S8x1x1024x1024, .f32⟩
  | .hbm, ⟨31, _⟩ => ⟨S_, .f32⟩
  | .hbm, ⟨32, _⟩ => ⟨S1x1024x1024, .f32⟩
  | .hbm, ⟨33, _⟩ => ⟨S1x1024x1024, .f32⟩
  | .hbm, ⟨34, _⟩ => ⟨S1x1024x1024, .f32⟩
  | .hbm, ⟨35, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel7.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Attn.Ops.lean ====
/- What one grid point of the attention computes, operation by operation: the loads of a block, the padded queries, the
   weights of a stretch of keys, and the accumulator's update by a stretch of keys, each at an index. -/
module

public import proofs.«01_k».proof.Proof.Gen.KernelIdeal.Value
public import Idealize.ShloMosaic.Lib.Pointwise

@[expose] public section

set_option maxRecDepth 16384

noncomputable section

namespace Cert.Attn

open Cert.KernelIdeal Cert.KernelIdeal.Gen Idealize.ShloMosaic Idealize.ShloMosaic.TcCoe

variable (x0 : Vec Ideal S1x512x256 .bf16) (x1 : Vec Ideal S1x8448x256 .bf16) (x2 : Vec Ideal S1x33x160x256 .bf16) (b : EReal)

/-- The padded queries of key head `kv`: its four query heads side by side in the head's own 64 rows, minus the bound in
    row 128, zero elsewhere. -/
def qpad (kv : Fin 2) (r : Fin 256) (col : Fin 1024) : EReal :=
  if h : 64 * kv.val ≤ r.val ∧ r.val < 64 * kv.val + 64 then
    x0 (ix3 0 ⟨(4 * kv.val + col.val / 256) * 64 + (r.val - 64 * kv.val), by omega⟩ ⟨col.val % 256, by omega⟩)
  else if r.val = 128 then 0 - b else 0

theorem qpad_mem (kv : Fin 2) (r : Fin 256) (col : Fin 1024) (h : 64 * kv.val ≤ r.val ∧ r.val < 64 * kv.val + 64) :
    qpad x0 b kv r col = x0 (ix3 0 ⟨(4 * kv.val + col.val / 256) * 64 + (r.val - 64 * kv.val), by omega⟩ ⟨col.val % 256, by omega⟩) := dif_pos h

theorem qpad_pad (kv : Fin 2) (r : Fin 256) (col : Fin 1024) (h : ¬(64 * kv.val ≤ r.val ∧ r.val < 64 * kv.val + 64)) :
    qpad x0 b kv r col = if r.val = 128 then 0 - b else 0 := dif_neg h

/-- The weight of key `t` for a column of queries: two to the key's product with the padded queries. -/
def weight (kv : Fin 2) (t : ℕ) (col : Fin 1024) : EReal :=
  if h : t < 8448 then Ideal.exp2 (∑ j : Fin 256, x1 (ix3 0 ⟨t, h⟩ j) * qpad x0 b kv j col) else 0

/-- Row `r` of key head `kv`'s values at key `t`. -/
def value (kv : Fin 2) (r : Fin 80) (t : ℕ) : EReal :=
  if h : t < 8448 then x2 (ix4 0 ⟨t / 256, by omega⟩ ⟨80 * kv.val + r.val, by omega⟩ ⟨t % 256, by omega⟩) else 0

/-- The accumulator over the first `n` keys. -/
def accum (kv : Fin 2) (n : ℕ) (r : Fin 80) (col : Fin 1024) : EReal :=
  ∑ t ∈ Finset.range n, value x2 kv r t * weight x0 x1 b kv t col

theorem at3 {δ : Type} {n0 n1 n2 : ℕ} (f : (⟨3, ![n0, n1, n2]⟩ : Shape).Idx → δ) {a a' : Fin n0} {b b' : Fin n1} {c c' : Fin n2} (ha : a = a') (hb : b = b') (hc : c = c') :
    f (ix3 a b c) = f (ix3 a' b' c') := by subst ha hb hc; rfl

theorem at4 {δ : Type} {n0 n1 n2 n3 : ℕ} (f : (⟨4, ![n0, n1, n2, n3]⟩ : Shape).Idx → δ) {a a' : Fin n0} {b b' : Fin n1} {c c' : Fin n2} {d d' : Fin n3}
    (ha : a = a') (hb : b = b') (hc : c = c') (hd : d = d') : f (ix4 a b c d) = f (ix4 a' b' c' d') := by subst ha hb hc hd; rfl

/-! ## Loads of the input blocks -/

/-- A load of a head's 64 rows of the queries. -/
abbrev ldq (a2 : Memref sig .tc .vmem S1x512x256 .bf16) (h2 : a2.IsWhole) (o : ℕ) (inb : ∀ a : Fin 3, ![0, o, 0] a + S1x64x256.size a ≤ S1x512x256.size a) : Vec Ideal S1x64x256 .bf16 :=
  View.readAt (Elt Ideal) a2.view (Rect.unit (s := S1x512x256) ![0, o, 0] S1x64x256.size inb).toLoadRect (h2.unread x0)

theorem ldq_at (a2 : Memref sig .tc .vmem S1x512x256 .bf16) (h2 : a2.IsWhole) (o : ℕ) (inb) (ho : o + 64 ≤ 512) (r : Fin 64) (q : Fin 256) :
    ldq x0 a2 h2 o inb (ix3 0 r q) = x0 (ix3 0 ⟨o + r.val, by omega⟩ q) := by
  unfold ldq
  pointwise [View.readAt_eq_ld, Memref.IsWhole.read_unread]

/-- A load of 2048 keys. -/
abbrev ldk (a3 : Memref sig .tc .vmem S1x8448x256 .bf16) (h3 : a3.IsWhole) (o : ℕ) (inb : ∀ a : Fin 3, ![0, o, 0] a + S1x2048x256.size a ≤ S1x8448x256.size a) : Vec Ideal S1x2048x256 .bf16 :=
  View.readAt (Elt Ideal) a3.view (Rect.unit (s := S1x8448x256) ![0, o, 0] S1x2048x256.size inb).toLoadRect (h3.unread x1)

theorem ldk_at (a3 : Memref sig .tc .vmem S1x8448x256 .bf16) (h3 : a3.IsWhole) (o : ℕ) (inb) (ho : o + 2048 ≤ 8448) (r : Fin 2048) (j : Fin 256) :
    ldk x1 a3 h3 o inb (ix3 0 r j) = x1 (ix3 0 ⟨o + r.val, by omega⟩ j) := by
  unfold ldk
  pointwise [View.readAt_eq_ld, Memref.IsWhole.read_unread]

/-- A load of the last 256 keys. -/
abbrev ldkLast (a3 : Memref sig .tc .vmem S1x8448x256 .bf16) (h3 : a3.IsWhole) (inb : ∀ a : Fin 3, ![0, 8192, 0] a + S1x256x256.size a ≤ S1x8448x256.size a) : Vec Ideal S1x256x256 .bf16 :=
  View.readAt (Elt Ideal) a3.view (Rect.unit (s := S1x8448x256) ![0, 8192, 0] S1x256x256.size inb).toLoadRect (h3.unread x1)

theorem ldkLast_at (a3 : Memref sig .tc .vmem S1x8448x256 .bf16) (h3 : a3.IsWhole) (inb) (r : Fin 256) (j : Fin 256) :
    ldkLast x1 a3 h3 inb (ix3 0 r j) = x1 (ix3 0 ⟨8192 + r.val, by omega⟩ j) := by
  unfold ldkLast
  pointwise [View.readAt_eq_ld, Memref.IsWhole.read_unread]

/-- A load of a head's rows of a chunk of 256 values. -/
abbrev ldv (a4 : Memref sig .tc .vmem S1x33x160x256 .bf16) (h4 : a4.IsWhole) (n o : ℕ) (inb : ∀ a : Fin 4, ![0, n, o, 0] a + S1x1x80x256.size a ≤ S1x33x160x256.size a) : Vec Ideal S1x1x80x256 .bf16 :=
  View.readAt (Elt Ideal) a4.view (Rect.unit (s := S1x33x160x256) ![0, n, o, 0] S1x1x80x256.size inb).toLoadRect (h4.unread x2)

theorem ldv_at (a4 : Memref sig .tc .vmem S1x33x160x256 .bf16) (h4 : a4.IsWhole) (n o : ℕ) (inb) (hn : n < 33) (ho : o + 80 ≤ 160) (r : Fin 80) (k : Fin 256) :
    ldv x2 a4 h4 n o inb (ix4 0 0 r k) = x2 (ix4 0 ⟨n, hn⟩ ⟨o + r.val, by omega⟩ k) := by
  unfold ldv
  pointwise [View.readAt_eq_ld, Memref.IsWhole.read_unread]

/-- The load of the bound. -/
abbrev ldb (x4 : Vec Ideal S1 .f32) (a6 : Memref sig .tc .smem S1 .f32) (h6 : a6.IsWhole) (inb : ∀ a : Fin 1, ![0] a + S1.size a ≤ S1.size a) (h : 0 < (Rect.unit (s := S1) ![0] S1.size inb).shape.numel) : EReal :=
  View.readAt (Elt Ideal) a6.view (Rect.unit (s := S1) ![0] S1.size inb).toLoadRect (h6.unread x4) (Shape.Idx.first h)

theorem ldb_at (x4 : Vec Ideal S1 .f32) (a6 : Memref sig .tc .smem S1 .f32) (h6 : a6.IsWhole) (inb) (h) : ldb x4 a6 h6 inb h = x4 (ix1 0) := by
  unfold ldb
  pointwise [View.readAt_eq_ld, Memref.IsWhole.read_unread]

/-- The word of an iota compared with zero selects row 0. -/
theorem select_row (n : ℕ) (h : n < 128) (x y : EReal) :
    Scalar.select (IntOp.cmpi CmpIPredicate.eq (BitVec.ofNat 32 n) 0#32) x y = if n = 0 then x else y := by
  have : BitVec.ofNat 32 n = 0#32 ↔ n = 0 := by
    constructor
    · intro e; have := congrArg BitVec.toNat e; simp at this; omega
    · rintro rfl; rfl
  by_cases hn : n = 0
  · subst hn; rfl
  · have e : IntOp.cmpi CmpIPredicate.eq (BitVec.ofNat 32 n) 0#32 = 0#1 := by
      simp only [IntOp.cmpi, show (BitVec.ofNat 32 n == 0#32) = false from beq_eq_false_iff_ne.2 (mt this.1 hn)]; rfl
    rw [if_neg hn, e]; rfl

/-- The padded queries of key head 0, as the kernel lays them out. -/
theorem qpad0_at (a2 : Memref sig .tc .vmem S1x512x256 .bf16) (h2 : a2.IsWhole) (i0 i1 i2 i3) (a : Fin 1) (r : Fin 256) (col : Fin 1024) :
    k0_pay5 (F := Ideal) b (ldq x0 a2 h2 0 i0) (ldq x0 a2 h2 64 i1) (ldq x0 a2 h2 128 i2) (ldq x0 a2 h2 192 i3) (ix3 a r col) = qpad x0 b 0 r col := by
  have e0 := ldq_at x0 a2 h2 0 i0 (by omega)
  have e1 := ldq_at x0 a2 h2 64 i1 (by omega)
  have e2 := ldq_at x0 a2 h2 128 i2 (by omega)
  have e3 := ldq_at x0 a2 h2 192 i3 (by omega)
  generalize ldq x0 a2 h2 0 i0 = q0 at *
  generalize ldq x0 a2 h2 64 i1 = q1 at *
  generalize ldq x0 a2 h2 128 i2 = q2 at *
  generalize ldq x0 a2 h2 192 i3 = q3 at *
  pointwise [k0_pay5, k0_pay4, k0_pay3]
  rw [select_row _ (by omega)]
  simp only [e0, e1, e2, e3]
  by_cases hr : r.val < 64
  · rw [dif_pos hr, qpad_mem x0 b 0 r col (by simp only [Fin.val_zero]; omega)]
    simp only [Fin.val_zero]
    split_ifs <;> (refine at3 x0 rfl (Fin.ext ?_) (Fin.ext ?_) <;> dsimp only <;> omega)
  · rw [dif_neg hr, qpad_pad x0 b 0 r col (by simp only [Fin.val_zero]; omega)]
    split_ifs <;> first | rfl | omega

/-- The padded queries of key head 1. -/
theorem qpad1_at (a2 : Memref sig .tc .vmem S1x512x256 .bf16) (h2 : a2.IsWhole) (i0 i1 i2 i3) (a : Fin 1) (r : Fin 256) (col : Fin 1024) :
    k0_pay8 (F := Ideal) k0_pay3 (k0_pay4 b) (k0_pay7 (ldq x0 a2 h2 256 i0)) (ldq x0 a2 h2 320 i1) (ldq x0 a2 h2 384 i2) (ldq x0 a2 h2 448 i3) (ix3 a r col) = qpad x0 b 1 r col := by
  have e0 := ldq_at x0 a2 h2 256 i0 (by omega)
  have e1 := ldq_at x0 a2 h2 320 i1 (by omega)
  have e2 := ldq_at x0 a2 h2 384 i2 (by omega)
  have e3 := ldq_at x0 a2 h2 448 i3 (by omega)
  generalize ldq x0 a2 h2 256 i0 = q0 at *
  generalize ldq x0 a2 h2 320 i1 = q1 at *
  generalize ldq x0 a2 h2 384 i2 = q2 at *
  generalize ldq x0 a2 h2 448 i3 = q3 at *
  pointwise [k0_pay8, k0_pay7, k0_pay4, k0_pay3]
  rw [select_row _ (by omega)]
  simp only [e0, e1, e2, e3]
  by_cases hr : r.val < 64
  · rw [dif_pos hr, qpad_pad x0 b 1 r col (by simp only [Fin.val_one]; omega), if_neg (by omega)]
  by_cases hr' : r.val - 64 < 64
  · rw [dif_neg hr, dif_pos hr', qpad_mem x0 b 1 r col (by simp only [Fin.val_one]; omega)]
    simp only [Fin.val_one]
    split_ifs <;> (refine at3 x0 rfl (Fin.ext ?_) (Fin.ext ?_) <;> dsimp only <;> omega)
  · rw [dif_neg hr, dif_neg hr', qpad_pad x0 b 1 r col (by simp only [Fin.val_one]; omega)]
    split_ifs <;> first | rfl | omega

/-- The weights of 2048 keys from key `o` on. -/
theorem probs8_at (kv : Fin 2) (a3 : Memref sig .tc .vmem S1x8448x256 .bf16) (h3 : a3.IsWhole) (o : ℕ) (inb) (ho : o + 2048 ≤ 8448)
    (qa : Vec Ideal S1x256x1024 .bf16) (hqa : ∀ j col, qa (ix3 0 j col) = qpad x0 b kv j col) (a c : Fin 1) (key : Fin 2048) (col : Fin 1024) :
    k0_pay11 (F := Ideal) (ldk x1 a3 h3 o inb) qa (ix4 a c key col) = weight x0 x1 b kv (o + key.val) col := by
  have e := ldk_at x1 a3 h3 o inb ho
  generalize ldk x1 a3 h3 o inb = k at *
  pointwise [k0_pay11, k0_pay10]
  simp only [e, hqa, weight, dif_pos (show o + key.val < 8448 by omega)]
  rfl

/-- The weights of the last 256 keys. -/
theorem probs1_at (kv : Fin 2) (a3 : Memref sig .tc .vmem S1x8448x256 .bf16) (h3 : a3.IsWhole) (inb)
    (qa : Vec Ideal S1x256x1024 .bf16) (hqa : ∀ j col, qa (ix3 0 j col) = qpad x0 b kv j col) (a c : Fin 1) (key : Fin 256) (col : Fin 1024) :
    k0_pay59 (F := Ideal) (ldkLast x1 a3 h3 inb) qa (ix4 a c key col) = weight x0 x1 b kv (8192 + key.val) col := by
  have e := ldkLast_at x1 a3 h3 inb
  generalize ldkLast x1 a3 h3 inb = k at *
  pointwise [k0_pay59, k0_pay58]
  simp only [e, hqa, weight, dif_pos (show 8192 + key.val < 8448 by omega)]
  rfl

/-- The accumulator's update by eight chunks of 256 keys, from chunk `n` on. -/
theorem update8_at (kv : Fin 2) (n o : ℕ) (hn : n + 8 ≤ 33) (ho : o = 80 * kv.val) (a4 : Memref sig .tc .vmem S1x33x160x256 .bf16) (h4 : a4.IsWhole)
    (i0 i1 i2 i3 i4 i5 i6 i7) (acc : Vec Ideal S1x80x1024 .f32) (hacc : ∀ r col, acc (ix3 0 r col) = accum x0 x1 x2 b kv (256 * n) r col)
    (p : Vec Ideal S1x1x2048x1024 .bf16) (hp : ∀ key col, p (ix4 0 0 key col) = weight x0 x1 b kv (256 * n + key.val) col)
    (a : Fin 1) (r : Fin 80) (col : Fin 1024) :
    k0_pay50 (F := Ideal) (k0_pay49 (ldv x2 a4 h4 n o i0) (ldv x2 a4 h4 (n + 1) o i1) (ldv x2 a4 h4 (n + 2) o i2) (ldv x2 a4 h4 (n + 3) o i3)
      (ldv x2 a4 h4 (n + 4) o i4) (ldv x2 a4 h4 (n + 5) o i5) (ldv x2 a4 h4 (n + 6) o i6) (ldv x2 a4 h4 (n + 7) o i7)) acc p (ix3 a r col)
      = accum x0 x1 x2 b kv (256 * (n + 8)) r col := by
  have e0 := ldv_at x2 a4 h4 n o i0 (by omega) (by omega)
  have e1 := ldv_at x2 a4 h4 (n + 1) o i1 (by omega) (by omega)
  have e2 := ldv_at x2 a4 h4 (n + 2) o i2 (by omega) (by omega)
  have e3 := ldv_at x2 a4 h4 (n + 3) o i3 (by omega) (by omega)
  have e4 := ldv_at x2 a4 h4 (n + 4) o i4 (by omega) (by omega)
  have e5 := ldv_at x2 a4 h4 (n + 5) o i5 (by omega) (by omega)
  have e6 := ldv_at x2 a4 h4 (n + 6) o i6 (by omega) (by omega)
  have e7 := ldv_at x2 a4 h4 (n + 7) o i7 (by omega) (by omega)
  generalize ldv x2 a4 h4 n o i0 = v0 at *
  generalize ldv x2 a4 h4 (n + 1) o i1 = v1 at *
  generalize ldv x2 a4 h4 (n + 2) o i2 = v2 at *
  generalize ldv x2 a4 h4 (n + 3) o i3 = v3 at *
  generalize ldv x2 a4 h4 (n + 4) o i4 = v4 at *
  generalize ldv x2 a4 h4 (n + 5) o i5 = v5 at *
  generalize ldv x2 a4 h4 (n + 6) o i6 = v6 at *
  generalize ldv x2 a4 h4 (n + 7) o i7 = v7 at *
  pointwise [k0_pay50, k0_pay49]
  rw [hacc, accum, accum, show 256 * (n + 8) = 256 * n + 2048 by omega, Finset.sum_range_add, Finset.sum_range (n := 2048)]
  refine congrArg _ (Finset.sum_congr rfl fun x _ => ?_)
  rw [hp]
  refine congrArg (· * _) ?_
  have hx := x.isLt
  simp only [e0, e1, e2, e3, e4, e5, e6, e7, value, dif_pos (show 256 * n + x.val < 8448 by omega)]
  split_ifs <;> (refine at4 x2 rfl (Fin.ext ?_) (Fin.ext ?_) (Fin.ext ?_) <;> dsimp only <;> omega)

/-- The accumulator's update by the last chunk. -/
theorem update1_at (kv : Fin 2) (o : ℕ) (ho : o = 80 * kv.val) (a4 : Memref sig .tc .vmem S1x33x160x256 .bf16) (h4 : a4.IsWhole)
    (i0) (acc : Vec Ideal S1x80x1024 .f32) (hacc : ∀ r col, acc (ix3 0 r col) = accum x0 x1 x2 b kv 8192 r col)
    (p : Vec Ideal S1x1x256x1024 .bf16) (hp : ∀ key col, p (ix4 0 0 key col) = weight x0 x1 b kv (8192 + key.val) col)
    (a : Fin 1) (r : Fin 80) (col : Fin 1024) :
    k0_pay72 (F := Ideal) (ldv x2 a4 h4 32 o i0) acc p (ix3 a r col) = accum x0 x1 x2 b kv 8448 r col := by
  have e0 := ldv_at x2 a4 h4 32 o i0 (by omega) (by omega)
  generalize ldv x2 a4 h4 32 o i0 = v0 at *
  pointwise [k0_pay72]
  rw [hacc, accum, accum, show 8448 = 8192 + 256 by omega, Finset.sum_range_add, Finset.sum_range (n := 256)]
  refine congrArg _ (Finset.sum_congr rfl fun x _ => ?_)
  rw [hp]
  refine congrArg (· * _) ?_
  have hx := x.isLt
  simp only [e0, value, dif_pos (show 8192 + x.val < 8448 by omega)]
  refine at4 x2 rfl (Fin.ext ?_) (Fin.ext ?_) (Fin.ext ?_) <;> dsimp only <;> omega

/-- The accumulator starts at zero. -/
theorem zero_at (kv : Fin 2) (a : Fin 1) (r : Fin 80) (col : Fin 1024) : k0_pay6 (F := Ideal) (ix3 a r col) = accum x0 x1 x2 b kv (256 * 0) r col := by
  pointwise [k0_pay6]
  simp [accum]

end Cert.Attn
end
-- ==== Proof.Attn.Reads.lean ====
/- What each load of the three scratch buffers reads in one grid point: the padded queries, the weights of a stretch of
   keys, and the accumulator after each stretch. -/
module

public import proofs.«01_k».proof.Proof.Attn.Ops
public import Idealize.ShloMosaic.Lib.Pipeline.ReadBack

@[expose] public section

set_option maxRecDepth 16384

noncomputable section

namespace Cert.Attn

open Cert.KernelIdeal Cert.KernelIdeal.Gen Idealize.ShloMosaic Idealize.ShloMosaic.TcCoe
open kernelRun0_A

variable (c : Dev nD) (a2 : Memref sig .tc .vmem S1x512x256 .bf16) (h2 : a2.IsWhole) (a3 : Memref sig .tc .vmem S1x8448x256 .bf16) (h3 : a3.IsWhole)
  (a4 : Memref sig .tc .vmem S1x33x160x256 .bf16) (h4 : a4.IsWhole) (a6 : Memref sig .tc .smem S1 .f32) (h6 : a6.IsWhole)
  (a8 : Memref sig .tc .vmem S2x256x1024 .bf16) (a9 : Memref sig .tc .vmem S2x80x1024 .f32) (a10 : Memref sig .tc .vmem S2x2x2048x1024 .bf16)
  (x0 : Vec Ideal S1x512x256 .bf16) (x1 : Vec Ideal S1x8448x256 .bf16) (x2 : Vec Ideal S1x33x160x256 .bf16) (x4 : Vec Ideal S1 .f32)

/-! ## The padded queries -/

theorem queries0 (j : Fin 256) (col : Fin 1024) : sl.v46 c a2 h2 a6 h6 a8 x0 x4 (ix3 0 j col) = qpad x0 (x4 (ix1 0)) 0 j col := by
  unfold sl.v46 sl.HS0_2
  simp (disch := decide) only [View.readCov_skip, View.readCov_cons_toLoadRect]
  exact (qpad0_at x0 _ a2 h2 _ _ _ _ 0 j col).trans
    (congrArg (qpad x0 · 0 j col) (ldb_at x4 a6 h6 _ _))

theorem queries1 (j : Fin 256) (col : Fin 1024) : sl.v54 c a2 h2 a6 h6 a8 x0 x4 (ix3 0 j col) = qpad x0 (x4 (ix1 0)) 1 j col := by
  unfold sl.v54 sl.HS0_2
  simp (disch := decide) only [View.readCov_skip, View.readCov_cons_toLoadRect]
  exact (qpad1_at x0 _ a2 h2 _ _ _ _ 0 j col).trans
    (congrArg (qpad x0 · 1 j col) (ldb_at x4 a6 h6 _ _))

/-! ## The weights -/

theorem weights0_0 (key : Fin 2048) (col : Fin 1024) :
    sl.v120 c a2 h2 a3 h3 a6 h6 a8 a10 x0 x1 x4 (ix4 0 0 key col) = weight x0 x1 (x4 (ix1 0)) 0 (256 * 0 + key.val) col := by
  unfold sl.v120 sl.HS2_4
  simp (disch := decide) only [View.readCov_skip, View.readCov_cons_toLoadRect]
  exact probs8_at x0 x1 _ 0 a3 h3 0 _ (by omega) _ (queries0 c a2 h2 a6 h6 a8 x0 x4) 0 0 key col

theorem weights1_0 (key : Fin 2048) (col : Fin 1024) :
    sl.v162 c a2 h2 a3 h3 a6 h6 a8 a10 x0 x1 x4 (ix4 0 0 key col) = weight x0 x1 (x4 (ix1 0)) 1 (256 * 0 + key.val) col := by
  unfold sl.v162 sl.HS2_4
  simp (disch := decide) only [View.readCov_skip, View.readCov_cons_toLoadRect]
  exact probs8_at x0 x1 _ 1 a3 h3 0 _ (by omega) _ (queries1 c a2 h2 a6 h6 a8 x0 x4) 0 0 key col

theorem weights0_8 (key : Fin 2048) (col : Fin 1024) :
    sl.v227 c a2 h2 a3 h3 a6 h6 a8 a10 x0 x1 x4 (ix4 0 0 key col) = weight x0 x1 (x4 (ix1 0)) 0 (256 * 8 + key.val) col := by
  unfold sl.v227 sl.HS2_6 sl.HS2_4
  simp (disch := decide) only [View.readCov_skip, View.readCov_cons_toLoadRect]
  exact probs8_at x0 x1 _ 0 a3 h3 2048 _ (by omega) _ (queries0 c a2 h2 a6 h6 a8 x0 x4) 0 0 key col

theorem weights1_8 (key : Fin 2048) (col : Fin 1024) :
    sl.v269 c a2 h2 a3 h3 a6 h6 a8 a10 x0 x1 x4 (ix4 0 0 key col) = weight x0 x1 (x4 (ix1 0)) 1 (256 * 8 + key.val) col := by
  unfold sl.v269 sl.HS2_6 sl.HS2_4
  simp (disch := decide) only [View.readCov_skip, View.readCov_cons_toLoadRect]
  exact probs8_at x0 x1 _ 1 a3 h3 2048 _ (by omega) _ (queries1 c a2 h2 a6 h6 a8 x0 x4) 0 0 key col

theorem weights0_16 (key : Fin 2048) (col : Fin 1024) :
    sl.v313 c a2 h2 a3 h3 a6 h6 a8 a10 x0 x1 x4 (ix4 0 0 key col) = weight x0 x1 (x4 (ix1 0)) 0 (256 * 16 + key.val) col := by
  unfold sl.v313 sl.HS2_8 sl.HS2_6
  simp (disch := decide) only [View.readCov_skip, View.readCov_cons_toLoadRect]
  exact probs8_at x0 x1 _ 0 a3 h3 4096 _ (by omega) _ (queries0 c a2 h2 a6 h6 a8 x0 x4) 0 0 key col

theorem weights1_16 (key : Fin 2048) (col : Fin 1024) :
    sl.v339 c a2 h2 a3 h3 a6 h6 a8 a10 x0 x1 x4 (ix4 0 0 key col) = weight x0 x1 (x4 (ix1 0)) 1 (256 * 16 + key.val) col := by
  unfold sl.v339 sl.HS2_8 sl.HS2_6
  simp (disch := decide) only [View.readCov_skip, View.readCov_cons_toLoadRect]
  exact probs8_at x0 x1 _ 1 a3 h3 4096 _ (by omega) _ (queries1 c a2 h2 a6 h6 a8 x0 x4) 0 0 key col

theorem weights0_24 (key : Fin 2048) (col : Fin 1024) :
    sl.v383 c a2 h2 a3 h3 a6 h6 a8 a10 x0 x1 x4 (ix4 0 0 key col) = weight x0 x1 (x4 (ix1 0)) 0 (256 * 24 + key.val) col := by
  unfold sl.v383 sl.HS2_10 sl.HS2_9 sl.HS2_8
  simp (disch := decide) only [View.readCov_skip, View.readCov_cons_toLoadRect]
  exact probs8_at x0 x1 _ 0 a3 h3 6144 _ (by omega) _ (queries0 c a2 h2 a6 h6 a8 x0 x4) 0 0 key col

theorem weights1_24 (key : Fin 2048) (col : Fin 1024) :
    sl.v409 c a2 h2 a3 h3 a6 h6 a8 a10 x0 x1 x4 (ix4 0 0 key col) = weight x0 x1 (x4 (ix1 0)) 1 (256 * 24 + key.val) col := by
  unfold sl.v409 sl.HS2_10 sl.HS2_9 sl.HS2_8
  simp (disch := decide) only [View.readCov_skip, View.readCov_cons_toLoadRect]
  exact probs8_at x0 x1 _ 1 a3 h3 6144 _ (by omega) _ (queries1 c a2 h2 a6 h6 a8 x0 x4) 0 0 key col

theorem weights0_32 (key : Fin 256) (col : Fin 1024) :
    sl.v420 c a2 h2 a3 h3 a6 h6 a8 a10 x0 x1 x4 (ix4 0 0 key col) = weight x0 x1 (x4 (ix1 0)) 0 (8192 + key.val) col := by
  unfold sl.v420 sl.HS2_10 sl.HS2_9
  simp (disch := decide) only [View.readCov_skip, View.readCov_cons_toLoadRect]
  exact probs1_at x0 x1 _ 0 a3 h3 _ _ (queries0 c a2 h2 a6 h6 a8 x0 x4) 0 0 key col

theorem weights1_32 (key : Fin 256) (col : Fin 1024) :
    sl.v431 c a2 h2 a3 h3 a6 h6 a8 a10 x0 x1 x4 (ix4 0 0 key col) = weight x0 x1 (x4 (ix1 0)) 1 (8192 + key.val) col := by
  unfold sl.v431 sl.HS2_10
  simp (disch := decide) only [View.readCov_skip, View.readCov_cons_toLoadRect]
  exact probs1_at x0 x1 _ 1 a3 h3 _ _ (queries1 c a2 h2 a6 h6 a8 x0 x4) 0 0 key col

/-! ## The accumulator -/

theorem acc0_0 (r : Fin 80) (col : Fin 1024) : sl.v118 c a9 (F := Ideal) (ix3 0 r col) = accum x0 x1 x2 (x4 (ix1 0)) 0 (256 * 0) r col := by
  unfold sl.v118 sl.HS1_2
  simp (disch := decide) only [View.readCov_skip, View.readCov_cons_toLoadRect]
  exact zero_at x0 x1 x2 _ 0 0 r col

theorem acc1_0 (r : Fin 80) (col : Fin 1024) :
    sl.v160 c a2 h2 a3 h3 a4 h4 a6 h6 a8 a9 a10 x0 x1 x2 x4 (ix3 0 r col) = accum x0 x1 x2 (x4 (ix1 0)) 1 (256 * 0) r col := by
  unfold sl.v160 sl.HS1_3 sl.HS1_2
  simp (disch := decide) only [View.readCov_skip, View.readCov_cons_toLoadRect]
  exact zero_at x0 x1 x2 _ 1 0 r col

theorem acc0_8 (r : Fin 80) (col : Fin 1024) :
    sl.v225 c a2 h2 a3 h3 a4 h4 a6 h6 a8 a9 a10 x0 x1 x2 x4 (ix3 0 r col) = accum x0 x1 x2 (x4 (ix1 0)) 0 (256 * 8) r col := by
  unfold sl.v225 sl.HS1_4 sl.HS1_3
  simp (disch := decide) only [View.readCov_skip, View.readCov_cons_toLoadRect]
  exact update8_at x0 x1 x2 _ 0 0 0 (by omega) rfl a4 h4 _ _ _ _ _ _ _ _ _ (acc0_0 c a9 x0 x1 x2 x4) _
    (weights0_0 c a2 h2 a3 h3 a6 h6 a8 a10 x0 x1 x4) 0 r col

theorem acc1_8 (r : Fin 80) (col : Fin 1024) :
    sl.v267 c a2 h2 a3 h3 a4 h4 a6 h6 a8 a9 a10 x0 x1 x2 x4 (ix3 0 r col) = accum x0 x1 x2 (x4 (ix1 0)) 1 (256 * 8) r col := by
  unfold sl.v267 sl.HS1_5 sl.HS1_4
  simp (disch := decide) only [View.readCov_skip, View.readCov_cons_toLoadRect]
  exact update8_at x0 x1 x2 _ 1 0 80 (by omega) rfl a4 h4 _ _ _ _ _ _ _ _ _ (acc1_0 c a2 h2 a3 h3 a4 h4 a6 h6 a8 a9 a10 x0 x1 x2 x4) _
    (weights1_0 c a2 h2 a3 h3 a6 h6 a8 a10 x0 x1 x4) 0 r col

theorem acc0_16 (r : Fin 80) (col : Fin 1024) :
    sl.v311 c a2 h2 a3 h3 a4 h4 a6 h6 a8 a9 a10 x0 x1 x2 x4 (ix3 0 r col) = accum x0 x1 x2 (x4 (ix1 0)) 0 (256 * 16) r col := by
  unfold sl.v311 sl.HS1_6 sl.HS1_5
  simp (disch := decide) only [View.readCov_skip, View.readCov_cons_toLoadRect]
  exact update8_at x0 x1 x2 _ 0 8 0 (by omega) rfl a4 h4 _ _ _ _ _ _ _ _ _ (acc0_8 c a2 h2 a3 h3 a4 h4 a6 h6 a8 a9 a10 x0 x1 x2 x4) _
    (weights0_8 c a2 h2 a3 h3 a6 h6 a8 a10 x0 x1 x4) 0 r col

theorem acc1_16 (r : Fin 80) (col : Fin 1024) :
    sl.v337 c a2 h2 a3 h3 a4 h4 a6 h6 a8 a9 a10 x0 x1 x2 x4 (ix3 0 r col) = accum x0 x1 x2 (x4 (ix1 0)) 1 (256 * 16) r col := by
  unfold sl.v337 sl.HS1_7 sl.HS1_6
  simp (disch := decide) only [View.readCov_skip, View.readCov_cons_toLoadRect]
  exact update8_at x0 x1 x2 _ 1 8 80 (by omega) rfl a4 h4 _ _ _ _ _ _ _ _ _ (acc1_8 c a2 h2 a3 h3 a4 h4 a6 h6 a8 a9 a10 x0 x1 x2 x4) _
    (weights1_8 c a2 h2 a3 h3 a6 h6 a8 a10 x0 x1 x4) 0 r col

theorem acc0_24 (r : Fin 80) (col : Fin 1024) :
    sl.v381 c a2 h2 a3 h3 a4 h4 a6 h6 a8 a9 a10 x0 x1 x2 x4 (ix3 0 r col) = accum x0 x1 x2 (x4 (ix1 0)) 0 (256 * 24) r col := by
  unfold sl.v381 sl.HS1_8 sl.HS1_7
  simp (disch := decide) only [View.readCov_skip, View.readCov_cons_toLoadRect]
  exact update8_at x0 x1 x2 _ 0 16 0 (by omega) rfl a4 h4 _ _ _ _ _ _ _ _ _ (acc0_16 c a2 h2 a3 h3 a4 h4 a6 h6 a8 a9 a10 x0 x1 x2 x4) _
    (weights0_16 c a2 h2 a3 h3 a6 h6 a8 a10 x0 x1 x4) 0 r col

theorem acc1_24 (r : Fin 80) (col : Fin 1024) :
    sl.v407 c a2 h2 a3 h3 a4 h4 a6 h6 a8 a9 a10 x0 x1 x2 x4 (ix3 0 r col) = accum x0 x1 x2 (x4 (ix1 0)) 1 (256 * 24) r col := by
  unfold sl.v407 sl.HS1_9 sl.HS1_8
  simp (disch := decide) only [View.readCov_skip, View.readCov_cons_toLoadRect]
  exact update8_at x0 x1 x2 _ 1 16 80 (by omega) rfl a4 h4 _ _ _ _ _ _ _ _ _ (acc1_16 c a2 h2 a3 h3 a4 h4 a6 h6 a8 a9 a10 x0 x1 x2 x4) _
    (weights1_16 c a2 h2 a3 h3 a6 h6 a8 a10 x0 x1 x4) 0 r col

theorem acc0_32 (r : Fin 80) (col : Fin 1024) :
    sl.v418 c a2 h2 a3 h3 a4 h4 a6 h6 a8 a9 a10 x0 x1 x2 x4 (ix3 0 r col) = accum x0 x1 x2 (x4 (ix1 0)) 0 8192 r col := by
  unfold sl.v418 sl.HS1_10 sl.HS1_9
  simp (disch := decide) only [View.readCov_skip, View.readCov_cons_toLoadRect]
  exact update8_at x0 x1 x2 _ 0 24 0 (by omega) rfl a4 h4 _ _ _ _ _ _ _ _ _ (acc0_24 c a2 h2 a3 h3 a4 h4 a6 h6 a8 a9 a10 x0 x1 x2 x4) _
    (weights0_24 c a2 h2 a3 h3 a6 h6 a8 a10 x0 x1 x4) 0 r col

theorem acc1_32 (r : Fin 80) (col : Fin 1024) :
    sl.v429 c a2 h2 a3 h3 a4 h4 a6 h6 a8 a9 a10 x0 x1 x2 x4 (ix3 0 r col) = accum x0 x1 x2 (x4 (ix1 0)) 1 8192 r col := by
  unfold sl.v429 sl.HS1_11 sl.HS1_10
  simp (disch := decide) only [View.readCov_skip, View.readCov_cons_toLoadRect]
  exact update8_at x0 x1 x2 _ 1 24 80 (by omega) rfl a4 h4 _ _ _ _ _ _ _ _ _ (acc1_24 c a2 h2 a3 h3 a4 h4 a6 h6 a8 a9 a10 x0 x1 x2 x4) _
    (weights1_24 c a2 h2 a3 h3 a6 h6 a8 a10 x0 x1 x4) 0 r col

/-- After the last stretch head 0's accumulator holds the sums over every key. -/
theorem acc0_all (r : Fin 80) (col : Fin 1024) :
    sl.v438 c a2 h2 a3 h3 a4 h4 a6 h6 a8 a9 a10 x0 x1 x2 x4 (ix3 0 r col) = accum x0 x1 x2 (x4 (ix1 0)) 0 8448 r col := by
  unfold sl.v438 sl.HS1_12 sl.HS1_11
  simp (disch := decide) only [View.readCov_skip, View.readCov_cons_toLoadRect]
  exact update1_at x0 x1 x2 _ 0 0 rfl a4 h4 _ _ (acc0_32 c a2 h2 a3 h3 a4 h4 a6 h6 a8 a9 a10 x0 x1 x2 x4) _
    (weights0_32 c a2 h2 a3 h3 a6 h6 a8 a10 x0 x1 x4) 0 r col

/-- After the last stretch head 1's accumulator holds the sums over every key. -/
theorem acc1_all (r : Fin 80) (col : Fin 1024) :
    sl.v466 c a2 h2 a3 h3 a4 h4 a6 h6 a8 a9 a10 x0 x1 x2 x4 (ix3 0 r col) = accum x0 x1 x2 (x4 (ix1 0)) 1 8448 r col := by
  unfold sl.v466 sl.HS1_12
  simp (disch := decide) only [View.readCov_skip, View.readCov_cons_toLoadRect]
  exact update1_at x0 x1 x2 _ 1 80 rfl a4 h4 _ _ (acc1_32 c a2 h2 a3 h3 a4 h4 a6 h6 a8 a9 a10 x0 x1 x2 x4) _
    (weights1_32 c a2 h2 a3 h3 a6 h6 a8 a10 x0 x1 x4) 0 r col

end Cert.Attn
end
-- ==== Proof.Attn.Block.lean ====
/- What one grid point leaves in the output's block: at row `64 * h + d` and column `q` the weighted sum of head `h`'s
   value channel `d` over every key, divided by the sum of the weights. -/
module

public import proofs.«01_k».proof.Proof.Attn.Reads

@[expose] public section

set_option maxRecDepth 16384

noncomputable section

namespace Cert.Attn

open Cert.KernelIdeal Cert.KernelIdeal.Gen Idealize.ShloMosaic Idealize.ShloMosaic.TcCoe
open kernelRun0_A

variable (x0 : Vec Ideal S1x512x256 .bf16) (x1 : Vec Ideal S1x8448x256 .bf16) (x2 : Vec Ideal S1x33x160x256 .bf16) (b : EReal)

/-- The weighted sum of channel `d` divided by the accumulator's row 64. -/
def outAt (kv : Fin 2) (d : Fin 64) (col : Fin 1024) : EReal :=
  accum x0 x1 x2 b kv 8448 ⟨d.val, by omega⟩ col * Ideal.div 1 (accum x0 x1 x2 b kv 8448 64 col)

/-- The output block, index by index: row `256 * kv + 64 * g + d`, column `q`. -/
def block (y : S1x512x256.Idx) : EReal :=
  outAt x0 x1 x2 b ⟨(y 1).val / 256, by have h : (y 1).val < 512 := (y 1).isLt; omega⟩ ⟨(y 1).val % 64, by omega⟩
    ⟨256 * ((y 1).val / 64 % 4) + (y 2).val, by have h : (y 2).val < 256 := (y 2).isLt; omega⟩

theorem block_of (kv : Fin 2) (g : Fin 4) (d : Fin 64) (q : Fin 256) (y : S1x512x256.Idx)
    (h1 : (y 1).val = 256 * kv.val + 64 * g.val + d.val) (h2 : (y 2).val = q.val) :
    block x0 x1 x2 b y = outAt x0 x1 x2 b kv d ⟨256 * g.val + q.val, by omega⟩ := by
  unfold block
  congr 1 <;> apply Fin.ext <;> dsimp only <;> omega

/-- The quotient that is written back, read at one index. -/
theorem quotient_at (kv : Fin 2) (v : Vec Ideal S1x80x1024 .f32) (hv : ∀ r col, v (ix3 0 r col) = accum x0 x1 x2 b kv 8448 r col)
    (d : Fin 64) (col : Fin 1024) : k0_pay74 v (ix2 d col) = outAt x0 x1 x2 b kv d col := by
  unfold outAt
  rw [← hv, ← hv]
  pointwise [k0_pay74]
  done

/-- A group's columns of the quotient, as they are stored: the four groups of the first head. -/
theorem stored0_at (v : Vec Ideal S1x80x1024 .f32) (hv : ∀ r col, v (ix3 0 r col) = accum x0 x1 x2 b 0 8448 r col)
    (a : Fin 1) (d : Fin 64) (q : Fin 256) :
    k0_pay75 v (ix3 a d q) = outAt x0 x1 x2 b 0 d ⟨256 * 0 + q.val, by omega⟩
    ∧ k0_pay76 v (ix3 a d q) = outAt x0 x1 x2 b 0 d ⟨256 * 1 + q.val, by omega⟩
    ∧ k0_pay77 v (ix3 a d q) = outAt x0 x1 x2 b 0 d ⟨256 * 2 + q.val, by omega⟩
    ∧ k0_pay78 (k0_pay74 v) (ix3 a d q) = outAt x0 x1 x2 b 0 d ⟨256 * 3 + q.val, by omega⟩ := by
  have key := quotient_at x0 x1 x2 b 0 v hv
  refine ⟨?_, ?_, ?_, ?_⟩
  · pointwise [k0_pay75]
    exact key _ _
  · pointwise [k0_pay76]
    exact key _ _
  · pointwise [k0_pay77]
    exact key _ _
  · pointwise [k0_pay78]
    exact key _ _

/-- … and of the second head. -/
theorem stored1_at (v : Vec Ideal S1x80x1024 .f32) (hv : ∀ r col, v (ix3 0 r col) = accum x0 x1 x2 b 1 8448 r col)
    (a : Fin 1) (d : Fin 64) (q : Fin 256) :
    k0_pay80 v (ix3 a d q) = outAt x0 x1 x2 b 1 d ⟨256 * 0 + q.val, by omega⟩
    ∧ k0_pay81 v (ix3 a d q) = outAt x0 x1 x2 b 1 d ⟨256 * 1 + q.val, by omega⟩
    ∧ k0_pay1 (k0_pay82 v) (ix3 a d q) = outAt x0 x1 x2 b 1 d ⟨256 * 2 + q.val, by omega⟩
    ∧ k0_pay2 (k0_pay79 v) (ix3 a d q) = outAt x0 x1 x2 b 1 d ⟨256 * 3 + q.val, by omega⟩ := by
  have key := quotient_at x0 x1 x2 b 1 v hv
  refine ⟨?_, ?_, ?_, ?_⟩
  · pointwise [k0_pay80]
    exact key _ _
  · pointwise [k0_pay81]
    exact key _ _
  · pointwise [k0_pay1, k0_pay82]
    exact key _ _
  · pointwise [k0_pay2]
    exact key _ _

/-- A stored piece at an index of its rectangle is the block there. -/
theorem piece_at (kv : Fin 2) (g : Fin 4) (off : ℕ) (hoff : off = 256 * kv.val + 64 * g.val) (inb : ∀ a, (![0, off, 0] : Fin 3 → ℕ) a + S1x64x256.size a ≤ S1x512x256.size a)
    (w : Vec Ideal S1x64x256 .bf16) (hw : ∀ (a : Fin 1) (d : Fin 64) (q : Fin 256), w (ix3 a d q) = outAt x0 x1 x2 b kv d ⟨256 * g.val + q.val, by omega⟩)
    (z : S1x64x256.Idx) : w z = block x0 x1 x2 b ((Rect.unit (s := S1x512x256) ![0, off, 0] S1x64x256.size inb).emb z) := by
  idx_vars z
  rw [hw, block_of x0 x1 x2 b kv g z1 z2]
  · show off + 1 * z1.val = _
    omega
  · show 0 + 1 * z2.val = _
    omega

/-- The output's block after the point. -/
theorem out_eq (c : Dev nD) (i : grid0.Coords) (a2 : Memref sig .tc .vmem S1x512x256 .bf16) (h2 : a2.IsWhole)
    (a3 : Memref sig .tc .vmem S1x8448x256 .bf16) (h3 : a3.IsWhole) (a4 : Memref sig .tc .vmem S1x33x160x256 .bf16) (h4 : a4.IsWhole)
    (a5 : Memref sig .tc .smem S8 .f32) (h5 : a5.IsWhole) (a6 : Memref sig .tc .smem S1 .f32) (h6 : a6.IsWhole)
    (a7 : Memref sig .tc .vmem S1x512x256 .bf16) (h7 : a7.IsWhole)
    (a8 : Memref sig .tc .vmem S2x256x1024 .bf16) (h8 : a8.IsWhole) (a9 : Memref sig .tc .vmem S2x80x1024 .f32) (h9 : a9.IsWhole)
    (a10 : Memref sig .tc .vmem S2x2x2048x1024 .bf16) (h10 : a10.IsWhole) (x3 : Vec Ideal S8 .f32) (x4 : Vec Ideal S1 .f32) :
    out0_A_5 c i a2 h2 a3 h3 a4 h4 a5 h5 a6 h6 a7 h7 a8 h8 a9 h9 a10 h10 x0 x1 x2 x3 x4 = block x0 x1 x2 (x4 (ix1 0)) := by
  funext y
  unfold out0_A_5
  rw [View.read_writes_junk_eq_canon]
  have hc := cover0_A_5 c i a2 h2 a3 h3 a4 h4 a5 h5 a6 h6 a7 h7 a8 h8 a9 h9 a10 h10 x0 x1 x2 x3 x4 y
  revert hc
  generalize hL : (kernelRun0_A c i a2 h2 a3 h3 a4 h4 a5 h5 a6 h6 a7 h7 a8 h8 a9 h9 a10 h10 x0 x1 x2 x3 x4).1 = L
  intro hc
  have s0 := stored0_at x0 x1 x2 _ _ (acc0_all c a2 h2 a3 h3 a4 h4 a6 h6 a8 a9 a10 x0 x1 x2 x4)
  have s1 := stored1_at x0 x1 x2 _ _ (acc1_all c a2 h2 a3 h3 a4 h4 a6 h6 a8 a9 a10 x0 x1 x2 x4)
  have hp : View.PiecesOf (block x0 x1 x2 (x4 (ix1 0))) L := by
    subst hL
    exact ⟨piece_at x0 x1 x2 _ 1 3 448 rfl (by decide) _ fun a d q => (s1 a d q).2.2.2,
      piece_at x0 x1 x2 _ 1 2 384 rfl (by decide) _ fun a d q => (s1 a d q).2.2.1,
      piece_at x0 x1 x2 _ 1 1 320 rfl (by decide) _ fun a d q => (s1 a d q).2.1,
      piece_at x0 x1 x2 _ 1 0 256 rfl (by decide) _ fun a d q => (s1 a d q).1,
      piece_at x0 x1 x2 _ 0 3 192 rfl (by decide) _ fun a d q => (s0 a d q).2.2.2,
      piece_at x0 x1 x2 _ 0 2 128 rfl (by decide) _ fun a d q => (s0 a d q).2.2.1,
      piece_at x0 x1 x2 _ 0 1 64 rfl (by decide) _ fun a d q => (s0 a d q).2.1,
      piece_at x0 x1 x2 _ 0 0 0 rfl (by decide) _ fun a d q => (s0 a d q).1, trivial⟩
  have := View.canon_append_of_piecesOf (block x0 x1 x2 (x4 (ix1 0))) [] L hp y hc
  rwa [List.append_nil] at this

end Cert.Attn
end
-- ==== Proof.Attn.Array.lean ====
/- What the kernel's result array holds after the run: every block is written once, by one grid point, from the blocks
   of the arguments that the point reads. -/
module

public import proofs.«01_k».proof.Proof.Attn.Block
public import proofs.«01_k».proof.Proof.Gen.KernelIdeal.Value

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Batch `t / 32` and query block `t % 32` at point `t`, for each window. -/
theorem index_at : ∀ t : Fin grid0.N, (win0_0.index t 0 = t.val / 32 ∧ win0_0.index t 1 = 0 ∧ win0_0.index t 2 = t.val % 32)
    ∧ (win0_1.index t 0 = t.val / 32 ∧ win0_1.index t 1 = 0 ∧ win0_1.index t 2 = 0)
    ∧ (win0_2.index t 0 = t.val / 32 ∧ win0_2.index t 1 = 0 ∧ win0_2.index t 2 = 0 ∧ win0_2.index t 3 = 0)
    ∧ win0_4.index t 0 = 0
    ∧ (win0_5.index t 0 = t.val / 32 ∧ win0_5.index t 1 = 0 ∧ win0_5.index t 2 = t.val % 32) := by
  decide +kernel

/-- The point that serves batch `b` and the block of column `q`. -/
def pointOf (b : Fin 4) (q : Fin 8192) : Fin cfg0.N := ⟨32 * b.val + q.val / 256, by rw [show cfg0.N = 128 from N_0]; omega⟩

theorem queries_at (b : Fin 4) (q : Fin 8192) (row : Fin 512) (col : Fin 256) :
    (iblk m c 0 (pointOf b q) : Vec Ideal S1x512x256 .bf16) (ix3 0 row col)
      = (m ((c : Thread nD τ).loc main_arg0) : Vec Ideal S4x512x8192 .bf16) (ix3 b row ⟨q.val / 256 * 256 + col.val, by omega⟩) := by
  have hi := (index_at (pointOf b q)).1
  unfold iblk
  rw [View.read_apply]
  show V m c main_arg0 _ = m (c.tc.loc main_arg0) _
  unfold V
  congr 1
  funext a
  apply Fin.ext
  match a with
  | ⟨0, _⟩ => show win0_0.index (pointOf b q) 0 * 1 + 1 * 0 = b.val; rw [hi.1]; unfold pointOf; dsimp only; omega
  | ⟨1, _⟩ => show win0_0.index (pointOf b q) 1 * 512 + 1 * row.val = row.val; rw [hi.2.1]; omega
  | ⟨2, _⟩ => show win0_0.index (pointOf b q) 2 * 256 + 1 * col.val = q.val / 256 * 256 + col.val; rw [hi.2.2]; unfold pointOf; dsimp only; omega

theorem keys_at (b : Fin 4) (q : Fin 8192) (t : Fin 8448) (j : Fin 256) :
    (iblk m c 1 (pointOf b q) : Vec Ideal S1x8448x256 .bf16) (ix3 0 t j)
      = (m ((c : Thread nD τ).loc main_arg1) : Vec Ideal S4x8448x256 .bf16) (ix3 b t j) := by
  have hi := (index_at (pointOf b q)).2.1
  unfold iblk
  rw [View.read_apply]
  show V m c main_arg1 _ = m (c.tc.loc main_arg1) _
  unfold V
  congr 1
  funext a
  apply Fin.ext
  match a with
  | ⟨0, _⟩ => show win0_1.index (pointOf b q) 0 * 1 + 1 * 0 = b.val; rw [hi.1]; unfold pointOf; dsimp only; omega
  | ⟨1, _⟩ => show win0_1.index (pointOf b q) 1 * 8448 + 1 * t.val = t.val; rw [hi.2.1]; omega
  | ⟨2, _⟩ => show win0_1.index (pointOf b q) 2 * 256 + 1 * j.val = j.val; rw [hi.2.2]; omega

theorem values_at (b : Fin 4) (q : Fin 8192) (n : Fin 33) (r : Fin 160) (j : Fin 256) :
    (iblk m c 2 (pointOf b q) : Vec Ideal S1x33x160x256 .bf16) (ix4 0 n r j)
      = (m ((c : Thread nD τ).loc main_arg2) : Vec Ideal S4x33x160x256 .bf16) (ix4 b n r j) := by
  have hi := (index_at (pointOf b q)).2.2.1
  unfold iblk
  rw [View.read_apply]
  show V m c main_arg2 _ = m (c.tc.loc main_arg2) _
  unfold V
  congr 1
  funext a
  apply Fin.ext
  match a with
  | ⟨0, _⟩ => show win0_2.index (pointOf b q) 0 * 1 + 1 * 0 = b.val; rw [hi.1]; unfold pointOf; dsimp only; omega
  | ⟨1, _⟩ => show win0_2.index (pointOf b q) 1 * 33 + 1 * n.val = n.val; rw [hi.2.1]; omega
  | ⟨2, _⟩ => show win0_2.index (pointOf b q) 2 * 160 + 1 * r.val = r.val; rw [hi.2.2.1]; omega
  | ⟨3, _⟩ => show win0_2.index (pointOf b q) 3 * 256 + 1 * j.val = j.val; rw [hi.2.2.2]; omega

theorem bound_at (t : Fin cfg0.N) :
    (iblk m c 4 t : Vec Ideal S1 .f32) (ix1 0) = (m ((c : Thread nD τ).loc main_arg4) : Vec Ideal S1 .f32) (ix1 0) := by
  have hi := (index_at t).2.2.2.1
  unfold iblk
  rw [View.read_apply]
  show V m c main_arg4 _ = m (c.tc.loc main_arg4) _
  unfold V
  congr 1
  funext a
  apply Fin.ext
  match a with
  | ⟨0, _⟩ => show win0_4.index t 0 * 1 + 1 * 0 = 0; rw [hi]

/-- The result array: each element from the blocks that its own point reads. -/
def result : S4x512x8192.Idx → EReal := fun i =>
  block (iblk m c 0 (pointOf (i 0) (i 2))) (iblk m c 1 (pointOf (i 0) (i 2))) (iblk m c 2 (pointOf (i 0) (i 2)))
    ((iblk m c 4 (pointOf (i 0) (i 2)) : Vec Ideal S1 .f32) (ix1 0)) (ix3 0 (i 1) ⟨(i 2).val % 256, by omega⟩)

/-- What a point writes back is the result array's block there. -/
theorem flushed_eq (t : Fin cfg0.N) : (dats m 0 c).flushed 5 t = ((cfg0.win 5).blk t).view.read (Elt Ideal) (result m c) := by
  rw [Value.flushed5_A, out_eq]
  have hi := (index_at t).2.2.2.2
  have ht : t.val < 128 := lt_of_lt_of_eq t.isLt N_0
  funext y
  rw [View.read_apply]
  show block _ _ _ _ y = result m c _
  generalize hz : ((cfg0.win 5).blk t).view.emb y = z
  have e0 : (z 0).val = t.val / 32 := by
    rw [← hz]
    have h : (y 0).val < 1 := (y 0).isLt
    show win0_5.index t 0 * 1 + 1 * (y 0).val = _
    rw [hi.1]; omega
  have e1 : (z 1).val = (y 1).val := by
    rw [← hz]
    show win0_5.index t 1 * 512 + 1 * (y 1).val = _
    rw [hi.2.1]; omega
  have e2 : (z 2).val = t.val % 32 * 256 + (y 2).val := by
    rw [← hz]
    show win0_5.index t 2 * 256 + 1 * (y 2).val = _
    rw [hi.2.2]; omega
  have h2 : (y 2).val < 256 := (y 2).isLt
  have hp : pointOf (z 0) (z 2) = t := Fin.ext (by unfold pointOf; dsimp only; omega)
  unfold result
  rw [hp]
  congr 1
  funext a
  apply Fin.ext
  match a with
  | ⟨0, _⟩ => have h : (y 0).val < 1 := (y 0).isLt; show (y 0).val = 0; omega
  | ⟨1, _⟩ => exact e1.symm
  | ⟨2, _⟩ => show (y 2).val = (z 2).val % 256; omega

/-- After the run the result array is `result`. -/
theorem final_eq : (dats m 0 c).arrAt 5 cfg0.N = result m c :=
  (dats m 0 c).arrAt_eq_of_cover 5 (result m c) (fun t _ => flushed_eq m c t) fun i => by
    have h0 : (i 0 : Nat) < 4 := (i 0).isLt
    have h1 : (i 1 : Nat) < 512 := (i 1).isLt
    have h2 : (i 2 : Nat) < 8192 := (i 2).isLt
    refine ⟨pointOf (i 0) (i 2), flush0_5 _, ?_⟩
    have hi := (index_at (pointOf (i 0) (i 2))).2.2.2.2
    have hp : (pointOf (i 0) (i 2)).val = 32 * (i 0).val + (i 2).val / 256 := rfl
    show i ∈ ((View.whole main_v0).slice (win0_5.rect (pointOf (i 0) (i 2)))).set
    rw [View.set_slice_whole, Rect.mem_set_unit]
    intro a
    match a with
    | ⟨0, _⟩ =>
      show win0_5.index (pointOf (i 0) (i 2)) 0 * 1 ≤ (i 0 : Nat) ∧ (i 0 : Nat) < win0_5.index (pointOf (i 0) (i 2)) 0 * 1 + 1
      rw [hi.1]; omega
    | ⟨1, _⟩ =>
      show win0_5.index (pointOf (i 0) (i 2)) 1 * 512 ≤ (i 1 : Nat) ∧ (i 1 : Nat) < win0_5.index (pointOf (i 0) (i 2)) 1 * 512 + 512
      rw [hi.2.1]; omega
    | ⟨2, _⟩ =>
      show win0_5.index (pointOf (i 0) (i 2)) 2 * 256 ≤ (i 2 : Nat) ∧ (i 2 : Nat) < win0_5.index (pointOf (i 0) (i 2)) 2 * 256 + 256
      rw [hi.2.2]; omega

end Cert.Attn
end
-- ==== Proof.Attn.Softmax.lean ====
/- The mathematics of the claim, free of any program: an average weighted with powers of two relative to any bound is
   the average weighted with exponentials relative to any maximum, and the padded dot product is the plain one less the
   bound. -/
module

public import Idealize.ShloMosaic.Lib.Pointwise

@[expose] public section

noncomputable section

namespace Cert.Attn

open Idealize.ShloMosaic

/-- A positive real factor goes into a sum of extended reals. -/
theorem sum_mul_pos {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The softmax average: numerator and denominator with weights `2 ^ (s - B)`, against exponentials of `s * log 2 - M`
    divided one by one by their sum. -/
theorem softmax_average {n : ℕ} [NeZero n] (v : Fin n → EReal) (s : Fin n → ℝ) (B M : ℝ) :
    (∑ t, v t * Ideal.exp2 ((s t - B : ℝ) : EReal)) * Ideal.div 1 (∑ t, Ideal.exp2 ((s t - B : ℝ) : EReal))
      = ∑ t, v t * Ideal.div (Ideal.exp ((s t * Real.log 2 - M : ℝ) : EReal)) (∑ u, Ideal.exp ((s u * Real.log 2 - M : ℝ) : EReal)) := by
  have hw : ∀ t, Real.rpow 2 (s t - B) = Real.exp (s t * Real.log 2 - M) * Real.exp (M - B * Real.log 2) := fun t => by
    rw [← Real.exp_add, Real.rpow_eq_pow, Real.rpow_def_of_pos (by norm_num)]
    congr 1; ring
  have hz : (0 : ℝ) < ∑ u, Real.exp (s u * Real.log 2 - M) := Finset.sum_pos (fun _ _ => Real.exp_pos _) ⟨0, Finset.mem_univ _⟩
  have hc : (0 : ℝ) < Real.exp (M - B * Real.log 2) := Real.exp_pos _
  simp only [Ideal.exp2_coe, Ideal.exp_coe, hw, ← coe_sum, ← Finset.sum_mul]
  rw [Ideal.div_coe (mul_pos hz hc).ne', one_mul, sum_mul_pos _ _ _ (by positivity)]
  refine Finset.sum_congr rfl fun t _ => ?_
  rw [Ideal.div_coe hz.ne', mul_assoc, ← EReal.coe_mul, ← EReal.coe_mul]
  congr 2
  field_simp

/-- A dot product over 256 rows of which 64 hold `k` and `q`, one row holds 1 and `-B`, and the others of `y` are zero. -/
theorem padded_dot (o : ℕ) (ho : o + 64 ≤ 128) (x y : Fin 256 → EReal) (k q : Fin 64 → ℝ) (B : ℝ)
    (hx : ∀ d : Fin 64, x ⟨o + d.val, by omega⟩ = k d) (hy : ∀ d : Fin 64, y ⟨o + d.val, by omega⟩ = q d)
    (h1 : x 128 = 1) (hb : y 128 = 0 - (B : EReal)) (h0 : ∀ j : Fin 256, ¬(o ≤ j.val ∧ j.val < o + 64) → j.val ≠ 128 → y j = 0) :
    ∑ j, x j * y j = ((∑ d, q d * k d - B : ℝ) : EReal) := by
  classical
  have hsplit : ∀ j : Fin 256, x j * y j = (if o ≤ j.val ∧ j.val < o + 64 then x j * y j else 0) + (if j = 128 then x j * y j else 0) := fun j => by
    by_cases h : o ≤ j.val ∧ j.val < o + 64
    · rw [if_pos h, if_neg (fun e => by subst e; have : (128 : Fin 256).val = 128 := rfl; omega), add_zero]
    · rw [if_neg h, zero_add]
      by_cases e : j = 128
      · rw [if_pos e]
      · rw [if_neg e, h0 j h (fun h => e (Fin.ext h)), mul_zero]
  rw [Finset.sum_congr rfl fun j _ => hsplit j, Finset.sum_add_distrib, Finset.sum_ite_eq' Finset.univ (128 : Fin 256) (fun j => x j * y j), if_pos (Finset.mem_univ _), h1, hb,
    one_mul, zero_sub, EReal.coe_sub, sub_eq_add_neg]
  congr 1
  rw [coe_sum]
  refine (Fintype.sum_of_injective (fun d : Fin 64 => (⟨o + d.val, by omega⟩ : Fin 256)) (fun a b e => Fin.ext (by have := congrArg Fin.val e; dsimp only at this; omega)) _ _ ?_ ?_).symm
  · intro j hj
    refine if_neg fun h => hj ⟨⟨j.val - o, by omega⟩, Fin.ext ?_⟩
    dsimp only; omega
  · intro d
    rw [if_pos ⟨by dsimp only; omega, by dsimp only; omega⟩, hx, hy, EReal.coe_mul, mul_comm]

/-- The maximum of finitely many reals, folded from minus infinity, is a real. -/
theorem fold_max_real {n : ℕ} [NeZero n] (f : Fin n → EReal) (hf : ∀ t, ∃ r : ℝ, f t = r) :
    ∃ M : ℝ, (Finset.univ : Finset (Fin n)).fold max ⊥ f = M := by
  have hb : (Finset.univ : Finset (Fin n)).fold max ⊥ f ≠ ⊥ := by
    obtain ⟨r, hr⟩ := hf 0
    have : f 0 ≤ (Finset.univ : Finset (Fin n)).fold max ⊥ f := Finset.le_fold_max _ |>.2 (Or.inr ⟨0, Finset.mem_univ _, le_rfl⟩)
    intro e
    rw [e, hr] at this
    exact absurd this (not_le.2 (EReal.bot_lt_coe r))
  have ht : (Finset.univ : Finset (Fin n)).fold max ⊥ f ≠ ⊤ :=
    ((Finset.fold_max_lt _).2 ⟨bot_lt_top, fun t _ => by obtain ⟨r, hr⟩ := hf t; rw [hr]; exact EReal.coe_lt_top r⟩).ne
  exact ⟨_, (EReal.coe_toReal ht hb).symm⟩

end Cert.Attn
end
-- ==== Proof.Attn.Equation.lean ====
/- One block of the kernel's result as a softmax average: with finite queries, keys and bound, and ones where the padding
   stands, the bound cancels. -/
module

public import proofs.«01_k».proof.Proof.Attn.Block
public import proofs.«01_k».proof.Proof.Attn.Softmax

@[expose] public section

set_option maxRecDepth 16384

noncomputable section

namespace Cert.Attn

open Cert.KernelIdeal Idealize.ShloMosaic

variable (x0 : Vec Ideal S1x512x256 .bf16) (x1 : Vec Ideal S1x8448x256 .bf16) (x2 : Vec Ideal S1x33x160x256 .bf16)
  (q : Fin 512 → Fin 256 → ℝ) (k : Fin 8448 → Fin 256 → ℝ) (B : ℝ)

/-- The score of key `t` for a column of queries, in powers of two. -/
def score (kv : Fin 2) (col : Fin 1024) (t : Fin 8448) : ℝ :=
  ∑ d : Fin 64, q ⟨(4 * kv.val + col.val / 256) * 64 + d.val, by omega⟩ ⟨col.val % 256, by omega⟩ * k t ⟨64 * kv.val + d.val, by omega⟩

variable (hq : ∀ row col, x0 (ix3 0 row col) = q row col) (hk : ∀ t (j : Fin 256), j.val < 128 → x1 (ix3 0 t j) = k t j)
  (h1 : ∀ t, x1 (ix3 0 t 128) = 1)

include hq hk h1

/-- A weight is two to the score less the bound. -/
theorem weight_eq (kv : Fin 2) (col : Fin 1024) (t : Fin 8448) :
    weight x0 x1 B kv t.val col = Ideal.exp2 ((score q k kv col t - B : ℝ) : EReal) := by
  rw [weight, dif_pos t.isLt]
  congr 1
  refine padded_dot (64 * kv.val) (by omega) _ _ _ _ B (fun d => hk _ _ (by dsimp only; omega)) (fun d => ?_) (h1 _) ?_ (fun j hj hn => ?_)
  · rw [qpad_mem _ _ _ _ _ ⟨by dsimp only; omega, by dsimp only; omega⟩, ← hq]
    exact at3 _ rfl (Fin.ext (by dsimp only; omega)) rfl
  · rw [qpad_pad _ _ _ _ _ (by have : (128 : Fin 256).val = 128 := rfl; omega)]
    exact if_pos rfl
  · rw [qpad_pad _ _ _ _ _ hj, if_neg hn]

/-- What a block holds at one channel and column, against any real maximum `M`. -/
theorem outAt_eq (hv : ∀ n (kv : Fin 2) j, x2 (ix4 0 n ⟨80 * kv.val + 64, by omega⟩ j) = 1) (M : ℝ) (kv : Fin 2) (d : Fin 64) (col : Fin 1024) :
    outAt x0 x1 x2 B kv d col
      = ∑ t : Fin 8448, x2 (ix4 0 ⟨t.val / 256, by omega⟩ ⟨80 * kv.val + d.val, by omega⟩ ⟨t.val % 256, by omega⟩)
          * Ideal.div (Ideal.exp ((score q k kv col t * Real.log 2 - M : ℝ) : EReal))
              (∑ u, Ideal.exp ((score q k kv col u * Real.log 2 - M : ℝ) : EReal)) := by
  have hw : ∀ (r : Fin 80), accum x0 x1 x2 B kv 8448 r col
      = ∑ t : Fin 8448, value x2 kv r t.val * Ideal.exp2 ((score q k kv col t - B : ℝ) : EReal) := fun r => by
    unfold accum
    refine (Finset.sum_range _).trans (Finset.sum_congr rfl fun t _ => ?_)
    rw [weight_eq x0 x1 q k B hq hk h1]
  have hn : accum x0 x1 x2 B kv 8448 ⟨d.val, by omega⟩ col = ∑ t : Fin 8448, x2 (ix4 0 ⟨t.val / 256, by omega⟩ ⟨80 * kv.val + d.val, by omega⟩ ⟨t.val % 256, by omega⟩)
      * Ideal.exp2 ((score q k kv col t - B : ℝ) : EReal) := by
    refine (hw _).trans (Finset.sum_congr rfl fun t _ => ?_)
    rw [value, dif_pos t.isLt]
  have hd : accum x0 x1 x2 B kv 8448 64 col = ∑ t : Fin 8448, Ideal.exp2 ((score q k kv col t - B : ℝ) : EReal) := by
    refine (hw _).trans (Finset.sum_congr rfl fun t _ => ?_)
    rw [value, dif_pos t.isLt]
    exact (congrArg (· * _) (hv _ kv _)).trans (one_mul _)
  unfold outAt
  rw [hn, hd]
  exact softmax_average _ _ B M

end Cert.Attn
end
-- ==== Proof.Attn.Reference.lean ====
/- What the reference computes, read at an index: the scores of a query with every key, their maximum, the
   exponentials, and the weighted sum of the values. -/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.Attn.Ref

open Cert.ReferenceIdeal Cert.ReferenceIdeal.Gen Idealize.ShloMosaic Idealize.ShloMosaic.TcCoe Idealize.SL.Sem

variable (a0 : FVec Ideal S4x512x8192 .bf16) (a1 : FVec Ideal S4x8448x256 .bf16) (a2 : FVec Ideal S4x33x160x256 .bf16)

/-- The scaled scores. -/
def scores : FVec Ideal S4x2x4x8192x8448 .f32 :=
  mulf (extf .f32 (truncf .bf16 (Host.dotGeneral dot_S4x2x4x64x8192_S4x8448x2x64_S4x2x4x8192x8448_3_3_24_1_01_02 none
    (shapeCast _ a0 shapeCasts_S4x512x8192_S4x2x4x64x8192)
    (shapeCast _ (extractStridedSlice S4x8448x128 ![0, 0, 0] a1 slices_S4x8448x256_S4x8448x128_0_0_0) shapeCasts_S4x8448x128_S4x8448x2x64))
    bitsLt_bf16_f32) bitsLt_bf16_f32)
    (broadcastInDim S4x2x4x8192x8448 ![] bcast_S_S4x2x4x8192x8448 (Host.log (constant S_ .f32 0x40000000#32)))

/-- The maximum of the scores over the keys. -/
def top (s : FVec Ideal S4x2x4x8192x8448 .f32) : FVec Ideal S4x2x4x8192 .f32 :=
  maximumf (broadcastInDim S4x2x4x8192 ![] bcast_S_S4x2x4x8192 (constant S_ .f32 0xFF800000#32))
    (Host.reduce FloatOps.maximumf s (constant S_ .f32 0xFF800000#32) reducesTo_S4x2x4x8192x8448_S4x2x4x8192_d4 h_S_)

/-- The exponentials of the scores less their maximum. -/
def exps (s : FVec Ideal S4x2x4x8192x8448 .f32) : FVec Ideal S4x2x4x8192x8448 .f32 :=
  Host.exp (subf s (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3 (top s))))

/-- The exponentials divided by their sum over the keys. -/
def probs (e : FVec Ideal S4x2x4x8192x8448 .f32) : FVec Ideal S4x2x4x8192x8448 .bf16 :=
  truncf .bf16 (Host.divf e (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3
      (Host.reduceAdd e (constant S_ .f32 0x00000000#32) reducesTo_S4x2x4x8192x8448_S4x2x4x8192_d4 h_S_)))) bitsLt_bf16_f32

/-- The values averaged with the probabilities. -/
def average (p : FVec Ideal S4x2x4x8192x8448 .bf16) : FVec Ideal S4x512x8192 .bf16 :=
  truncf .bf16 (shapeCast _ (transpose S4x2x4x64x8192 [0, 1, 3, 2, 4]
    (Host.dotGeneral dot_S4x8448x2x64_S4x2x4x8192x8448_S4x2x64x4x8192_1_4_3_23_02_01 none
      (shapeCast _ (transpose S4x33x256x2x64 [0, 1, 4, 2, 3] (extractStridedSlice S4x33x2x64x256 ![0, 0, 0, 0, 0]
        (shapeCast _ a2 shapeCasts_S4x33x160x256_S4x33x2x80x256) slices_S4x33x2x80x256_S4x33x2x64x256_0_0_0_0_0)
        transposes_S4x33x2x64x256_S4x33x256x2x64_0_1_4_2_3) shapeCasts_S4x33x256x2x64_S4x8448x2x64) p)
    transposes_S4x2x64x4x8192_S4x2x4x64x8192_0_1_3_2_4) shapeCasts_S4x2x4x64x8192_S4x512x8192) bitsLt_bf16_f32

/-- The reference's result. -/
def output : FVec Ideal S4x512x8192 .bf16 := average a2 (probs (exps (scores a0 a1)))

/-- The reference's run ends with `output` of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = output (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

theorem scores_at (b : Fin 4) (kv : Fin 2) (g : Fin 4) (q : Fin 8192) (t : Fin 8448) :
    scores a0 a1 (ix5 b kv g q t)
      = (∑ d : Fin 64, a0 (ix3 b ⟨kv.val * 256 + g.val * 64 + d.val, by omega⟩ q) * a1 (ix3 b t ⟨kv.val * 64 + d.val, by omega⟩))
        * Ideal.log (Ideal.ofBits .f32 0x40000000#32) := by
  pointwise [scores]

/-- A reduction by `max` over the last of five axes is the fold of `max` over that axis. -/
theorem reduce_max {n0 n1 n2 n3 n4 : ℕ} (v : FVec Ideal ⟨5, ![n0, n1, n2, n3, n4]⟩ .f32) (c : FVec Ideal S_ .f32)
    (h : (⟨5, ![n0, n1, n2, n3, n4]⟩ : Shape).ReducesTo [4] ⟨4, ![n0, n1, n2, n3]⟩) (hu : 0 < S_.numel)
    (a : Fin n0) (b : Fin n1) (e : Fin n2) (f : Fin n3) :
    Host.reduce FloatOps.maximumf v c h hu (ix4 a b e f)
      = (Finset.univ : Finset (Fin n4)).fold max (c (Shape.Idx.first hu)) fun k => v (ix5 a b e f k) := by
  rw [Host.reduce_eq_fold, h.fold_fiber_r5_a4]
  rfl

theorem top_at (s : FVec Ideal S4x2x4x8192x8448 .f32) (b : Fin 4) (kv : Fin 2) (g : Fin 4) (q : Fin 8192) :
    top s (ix4 b kv g q) = max (Ideal.ofBits .f32 0xFF800000#32)
      ((Finset.univ : Finset (Fin 8448)).fold max (Ideal.ofBits .f32 0xFF800000#32) fun t => s (ix5 b kv g q t)) := by
  have h := reduce_max s (constant S_ .f32 0xFF800000#32) reducesTo_S4x2x4x8192x8448_S4x2x4x8192_d4 h_S_ b kv g q
  unfold top
  rw [maximumf, h]
  rfl

theorem exps_at (s : FVec Ideal S4x2x4x8192x8448 .f32) (b : Fin 4) (kv : Fin 2) (g : Fin 4) (q : Fin 8192) (t : Fin 8448) :
    exps s (ix5 b kv g q t) = Ideal.exp (s (ix5 b kv g q t) - top s (ix4 b kv g q)) := by
  pointwise [exps]

theorem probs_at (e : FVec Ideal S4x2x4x8192x8448 .f32) (b : Fin 4) (kv : Fin 2) (g : Fin 4) (q : Fin 8192) (t : Fin 8448) :
    probs e (ix5 b kv g q t) = Ideal.div (e (ix5 b kv g q t)) (∑ u : Fin 8448, e (ix5 b kv g q u)) := by
  pointwise [probs]

theorem average_at (p : FVec Ideal S4x2x4x8192x8448 .bf16) (b : Fin 4) (row : Fin 512) (q : Fin 8192) :
    average a2 p (ix3 b row q)
      = ∑ t : Fin 8448, a2 (ix4 b ⟨t.val / 256, by omega⟩ ⟨row.val / 256 * 80 + row.val % 64, by omega⟩ ⟨t.val % 256, by omega⟩)
          * p (ix5 b ⟨row.val / 256, by omega⟩ ⟨row.val / 64 % 4, by omega⟩ q t) := by
  pointwise [average]

end Cert.Attn.Ref
end
-- ==== Proof.Attn.Pre.lean ====
/- What the precondition says of the arguments: the queries, the first 128 columns of the keys and the bound are
   finite, column 128 of the keys holds ones, and so do rows 64 and 144 of the values. -/
module

public import proofs.«01_k».proof.Proof.Gen.Pre_prepared
public import Idealize.ShloMosaic.Lib.Pointwise
public import Idealize.ShloMosaic.Lib.IdealHost
public import Idealize.ShloMosaic.Lib.ReduceAll
public import Idealize.ShloMosaic.Lib.Affine

@[expose] public section

set_option maxRecDepth 16384

noncomputable section

namespace Cert.Attn.Pre

open Cert.Pre_prepared Cert.Pre_prepared.Facts Idealize.ShloMosaic

/-- A number above minus infinity and below infinity is a real. -/
theorem finite_of (z : EReal) (h : IntOp.andi (FloatOps.cmpf (F := Ideal) (φ := .f32) .ogt z (Ideal.ofBits .f32 0xFF800000#32))
    (FloatOps.cmpf (F := Ideal) (φ := .f32) .olt z (Ideal.ofBits .f32 0x7F800000#32)) = 1#1) : ∃ r : ℝ, z = r := by
  obtain ⟨h1, h2⟩ := IntOp.andi_eq_one.1 h
  have e1 : Ideal.ofBits .f32 0xFF800000#32 = ⊥ := by simp [Ideal.ofBits, Ideal.ieee]
  have e2 : Ideal.ofBits .f32 0x7F800000#32 = ⊤ := by simp [Ideal.ofBits, Ideal.ieee]
  rw [e1] at h1
  rw [e2] at h2
  induction z with
  | bot => exact absurd h1 (by simp [FloatOps.cmpf, Ideal.cmp])
  | top => exact absurd h2 (by simp [FloatOps.cmpf, Ideal.cmp])
  | coe r => exact ⟨r, rfl⟩

/-- A number found equal to one is one. -/
theorem one_of (z : EReal) (h : FloatOps.cmpf (F := Ideal) (φ := .f32) .oeq z (Ideal.ofBits .f32 0x3F800000#32) = 1#1) : z = 1 := by
  rw [Ideal.ofBits_one_f32] at h
  by_contra n
  exact absurd h (by simp [FloatOps.cmpf, Ideal.cmp, n])

variable [Facts] (a0 : FVec Ideal S4x512x8192 .bf16) (a1 : FVec Ideal S4x8448x256 .bf16) (a2 : FVec Ideal S4x33x160x256 .bf16)
  (a3 : FVec Ideal S8 .f32) (a4 : FVec Ideal S1 .f32)

/-- What the precondition grants. -/
structure Prepared : Prop where
  query : ∀ (b : Fin 4) (row : Fin 512) (q : Fin 8192), ∃ r : ℝ, a0 (ix3 b row q) = r
  key : ∀ (b : Fin 4) (t : Fin 8448) (j : Fin 256), j.val < 128 → ∃ r : ℝ, a1 (ix3 b t j) = r
  bound : ∃ r : ℝ, a4 (ix1 0) = r
  keyOne : ∀ (b : Fin 4) (t : Fin 8448), a1 (ix3 b t 128) = 1
  valueOne : ∀ (b : Fin 4) (n : Fin 33) (kv : Fin 2) (j : Fin 256), a2 (ix4 b n ⟨80 * kv.val + 64, by omega⟩ j) = 1

theorem key_at (b : Fin 4) (t : Fin 8448) (j : Fin 128) :
    (extf .f32 (extractStridedSlice S4x8448x128 ![0, 0, 0] a1 slices_S4x8448x256_S4x8448x128_0_0_0) bitsLt_bf16_f32 : FVec Ideal _ .f32) (ix3 b t j)
      = a1 (ix3 b t ⟨j.val, by omega⟩) := by
  pointwise []

theorem keyOne_at (b : Fin 4) (t : Fin 8448) :
    (extf .f32 (shapeCast S4x8448 (extractStridedSlice S4x8448x1 ![0, 0, 128] a1 slices_S4x8448x256_S4x8448x1_0_0_128) shapeCasts_S4x8448x1_S4x8448)
      bitsLt_bf16_f32 : FVec Ideal _ .f32) (ix2 b t) = a1 (ix3 b t 128) := by
  pointwise []

theorem valueOne0_at (b : Fin 4) (n : Fin 33) (j : Fin 256) :
    (extf .f32 (shapeCast S4x33x256 (extractStridedSlice S4x33x1x256 ![0, 0, 64, 0] a2 slices_S4x33x160x256_S4x33x1x256_0_0_64_0)
      shapeCasts_S4x33x1x256_S4x33x256) bitsLt_bf16_f32 : FVec Ideal _ .f32) (ix3 b n j) = a2 (ix4 b n 64 j) := by
  pointwise []

theorem valueOne1_at (b : Fin 4) (n : Fin 33) (j : Fin 256) :
    (extf .f32 (shapeCast S4x33x256 (extractStridedSlice S4x33x1x256 ![0, 0, 144, 0] a2 slices_S4x33x160x256_S4x33x1x256_0_0_144_0)
      shapeCasts_S4x33x1x256_S4x33x256) bitsLt_bf16_f32 : FVec Ideal _ .f32) (ix3 b n j) = a2 (ix4 b n 144 j) := by
  pointwise []

/-- The printed precondition, decoded. -/
theorem prepared (h : fn (F := Ideal) a0 a1 a2 a3 a4 = fun _ => 1#1) : Prepared a0 a1 a2 a4 := by
  have h := congrFun h ix0
  obtain ⟨h, hv1⟩ := IntOp.andi_eq_one.1 h
  obtain ⟨h, hv0⟩ := IntOp.andi_eq_one.1 h
  obtain ⟨h, hk1⟩ := IntOp.andi_eq_one.1 h
  obtain ⟨h, hb⟩ := IntOp.andi_eq_one.1 h
  obtain ⟨hq, hk⟩ := IntOp.andi_eq_one.1 h
  refine ⟨fun b row q => finite_of _ (Host.reduce_andi_all _ _ _ _ _ hq (ix3 b row q)), fun b t j hj => ?_,
    finite_of _ (Host.reduce_andi_all _ _ _ _ _ hb (ix1 0)), fun b t => ?_, fun b n kv j => ?_⟩
  · obtain ⟨r, e⟩ := finite_of _ (Host.reduce_andi_all _ _ _ _ _ hk (ix3 b t ⟨j.val, hj⟩))
    exact ⟨r, (key_at a1 b t ⟨j.val, hj⟩).symm.trans e⟩
  · exact (keyOne_at a1 b t).symm.trans (one_of _ (Host.reduce_andi_all _ _ _ _ _ hk1 (ix2 b t)))
  · have e0 := (valueOne0_at a2 b n j).symm.trans (one_of _ (Host.reduce_andi_all _ _ _ _ _ hv0 (ix3 b n j)))
    have e1 := (valueOne1_at a2 b n j).symm.trans (one_of _ (Host.reduce_andi_all _ _ _ _ _ hv1 (ix3 b n j)))
    match kv with
    | 0 => exact e0
    | 1 => exact e1

end Cert.Attn.Pre
end
-- ==== Proof.Attn.Meet.lean ====
/- The kernel's result and the reference's, equal under the precondition. -/
module

public import proofs.«01_k».proof.Proof.Attn.Array
public import proofs.«01_k».proof.Proof.Attn.Equation
public import proofs.«01_k».proof.Proof.Attn.Reference
public import proofs.«01_k».proof.Proof.Attn.Pre

@[expose] public section

set_option maxRecDepth 16384

noncomputable section

namespace Cert.Attn

open Idealize.ShloMosaic Idealize.ShloMosaic.TcCoe

/-- The reference at an index, when its scores there are real: the softmax average against some real maximum. -/
theorem output_at (a0 : FVec Ideal KernelIdeal.S4x512x8192 .bf16) (a1 : FVec Ideal KernelIdeal.S4x8448x256 .bf16) (a2 : FVec Ideal KernelIdeal.S4x33x160x256 .bf16)
    (b : Fin 4) (row : Fin 512) (q : Fin 8192) (s : Fin 8448 → ℝ)
    (hs : ∀ t, (∑ d : Fin 64, a0 (ix3 b ⟨row.val / 256 * 256 + row.val / 64 % 4 * 64 + d.val, by omega⟩ q)
      * a1 (ix3 b t ⟨row.val / 256 * 64 + d.val, by omega⟩)) = s t) :
    ∃ M : ℝ, Ref.output a0 a1 a2 (ix3 b row q)
      = ∑ t : Fin 8448, a2 (ix4 b ⟨t.val / 256, by omega⟩ ⟨row.val / 256 * 80 + row.val % 64, by omega⟩ ⟨t.val % 256, by omega⟩)
          * Ideal.div (Ideal.exp ((s t * Real.log 2 - M : ℝ) : EReal)) (∑ u, Ideal.exp ((s u * Real.log 2 - M : ℝ) : EReal)) := by
  have e2 : Ideal.ofBits .f32 0x40000000#32 = ((2 : ℝ) : EReal) := by
    simp only [Ideal.ofBits, Ideal.ieee]
    simp [← EReal.coe_mul]
    norm_num
  have eb : Ideal.ofBits .f32 0xFF800000#32 = ⊥ := by simp [Ideal.ofBits, Ideal.ieee]
  have hl : Ideal.log ((2 : ℝ) : EReal) = (Real.log 2 : ℝ) := by rw [Ideal.log_coe, if_neg (by norm_num)]
  have hsc : ∀ t, Ref.scores a0 a1 (ix5 b ⟨row.val / 256, by omega⟩ ⟨row.val / 64 % 4, by omega⟩ q t) = ((s t * Real.log 2 : ℝ) : EReal) := fun t => by
    rw [Ref.scores_at, e2, hl, EReal.coe_mul, ← hs]
  obtain ⟨M, hM⟩ := fold_max_real (fun t => Ref.scores a0 a1 (ix5 b ⟨row.val / 256, by omega⟩ ⟨row.val / 64 % 4, by omega⟩ q t)) fun t => ⟨_, hsc t⟩
  have ht : Ref.top (Ref.scores a0 a1) (ix4 b ⟨row.val / 256, by omega⟩ ⟨row.val / 64 % 4, by omega⟩ q) = M := by
    rw [Ref.top_at, eb, hM, max_eq_right bot_le]
  refine ⟨M, ?_⟩
  rw [Ref.output, Ref.average_at]
  simp only [Ref.probs_at, Ref.exps_at, ht, hsc, ← EReal.coe_sub]

/-- A block at one row and column of queries is the reference's output there, when the block's arguments are the
    arrays' parts that the point `(b, q)` reads. -/
theorem block_eq (a0 : FVec Ideal KernelIdeal.S4x512x8192 .bf16) (a1 : FVec Ideal KernelIdeal.S4x8448x256 .bf16) (a2 : FVec Ideal KernelIdeal.S4x33x160x256 .bf16)
    (a4 : FVec Ideal KernelIdeal.S1 .f32) (h : Pre.Prepared a0 a1 a2 a4) (b : Fin 4) (row : Fin 512) (q : Fin 8192)
    (x0 : Vec Ideal KernelIdeal.S1x512x256 .bf16) (x1 : Vec Ideal KernelIdeal.S1x8448x256 .bf16) (x2 : Vec Ideal KernelIdeal.S1x33x160x256 .bf16) (x4 : EReal)
    (e0 : ∀ row (col : Fin 256), x0 (ix3 0 row col) = a0 (ix3 b row ⟨q.val / 256 * 256 + col.val, by omega⟩))
    (e1 : ∀ t j, x1 (ix3 0 t j) = a1 (ix3 b t j)) (e2 : ∀ n r j, x2 (ix4 0 n r j) = a2 (ix4 b n r j)) (e4 : x4 = a4 (ix1 0)) :
    block x0 x1 x2 x4 (ix3 0 row ⟨q.val % 256, by omega⟩) = Ref.output a0 a1 a2 (ix3 b row q) := by
  obtain ⟨hq, hk, ⟨B, hB⟩, h1, hv⟩ := h
  choose qr hqr using hq
  choose! kr hkr using hk
  obtain ⟨M, hM⟩ := output_at a0 a1 a2 b row q
    (score (fun row col => qr b row ⟨q.val / 256 * 256 + col.val, by omega⟩) (kr b) ⟨row.val / 256, by omega⟩
        ⟨256 * (row.val / 64 % 4) + q.val % 256, by omega⟩) fun t => by
    unfold score
    rw [coe_sum]
    refine Finset.sum_congr rfl fun d _ => ?_
    rw [EReal.coe_mul, ← hqr, ← hkr _ _ _ (by dsimp only; omega)]
    refine congrArg₂ (· * ·) (at3 _ rfl (Fin.ext ?_) (Fin.ext ?_)) (at3 _ rfl rfl (Fin.ext ?_)) <;> dsimp only <;> omega
  rw [hM, e4, hB, block_of _ _ _ _ ⟨row.val / 256, by omega⟩ ⟨row.val / 64 % 4, by omega⟩ ⟨row.val % 64, by omega⟩ ⟨q.val % 256, by omega⟩ _
    (show row.val = _ by dsimp only; omega) rfl]
  refine (outAt_eq x0 x1 x2 (fun row col => qr b row ⟨q.val / 256 * 256 + col.val, by omega⟩) (kr b) B
    (fun row col => (e0 row col).trans (hqr _ _ _)) (fun t j hj => (e1 t j).trans (hkr _ _ _ hj))
    (fun t => (e1 t 128).trans (h1 _ _)) (fun n kv j => (e2 n _ j).trans (hv _ _ _ _)) M _ _ _).trans ?_
  refine Finset.sum_congr rfl fun t _ => ?_
  rw [e2]
  congr 1
  exact at4 _ rfl rfl (Fin.ext (by dsimp only; omega)) rfl

/-- The kernel's result is the reference's output. -/
theorem result_eq (m : (ℓ : Loc KernelIdeal.nD KernelIdeal.τ KernelIdeal.sig) → Buf (Elt Ideal) ℓ) (c : Dev KernelIdeal.nD)
    (h : Pre.Prepared (m (c.tc.loc KernelIdeal.main_arg0)) (m (c.tc.loc KernelIdeal.main_arg1)) (m (c.tc.loc KernelIdeal.main_arg2))
      (m (c.tc.loc KernelIdeal.main_arg4))) :
    result m c = Ref.output (m (c.tc.loc KernelIdeal.main_arg0)) (m (c.tc.loc KernelIdeal.main_arg1)) (m (c.tc.loc KernelIdeal.main_arg2)) := by
  funext i
  idx_vars i
  exact block_eq _ _ _ _ h _ _ _ _ _ _ _ (queries_at m c _ _) (keys_at m c _ _) (values_at m c _ _) (bound_at m c _)

end Cert.Attn
end
-- ==== Proof.Experts.Run.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Tactic
public import Idealize.ShloMosaic.Lib.VecWindow
public import Idealize.ShloMosaic.Lib.Pointwise

/-!
# One grid point of the experts' kernel

What the body leaves in its output block and in its scratch, as functions of the blocks it is handed, and the
proof that it does: from the buffers held at their contents, the body runs to the continuation holding them at
the contents named here.
-/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a point leaves in its output block: zeros at the first point of a row of blocks, else what the block held;
    and, while the row is live, the point's products added to it. -/
def output (first : Bool) (live : BitVec 1) (x : Vec F S1024x1024 .f32) (wg wu : Vec F S1x1024x512 .f32) (wd : Vec F S1x512x1024 .f32)
    (o : Vec F S1024x1024 .f32) (s : Vec F S1024x1024 .bf16) : Vec F S1024x1024 .f32 :=
  if live = 1#1 then k0_pay3 (if first then k0_pay2 x else s) wg wu (if first then k0_pay1 else o) wd else if first then k0_pay1 else o

/-- What a point leaves in the scratch: at the first point of a live row the row's tokens, narrowed, else what it held. -/
def scratch (first : Bool) (live : BitVec 1) (x : Vec F S1024x1024 .f32) (s : Vec F S1024x1024 .bf16) : Vec F S1024x1024 .bf16 :=
  if live = 1#1 then if first then k0_pay2 x else s else s

/-- A load of a whole view reads the whole of its contents. -/
theorem readAt_whole {κ : Kind} {sp : Space} {S : Shape} {e : EltTy} (v : View sig κ sp S e) (f : v.ty.Contents (Elt F)) {off : Fin S.rank → ℕ}
    (inb : ∀ a, off a + S.size a ≤ S.size a) : v.readAt (Elt F) (Rect.unit off S.size inb).toLoadRect f = v.read (Elt F) f := by
  funext y
  exact congrArg (v.read (Elt F) f) (funext fun a => Fin.ext (by
    show off a + 1 * (y a).val = (y a).val
    have := inb a; omega))

/-- The body at the first point of a row of blocks. -/
theorem run_first (c : Dev nD) (i : grid0.Coords) (arg2 : Memref sig .tc .smem S72 .i32) (harg2 : arg2.IsWhole) (arg3 : Memref sig .tc .smem S1 .i32) (harg3 : arg3.IsWhole) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .bf16) (harg9 : arg9.IsWhole)
    (n : Vec F S1 .i32) (x : Vec F S1024x1024 .f32) (wg wu : Vec F S1x1024x512 .f32) (wd : Vec F S1x512x1024 .f32) (o : Vec F S1024x1024 .f32) (s : Vec F S1024x1024 .bf16)
    (h1 : k0_cond1 i = 1#1) (E : Set ℕ) (K : PUnit → sProp 𝕄) :
    iprop(owns (c : Thread nD τ) arg3 fullShare.right n ∗ owns (c : Thread nD τ) arg4 fullShare x ∗ owns (c : Thread nD τ) arg5 fullShare wg ∗ owns (c : Thread nD τ) arg6 fullShare wu ∗ owns (c : Thread nD τ) arg7 fullShare wd ∗ owns (c : Thread nD τ) arg8 fullShare o ∗ owns (c : Thread nD τ) arg9 fullShare s
        ∗ (iprop(owns (c : Thread nD τ) arg3 fullShare.right n ∗ owns (c : Thread nD τ) arg4 fullShare x ∗ owns (c : Thread nD τ) arg5 fullShare wg ∗ owns (c : Thread nD τ) arg6 fullShare wu ∗ owns (c : Thread nD τ) arg7 fullShare wd ∗ owns (c : Thread nD τ) arg8 fullShare (output true (k0_cond2 i (n (ix1 0))) x wg wu wd o s) ∗ owns (c : Thread nD τ) arg9 fullShare (scratch true (k0_cond2 i (n (ix1 0))) x s)) -∗ K ⟨⟩))
      ⊢ wp frame (wpE (defs₀ (F := F)) Variants.none c none) E (cc0_moe_experts i arg2 harg2 arg3 harg3 arg4 harg4 arg5 harg5 arg6 harg6 arg7 harg7 arg8 harg8 arg9 harg9) K := by
  simp only [cc0_moe_experts_eq_skeleton]; unfold cc0_moe_experts_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  have h3 : Scalar.cmpi .ne (Scalar.extui (Scalar.cmpi .eq (BitVec.ofNat 32 (i 1).val) 0#32)) 0#32 = 1#1 := h1
  sl_exec
  sl_step
  have hr : run_first.sl.r c arg3 f3 = n (ix1 0) := by
    subst hf3
    delta run_first.sl.r
    exact congrArg (View.read (Elt F) arg3.view f3) (funext fun a => by fin_cases a; rfl)
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _; isplitr; swap; · iexact H8
    ipureintro
    rw [hr]; subst hf4 hf5 hf6 hf7 hf8 hf9
    delta run_first.sl.v10 run_first.sl.v29 run_first.sl.H8_1 run_first.sl.H9_1
    unfold output
    by_cases h2 : k0_cond2 i (n (ix1 0)) = 1#1
    · rw [dif_pos h2, if_pos h2, View.read_writes_full]
      rw [View.readCov_full, View.readCov_full, readAt_whole, readAt_whole, readAt_whole, readAt_whole]; rfl
    · rw [dif_neg h2, if_neg h2]
      rw [View.read_writes_full]; rfl
  · iexists _; isplitr; swap; · iexact H9
    ipureintro
    rw [hr]; subst hf4 hf9
    delta run_first.sl.H9_1
    unfold scratch
    by_cases h2 : k0_cond2 i (n (ix1 0)) = 1#1
    · rw [dif_pos h2, if_pos h2, View.read_writes_full, readAt_whole]; rfl
    · rw [dif_neg h2, if_neg h2]

/-- The body at a later point of a row of blocks. -/
theorem run_rest (c : Dev nD) (i : grid0.Coords) (arg2 : Memref sig .tc .smem S72 .i32) (harg2 : arg2.IsWhole) (arg3 : Memref sig .tc .smem S1 .i32) (harg3 : arg3.IsWhole) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .bf16) (harg9 : arg9.IsWhole)
    (n : Vec F S1 .i32) (x : Vec F S1024x1024 .f32) (wg wu : Vec F S1x1024x512 .f32) (wd : Vec F S1x512x1024 .f32) (o : Vec F S1024x1024 .f32) (s : Vec F S1024x1024 .bf16)
    (h1 : ¬ k0_cond1 i = 1#1) (E : Set ℕ) (K : PUnit → sProp 𝕄) :
    iprop(owns (c : Thread nD τ) arg3 fullShare.right n ∗ owns (c : Thread nD τ) arg4 fullShare x ∗ owns (c : Thread nD τ) arg5 fullShare wg ∗ owns (c : Thread nD τ) arg6 fullShare wu ∗ owns (c : Thread nD τ) arg7 fullShare wd ∗ owns (c : Thread nD τ) arg8 fullShare o ∗ owns (c : Thread nD τ) arg9 fullShare s
        ∗ (iprop(owns (c : Thread nD τ) arg3 fullShare.right n ∗ owns (c : Thread nD τ) arg4 fullShare x ∗ owns (c : Thread nD τ) arg5 fullShare wg ∗ owns (c : Thread nD τ) arg6 fullShare wu ∗ owns (c : Thread nD τ) arg7 fullShare wd ∗ owns (c : Thread nD τ) arg8 fullShare (output false (k0_cond2 i (n (ix1 0))) x wg wu wd o s) ∗ owns (c : Thread nD τ) arg9 fullShare (scratch false (k0_cond2 i (n (ix1 0))) x s)) -∗ K ⟨⟩))
      ⊢ wp frame (wpE (defs₀ (F := F)) Variants.none c none) E (cc0_moe_experts i arg2 harg2 arg3 harg3 arg4 harg4 arg5 harg5 arg6 harg6 arg7 harg7 arg8 harg8 arg9 harg9) K := by
  simp only [cc0_moe_experts_eq_skeleton]; unfold cc0_moe_experts_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  have h3 : ¬ (Scalar.cmpi .ne (Scalar.extui (Scalar.cmpi .eq (BitVec.ofNat 32 (i 1).val) 0#32)) 0#32 = 1#1) := h1
  sl_exec
  sl_step
  have hr : run_rest.sl.r c arg3 f3 = n (ix1 0) := by
    subst hf3
    delta run_rest.sl.r
    exact congrArg (View.read (Elt F) arg3.view f3) (funext fun a => by fin_cases a; rfl)
  iapply Hk
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _; isplitr; swap; · iexact H8
    ipureintro
    rw [hr]; subst hf4 hf5 hf6 hf7 hf8 hf9
    unfold output
    by_cases h2 : k0_cond2 i (n (ix1 0)) = 1#1
    · rw [dif_pos h2, if_pos h2, View.read_writes_full]
      rw [readAt_whole, readAt_whole, readAt_whole, readAt_whole, readAt_whole]; rfl
    · rw [dif_neg h2, if_neg h2]
      rfl
  · iexists _; isplitr; swap; · iexact H9
    ipureintro
    rw [hf9]; unfold scratch; split <;> rfl

end Cert.Experts
-- ==== Proof.Experts.Frame.lean ====
module

public import proofs.«01_k».proof.Proof.Experts.Run
public import Idealize.ShloMosaic.Lib.Pipeline.TableIdle
public import Idealize.ShloMosaic.Lib.Pipeline.Frame

/-!
# The experts' launch

The grid is walked row by row of 1024 tokens, the hidden columns in seven steps inside a row. What the output block
holds after each point is a recursion over the points; the scratch holds the row's tokens from the row's first
point on, if the row is live. The launch then ends with each array at what the pipeline's own book-keeping computes
from these.
-/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The order of the points -/

theorem coords_row : ∀ t : Fin grid0.N, (grid0.coords t 0).val = t.val / 7 := by decide +kernel
theorem coords_col : ∀ t : Fin grid0.N, (grid0.coords t 1).val = t.val % 7 := by decide +kernel
theorem first_iff : ∀ t : Fin grid0.N, k0_cond1 (grid0.coords t) = 1#1 ↔ t.val % 7 = 0 := by decide +kernel

variable (m : (ℓ : Loc nD τ sig) → Buf (Elt F) ℓ) (ρ : Dev nD → PrngReg) (A : (pcfg0 (F := F)).Adm)

/-- The pipeline at the control words `A`. -/
abbrev cfgA : Cfg sig Λ₀ := cfg0 A

/-- Whether the row of blocks the point belongs to is computed, as the kernel's word. -/
def liveAt (t : Fin grid0.N) : BitVec 1 := k0_cond2 (grid0.coords t) ((A.1 1 : Vec F S1 .i32) (ix1 0))

/-- Core `c`'s buffers when the region is entered: the host's operations done on what was launched. -/
def V (c : Dev nD) (b : Ref sig .tc) : Buf (Elt F) ((c : Thread nD τ).loc b) :=
  StableHlo.after hostOps0 (fun b => m (c, b)) b

theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub ⟨rfl, rfl, rfl, rfl, rfl, rfl, rfl, rfl, rfl, rfl, rfl, rfl, rfl, rfl, rfl⟩ main_chain

/-- Window `w`'s block at point `t`, read off its array as the region finds it. -/
def iblk (c : Dev nD) (w : Fin 5) (t : Fin grid0.N) : (((cfgA A).win w).xblock (grid0.coords t)).Idx → Elt F ((cfgA A).win w).elt :=
  (((cfgA A).win w).blk t).view.read (Elt F) (V m c (Pipeline.arrRef spec0 w))

/-- The output block after point `t`, from what it held before. -/
def step (c : Dev nD) (t : Fin grid0.N) (o : Vec F S1024x1024 .f32) : Vec F S1024x1024 .f32 :=
  output (decide (t.val % 7 = 0)) (liveAt A t) (iblk m A c 0 t) (iblk m A c 1 t) (iblk m A c 2 t) (iblk m A c 3 t) o (k0_pay2 (iblk m A c 0 t))

/-- The output block after point `n`. -/
def traj (c : Dev nD) : (n : ℕ) → n < grid0.N → Vec F S1024x1024 .f32
  | 0, h => step m A c ⟨0, h⟩ k0_pay1
  | n + 1, h => step m A c ⟨n + 1, h⟩ (traj c n (Nat.lt_of_succ_lt h))

/-- The scratch before point `n`: inside a live row, the row's tokens, narrowed; and the generator and the two tables. -/
def Phi (c : Dev nD) (n : ℕ) : sProp 𝕄 :=
  iprop((∃ s : Vec F S1024x1024 .bf16, ⌜∀ h : n < grid0.N, n % 7 ≠ 0 → liveAt A ⟨n, h⟩ = 1#1 → s = k0_pay2 (iblk m A c 0 ⟨n, h⟩)⌝
      ∗ owns (c : Thread nD τ) (Memref.whole cc0_scratch0) fullShare s)
    ∗ (∃ r, prngReg c r)
    ∗ owns (c : Thread nD τ) (Memref.whole main_v11) fullShare.right (A.1 0) ∗ owns (c : Thread nD τ) (Memref.whole main_arg1) fullShare.right (A.1 1))

/-- What the launch keeps track of, for each array and each staging buffer. -/
def dats (_ : Fin 1) (c : Dev nD) : Dat τ (Elt F) Unit ℕ (UR sig nD τ) ℕ (cfgA A) c where
  A w := V m c (Pipeline.arrRef spec0 w)
  after w t := match w with
    | ⟨0, _⟩ => iblk m A c 0 t
    | ⟨1, _⟩ => iblk m A c 1 t
    | ⟨2, _⟩ => iblk m A c 2 t
    | ⟨3, _⟩ => iblk m A c 3 t
    | ⟨4, _⟩ => traj m A c t.val t.isLt
  Φ n := Phi m A c n.val
  q _ := fullShare
  owed _ := 0

theorem after_0 (c : Dev nD) (t : Fin grid0.N) : (dats m A 0 c).after 0 t = iblk m A c 0 t := by dsimp only [dats]; rfl
theorem after_1 (c : Dev nD) (t : Fin grid0.N) : (dats m A 0 c).after 1 t = iblk m A c 1 t := by dsimp only [dats]; rfl
theorem after_2 (c : Dev nD) (t : Fin grid0.N) : (dats m A 0 c).after 2 t = iblk m A c 2 t := by dsimp only [dats]; rfl
theorem after_3 (c : Dev nD) (t : Fin grid0.N) : (dats m A 0 c).after 3 t = iblk m A c 3 t := by dsimp only [dats]; rfl
theorem after_4 (c : Dev nD) (t : Fin grid0.N) : (dats m A 0 c).after 4 t = traj m A c t.val t.isLt := by dsimp only [dats]; rfl

theorem A_eq (c : Dev nD) (w : Fin 5) : (dats m A 0 c).A w = V m c (Pipeline.arrRef spec0 w) := by dsimp only [dats]

theorem before_0 (c : Dev nD) (t : Fin grid0.N) (d) : (dats m A 0 c).before 0 t d = iblk m A c 0 t :=
  ((dats m A 0 c).before_in_eq_fetched 0 rfl (fun _ => rfl) (fun _ _ _ => rfl) (fun t => by rw [after_0]; unfold Dat.blockOf iblk; rw [A_eq]; rfl) t d).trans
    (by unfold Dat.fetched Dat.blockOf iblk; rw [A_eq]; try rfl)
theorem before_1 (c : Dev nD) (t : Fin grid0.N) (d) : (dats m A 0 c).before 1 t d = iblk m A c 1 t :=
  ((dats m A 0 c).before_in_eq_fetched 1 rfl (fun _ => rfl) (fun _ _ _ => rfl) (fun t => by rw [after_1]; unfold Dat.blockOf iblk; rw [A_eq]; rfl) t d).trans
    (by unfold Dat.fetched Dat.blockOf iblk; rw [A_eq]; try rfl)
theorem before_2 (c : Dev nD) (t : Fin grid0.N) (d) : (dats m A 0 c).before 2 t d = iblk m A c 2 t :=
  ((dats m A 0 c).before_in_eq_fetched 2 rfl (fun _ => rfl) (fun _ _ _ => rfl) (fun t => by rw [after_2]; unfold Dat.blockOf iblk; rw [A_eq]; rfl) t d).trans
    (by unfold Dat.fetched Dat.blockOf iblk; rw [A_eq]; try rfl)
theorem before_3 (c : Dev nD) (t : Fin grid0.N) (d) : (dats m A 0 c).before 3 t d = iblk m A c 3 t :=
  ((dats m A 0 c).before_in_eq_fetched 3 rfl (fun _ => rfl) (fun _ _ _ => rfl) (fun t => by rw [after_3]; unfold Dat.blockOf iblk; rw [A_eq]; rfl) t d).trans
    (by unfold Dat.fetched Dat.blockOf iblk; rw [A_eq]; try rfl)

/-! ## The output window -/

/-- The output window is written back after a row's last point. -/
theorem flush_out : ∀ t : Fin grid0.N, ((cfgA A).win 4).flush t = decide (t.val % 7 = 6) := by
  intro t
  rw [Window.flush_eq_flushF]
  revert t
  have h : ∀ t : Fin grid0.N, (t.val + 1 = grid0.N || decide (∃ h : t.val + 1 < grid0.N, ∃ a : Fin 2, cc0_transform_4 (grid0.coords ⟨t.val + 1, h⟩) a ≠ cc0_transform_4 (grid0.coords t) a)) = decide (t.val % 7 = 6) := by
    decide +kernel
  intro t
  exact h t

theorem word_eq (pf : pre0.Contents (Elt F)) : pf.atD 1 ![0] = (pf 1 : Vec F S1 .i32) (ix1 0) :=
  (dif_pos (by decide)).trans (congrArg (pf 1) (funext fun a => by fin_cases a; rfl))

theorem idle_out (t : Fin grid0.N) : (cfgA A).idle 4 (grid0.coords t) = (!decide (t.val % 7 = 0) && !(liveAt A t == 1#1)) := by
  show (!(k0_cond1 (grid0.coords t) == 1#1) && !(k0_cond2 (grid0.coords t) (A.1.atD 1 ![0]) == 1#1)) = _
  rw [word_eq, show (k0_cond1 (grid0.coords t) == 1#1) = decide (t.val % 7 = 0) from by
    rw [Bool.eq_iff_iff, beq_iff_eq, decide_eq_true_iff]; exact first_iff t]
  rfl

/-- The output block is fresh at a row's first point and at no other. -/
theorem fresh_out (n : ℕ) (h : n ≤ grid0.N) : (cfgA A).fresh 4 n = decide (n % 7 = 0) := by
  refine Cfg.fresh_tab (cfgA A) 4 (fun n => decide (n % 7 = 0)) rfl (fun t => ?_) n h
  rw [flush_out, show (cfgA A).grid.coords t = grid0.coords t from rfl, idle_out]
  have : t.val % 7 < 7 := Nat.mod_lt _ (by decide)
  by_cases h0 : t.val % 7 = 0
  · have h1 : ¬ (t.val + 1) % 7 = 0 := by omega
    have h6 : ¬ t.val % 7 = 6 := by omega
    simp [h0, h1]
  · by_cases h6 : t.val % 7 = 6
    · have h1 : (t.val + 1) % 7 = 0 := by omega
      simp [h6, h1]
    · have h1 : ¬ (t.val + 1) % 7 = 0 := by omega
      simp [h0, h6, h1]

/-- The word for a row's being computed is one for all its points. -/
theorem live_pred (n : ℕ) (h : n + 1 < grid0.N) (h7 : (n + 1) % 7 ≠ 0) : liveAt A ⟨n, Nat.lt_of_succ_lt h⟩ = liveAt A ⟨n + 1, h⟩ := by
  unfold liveAt
  have : (grid0.coords ⟨n, Nat.lt_of_succ_lt h⟩ 0).val = (grid0.coords ⟨n + 1, h⟩ 0).val := by
    rw [coords_row, coords_row]; show n / 7 = (n + 1) / 7; omega
  unfold k0_cond2
  rw [this]

/-- The block of tokens is one for all of a row's points. -/
theorem tokens_pred (c : Dev nD) (n : ℕ) (h : n + 1 < grid0.N) (h7 : (n + 1) % 7 ≠ 0) :
    iblk m A c 0 ⟨n, Nat.lt_of_succ_lt h⟩ = iblk m A c 0 ⟨n + 1, h⟩ := by
  have e : ((cfgA A).win 0).index ⟨n, Nat.lt_of_succ_lt h⟩ = ((cfgA A).win 0).index ⟨n + 1, h⟩ :=
    hreads0_0 A.1 _ _ fun a ha => by
      match a with
      | ⟨0, _⟩ => exact Fin.ext ((coords_row ⟨n, Nat.lt_of_succ_lt h⟩).trans ((show n / 7 = (n + 1) / 7 by omega).trans (coords_row ⟨n + 1, h⟩).symm))
      | ⟨1, _⟩ => exact absurd ha Bool.false_ne_true
  funext y
  unfold iblk
  rw [View.read_apply, View.read_apply]
  refine congrArg (V m c main_arg2) (funext fun a => Fin.ext ?_)
  show ((cfgA A).win 0).index ⟨n, Nat.lt_of_succ_lt h⟩ a * _ + 1 * (y a).val = ((cfgA A).win 0).index ⟨n + 1, h⟩ a * _ + 1 * (y a).val
  rw [e]

theorem traj_carry (c : Dev nD) (t : Fin grid0.N) (h0 : t.val ≠ 0) (hi : (cfgA A).idle 4 (grid0.coords t) = true) :
    traj m A c t.val t.isLt = traj m A c (t.val - 1) (by omega) := by
  rw [idle_out, Bool.and_eq_true, Bool.not_eq_true', Bool.not_eq_true', beq_eq_false_iff_ne, decide_eq_false_iff_not] at hi
  obtain ⟨n, hn⟩ := t
  obtain _ | n := n
  · exact absurd rfl h0
  · show step m A c ⟨n + 1, hn⟩ _ = _
    unfold step output
    rw [if_neg hi.2, if_neg (by rw [decide_eq_true_iff]; exact hi.1)]
    rfl

theorem before_4 (c : Dev nD) (t : Fin grid0.N) (d) :
    (dats m A 0 c).before 4 t d = if t.val % 7 = 0 then d else traj m A c (t.val - 1) (by omega) := by
  rw [(dats m A 0 c).before_out_traj 4 rfl (fun _ _ => rfl) (fun t h0 hi _ => by
    rw [after_4, after_4]; exact traj_carry m A c t h0 hi) t.val t rfl d, fresh_out A t.val (Nat.le_of_lt t.isLt), after_4]
  simp only [decide_eq_true_iff]

/-! ## The body at a generic point -/

abbrev ms_0 (t : Fin grid0.N) : Memref sig .tc .vmem S1024x1024 .f32 := spec0_0.stage ((cfgA A).slots t 0)
abbrev ms_1 (t : Fin grid0.N) : Memref sig .tc .vmem S1x1024x512 .f32 := spec0_1.stage ((cfgA A).slots t 1)
abbrev ms_2 (t : Fin grid0.N) : Memref sig .tc .vmem S1x1024x512 .f32 := spec0_2.stage ((cfgA A).slots t 2)
abbrev ms_3 (t : Fin grid0.N) : Memref sig .tc .vmem S1x512x1024 .f32 := spec0_3.stage ((cfgA A).slots t 3)
abbrev ms_4 (t : Fin grid0.N) : Memref sig .tc .vmem S1024x1024 .f32 := spec0_4.stage ((cfgA A).slots t 4)

/-- The body as the pipeline calls it at point `t`. -/
def bodyAt (t : Fin grid0.N) : Prog (TpuEff nD τ sig (Elt F) Λ₀ .tc) PUnit :=
  cc0_moe_experts (grid0.coords t) (Memref.whole main_v11) (Memref.isWhole_whole _) (Memref.whole main_arg1) (Memref.isWhole_whole _)
    (ms_0 A t) (hstage0_0 (((cfgA A).slots t 0).cast nbuf0_0)) (ms_1 A t) (hstage0_1 (((cfgA A).slots t 1).cast nbuf0_1))
    (ms_2 A t) (hstage0_2 (((cfgA A).slots t 2).cast nbuf0_2)) (ms_3 A t) (hstage0_3 (((cfgA A).slots t 3).cast nbuf0_3))
    (ms_4 A t) (hstage0_4 (((cfgA A).slots t 4).cast nbuf0_4)) (Memref.whole cc0_scratch0) (Memref.isWhole_whole _)

theorem defs_row (t : Fin grid0.N) : defs₀ (F := F) .tc (cfgA A).body ((cfgA A).bodyArgs t ((cfgA A).slots t)) = bodyAt A t := by
  unfold defs₀; rw [Defs.onTc_tc]; rfl

/-- What the body is called with at point `t`, -/
def bodyPre (c : Dev nD) (t : Fin grid0.N) : sProp 𝕄 :=
  iprop(Phi m A c t.val ∗ (dats m A 0 c).owesAt () t.castSucc
    ∗ (∃ d, owns (c : Thread nD τ) (ms_0 A t) fullShare ((dats m A 0 c).before 0 t d))
    ∗ (∃ d, owns (c : Thread nD τ) (ms_1 A t) fullShare ((dats m A 0 c).before 1 t d))
    ∗ (∃ d, owns (c : Thread nD τ) (ms_2 A t) fullShare ((dats m A 0 c).before 2 t d))
    ∗ (∃ d, owns (c : Thread nD τ) (ms_3 A t) fullShare ((dats m A 0 c).before 3 t d))
    ∗ (∃ d, owns (c : Thread nD τ) (ms_4 A t) fullShare ((dats m A 0 c).before 4 t d)))

/-- and what it returns. -/
def bodyPost (c : Dev nD) (t : Fin grid0.N) : sProp 𝕄 :=
  iprop(Phi m A c (t.val + 1) ∗ (dats m A 0 c).owesAt () t.castSucc
    ∗ owns (c : Thread nD τ) (ms_0 A t) fullShare (iblk m A c 0 t)
    ∗ owns (c : Thread nD τ) (ms_1 A t) fullShare (iblk m A c 1 t)
    ∗ owns (c : Thread nD τ) (ms_2 A t) fullShare (iblk m A c 2 t)
    ∗ owns (c : Thread nD τ) (ms_3 A t) fullShare (iblk m A c 3 t)
    ∗ owns (c : Thread nD τ) (ms_4 A t) fullShare (traj m A c t.val t.isLt))

/-- The body's run at either kind of point. -/
theorem run_any (c : Dev nD) (t : Fin grid0.N) (o o' : Vec F S1024x1024 .f32) (s : Vec F S1024x1024 .bf16)
    (ho : output (decide (t.val % 7 = 0)) (liveAt A t) (iblk m A c 0 t) (iblk m A c 1 t) (iblk m A c 2 t) (iblk m A c 3 t) o s = o') (K : PUnit → sProp 𝕄) :
    iprop(owns (c : Thread nD τ) (Memref.whole main_arg1) fullShare.right (A.1 1) ∗ owns (c : Thread nD τ) (ms_0 A t) fullShare (iblk m A c 0 t) ∗ owns (c : Thread nD τ) (ms_1 A t) fullShare (iblk m A c 1 t) ∗ owns (c : Thread nD τ) (ms_2 A t) fullShare (iblk m A c 2 t) ∗ owns (c : Thread nD τ) (ms_3 A t) fullShare (iblk m A c 3 t) ∗ owns (c : Thread nD τ) (ms_4 A t) fullShare o ∗ owns (c : Thread nD τ) (Memref.whole cc0_scratch0) fullShare s
        ∗ (iprop(owns (c : Thread nD τ) (Memref.whole main_arg1) fullShare.right (A.1 1) ∗ owns (c : Thread nD τ) (ms_0 A t) fullShare (iblk m A c 0 t) ∗ owns (c : Thread nD τ) (ms_1 A t) fullShare (iblk m A c 1 t) ∗ owns (c : Thread nD τ) (ms_2 A t) fullShare (iblk m A c 2 t) ∗ owns (c : Thread nD τ) (ms_3 A t) fullShare (iblk m A c 3 t)
            ∗ owns (c : Thread nD τ) (ms_4 A t) fullShare o'
            ∗ owns (c : Thread nD τ) (Memref.whole cc0_scratch0) fullShare (scratch (decide (t.val % 7 = 0)) (liveAt A t) (iblk m A c 0 t) s)) -∗ K ⟨⟩))
      ⊢ wp frame (wpE (defs₀ (F := F)) Variants.none c none) Set.univ (bodyAt A t) K := by
  subst ho
  unfold bodyAt
  by_cases h : t.val % 7 = 0
  · rw [decide_eq_true h]
    exact run_first c (grid0.coords t) _ _ _ _ _ _ _ _ _ _ _ _ _ _ _ _ (A.1 1) _ _ _ _ o s ((first_iff t).2 h) Set.univ K
  · rw [decide_eq_false h]
    exact run_rest c (grid0.coords t) _ _ _ _ _ _ _ _ _ _ _ _ _ _ _ _ (A.1 1) _ _ _ _ o s (fun h' => h ((first_iff t).1 h')) Set.univ K

/-- What the point leaves in the output block is the recursion's next value. -/
theorem output_traj (c : Dev nD) (t : Fin grid0.N) (d : Vec F S1024x1024 .f32) (s : Vec F S1024x1024 .bf16)
    (hs : t.val % 7 ≠ 0 → liveAt A t = 1#1 → s = k0_pay2 (iblk m A c 0 t)) :
    output (decide (t.val % 7 = 0)) (liveAt A t) (iblk m A c 0 t) (iblk m A c 1 t) (iblk m A c 2 t) (iblk m A c 3 t)
      (if t.val % 7 = 0 then d else traj m A c (t.val - 1) (by omega)) s = traj m A c t.val t.isLt := by
  obtain ⟨n, hn⟩ := t
  by_cases h0 : n % 7 = 0
  · have e : ∀ o o' : Vec F S1024x1024 .f32, ∀ s s' : Vec F S1024x1024 .bf16, output (decide (n % 7 = 0)) (liveAt A ⟨n, hn⟩) (iblk m A c 0 ⟨n, hn⟩) (iblk m A c 1 ⟨n, hn⟩) (iblk m A c 2 ⟨n, hn⟩) (iblk m A c 3 ⟨n, hn⟩) o s
        = output (decide (n % 7 = 0)) (liveAt A ⟨n, hn⟩) (iblk m A c 0 ⟨n, hn⟩) (iblk m A c 1 ⟨n, hn⟩) (iblk m A c 2 ⟨n, hn⟩) (iblk m A c 3 ⟨n, hn⟩) o' s' := by
      intro o o' s s'
      rw [decide_eq_true h0]; rfl
    obtain _ | n := n
    · exact e _ _ _ _
    · exact e _ _ _ _
  · obtain _ | n := n
    · exact absurd rfl h0
    · rw [if_neg h0]
      show _ = step m A c ⟨n + 1, hn⟩ (traj m A c n _)
      unfold step
      by_cases hl : liveAt A ⟨n + 1, hn⟩ = 1#1
      · rw [hs h0 hl]; rfl
      · unfold output; rw [if_neg hl, if_neg hl]; rfl

/-- What the point leaves in the scratch is what the next point of the row asks for. -/
theorem scratch_next (c : Dev nD) (t : Fin grid0.N) (s : Vec F S1024x1024 .bf16)
    (hs : t.val % 7 ≠ 0 → liveAt A t = 1#1 → s = k0_pay2 (iblk m A c 0 t)) (h : t.val + 1 < grid0.N) (h7 : (t.val + 1) % 7 ≠ 0)
    (hl : liveAt A ⟨t.val + 1, h⟩ = 1#1) :
    scratch (decide (t.val % 7 = 0)) (liveAt A t) (iblk m A c 0 t) s = k0_pay2 (iblk m A c 0 ⟨t.val + 1, h⟩) := by
  have hl' : liveAt A t = 1#1 := (live_pred A t.val h h7).trans hl
  rw [← tokens_pred m A c t.val h h7]
  unfold scratch
  rw [if_pos hl']
  by_cases h0 : t.val % 7 = 0
  · rw [decide_eq_true h0]; rfl
  · rw [decide_eq_false h0, hs h0 hl']; rfl

set_option maxHeartbeats 1600000 in
theorem sound_body (c : Dev nD) (t : Fin grid0.N) :
    bodyPre m A c t ⊢ wp frame (wpE (defs₀ (F := F)) Variants.none c none) Set.univ (bodyAt A t) (fun _ => bodyPost m A c t) := by
  unfold bodyPre bodyPost
  simp only [before_0, before_1, before_2, before_3, before_4]
  unfold Phi
  iintro ⟨⟨⟨%s, %hs, HS⟩, Hg, HT0, HT1⟩, Ho, ⟨%d0, H0⟩, ⟨%d1, H1⟩, ⟨%d2, H2⟩, ⟨%d3, H3⟩, ⟨%d4, H4⟩⟩
  iapply (run_any m A c t _ _ s (output_traj m A c t d4 s (hs t.isLt)) _)
  isplitl [HT1]; · iexact HT1
  isplitl [H0]; · iexact H0
  isplitl [H1]; · iexact H1
  isplitl [H2]; · iexact H2
  isplitl [H3]; · iexact H3
  isplitl [H4]; · iexact H4
  isplitl [HS]; · iexact HS
  iintro ⟨HT1, H0, H1, H2, H3, H4, HS⟩
  isplitl [HS Hg HT0 HT1]
  · isplitl [HS]
    · iexists _; isplitr; swap; · iexact HS
      ipureintro; exact fun h h7 hl => scratch_next m A c t s (hs t.isLt) h h7 hl
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- What the pipeline asks of the output block after a point: what the point left, or, where a point neither writes
    to it nor has it written back, what it held. -/
def outAfter (c : Dev nD) (t : Fin grid0.N) : sProp 𝕄 :=
  match (cfgA A).idle 4 (grid0.coords t) with
  | true =>
    match ((cfgA A).win 4).flush t with
    | false => iprop(∃ d, owns (c : Thread nD τ) (ms_4 A t) fullShare ((dats m A 0 c).before 4 t d))
    | true => owns (c : Thread nD τ) (ms_4 A t) fullShare ((dats m A 0 c).after 4 t)
  | false => owns (c : Thread nD τ) (ms_4 A t) fullShare ((dats m A 0 c).after 4 t)

theorem out_after (c : Dev nD) (t : Fin grid0.N) :
    (owns (c : Thread nD τ) (ms_4 A t) fullShare (traj m A c t.val t.isLt) : sProp 𝕄) ⊢ outAfter m A c t := by
  unfold outAfter
  rw [after_4]
  cases hi : (cfgA A).idle 4 (grid0.coords t)
  · exact .rfl
  · cases hf : ((cfgA A).win 4).flush t
    · have h7 : ¬ t.val % 7 = 0 := by
        rw [idle_out, Bool.and_eq_true, Bool.not_eq_true', decide_eq_false_iff_not] at hi
        exact hi.1
      have e : (dats m A 0 c).before 4 t (traj m A c t.val t.isLt) = traj m A c t.val t.isLt := by
        refine (before_4 m A c t _).trans ((if_neg h7).trans ?_)
        exact (traj_carry m A c t (fun h => h7 (by rw [h])) hi).symm
      exact (Entails.of_eq (congrArg (owns (c : Thread nD τ) (ms_4 A t) fullShare) e.symm)).trans
        (exists_intro (Φ := fun d => owns (c : Thread nD τ) (ms_4 A t) fullShare ((dats m A 0 c).before 4 t d)) (traj m A c t.val t.isLt))
    · exact .rfl

theorem body_obligation (c : Dev nD) : BodyObligation (dats m A 0 c) (defs₀ (F := F)) Variants.none () Set.univ := fun t => by
  rw [bigSep_W0, bigSep_W0, defs_row]
  refine triple_restated (sound_body m A c t) rfl .rfl fun _ => ?_
  suffices h : bodyPost m A c t ⊢ iprop(Phi m A c (t.val + 1) ∗ (dats m A 0 c).owesAt () t.castSucc
    ∗ owns (c : Thread nD τ) (ms_0 A t) fullShare ((dats m A 0 c).after 0 t)
    ∗ owns (c : Thread nD τ) (ms_1 A t) fullShare ((dats m A 0 c).after 1 t)
    ∗ owns (c : Thread nD τ) (ms_2 A t) fullShare ((dats m A 0 c).after 2 t)
    ∗ owns (c : Thread nD τ) (ms_3 A t) fullShare ((dats m A 0 c).after 3 t)
    ∗ outAfter m A c t) from h
  rw [after_0, after_1, after_2, after_3]
  unfold bodyPost
  iintro ⟨HP, Ho, H0, H1, H2, H3, H4⟩
  isplitl [HP]; · iexact HP
  isplitl [Ho]; · iexact Ho
  isplitl [H0]; · iexact H0
  isplitl [H1]; · iexact H1
  isplitl [H2]; · iexact H2
  isplitl [H3]; · iexact H3
  iapply (out_after m A c t)
  iexact H4

/-! ## The run -/

/-- The tables as the launch hands them over, one by one. -/
theorem tables_eq (c : Dev nD) (v : pre0.Contents (Elt F)) :
    (Pipeline.ΦT pre0 v c : sProp 𝕄)
      = iprop((((c : Thread nD τ).loc main_v11) ↦{fullShare.right} v 0) ∗ (((c : Thread nD τ).loc main_arg1) ↦{fullShare.right} v 1)) := by
  unfold Pipeline.ΦT Pipeline.prefHeld
  rw [show (Finset.univ : Finset (Fin 2)) = {(0 : Fin 2), (1 : Fin 2)} from by decide, bigSep_insert (by decide), bigSep_singleton]
  rfl

/-- A whole buffer seen through its own view, and the buffer. -/
theorem owned_whole (c : Dev nD) (b : Ref sig .tc) (q : PosShare TreeShare) (f : b.ty.Contents (Elt F)) :
    (owns (c : Thread nD τ) (Memref.whole b) q f : sProp 𝕄) ⊣⊢ (((c : Thread nD τ).loc b) ↦{q} f) :=
  .of_eq (owns_whole _ _ _ _)

theorem Phi_first (c : Dev nD) : iprop(Pipeline.ΦA spec0 c ∗ Pipeline.ΦT pre0 A.1 c) ⊢ (dats m A 0 c).Φ 0 := by
  rw [tables_eq, show (dats m A 0 c).Φ 0 = Phi m A c 0 from rfl]
  unfold Pipeline.ΦA Phi
  rw [scopedRest0_eq]
  iintro ⟨⟨⟨%f, HS⟩, Hg⟩, HT0, HT1⟩
  isplitl [HS]
  · iexists f; isplitr
    · ipureintro; exact fun _ h => absurd rfl h
    · iapply (owned_whole c cc0_scratch0 fullShare f).2; iexact HS
  isplitl [Hg]; · iexact Hg
  isplitl [HT0]
  · iapply (owned_whole c main_v11 fullShare.right (A.1 0)).2; iexact HT0
  · iapply (owned_whole c main_arg1 fullShare.right (A.1 1)).2; iexact HT1

theorem Phi_last (c : Dev nD) : (dats m A 0 c).Φ (Fin.last (cfgA A).N) ⊢ Pipeline.ΦA spec0 c := by
  rw [show (dats m A 0 c).Φ (Fin.last (cfgA A).N) = Phi m A c grid0.N from rfl]
  unfold Pipeline.ΦA Phi
  rw [scopedRest0_eq]
  iintro ⟨⟨%s, -, HS⟩, Hg, -, -⟩
  isplitl [HS]
  · iexists s; iapply (owned_whole c cc0_scratch0 fullShare s).1; iexact HS
  iexact Hg

set_option backward.isDefEq.respectTransparency.types false in
/-- From any memory whose tables, at the region's entry, are `A`: the run ends, every array at what the book-keeping
    computes and every counter at zero. -/
theorem run_main (hA : ∀ c k, V m c (pre0.ref k) = A.1 k) :
    θ_run defs (onTc (τ := τ) (main (F := F))) (s₀ m ρ)
      (fun r => Pipeline.FramePost (Pipeline.pin pcfgs fun _ => A) (dats m A) 0 (V m) r ∧ r.2.sem = fun _ => 0) :=
  Pipeline.θ_run_frameP_track (Q' := _) pcfgs (fun _ => A) (dats m A) (0 : Fin 1) launch0 defs₀ Variants.none m ρ main
    (hbody := fun c => (body_obligation m A c).loose) (hshare := fun c => (dats m A 0 c).share_full fun _ => rfl)
    (howed := fun _ _ => rfl) (V := V m) (hmain := hmain m) (hA := A_eq m A) (hpf := hA) (hin := Phi_first m A) (hout := Phi_last m A)

end Cert.Experts
-- ==== Proof.Experts.Pre.lean ====
/- What the precondition says of the two tables: every tile's expert is one of the 16, and the number of tiles used is
   between 1 and 72. -/
module

public import proofs.«01_k».proof.Proof.Gen.Pre_routed
public import Idealize.ShloMosaic.Lib.Pointwise
public import Idealize.ShloMosaic.Lib.ReduceAll
public import Idealize.ShloMosaic.Lib.WordCmp

@[expose] public section

set_option maxRecDepth 16384

noncomputable section

namespace Cert.Experts

open Cert.Pre_routed Cert.Pre_routed.Facts Idealize.ShloMosaic

variable {F : FTy → Type} [FloatOps F]

/-- The tables, as words in range. -/
structure Routed (te : IVec S72 32) (nu : IVec S1 32) : Prop where
  expert : ∀ j : Fin 72, (te (ix1 j)).toNat < 16
  used_pos : 1 ≤ (nu (ix1 0)).toNat
  used_le : (nu (ix1 0)).toNat ≤ 72

/-- A word at least `a` and below `b`, signed, is so as a number. -/
theorem toNat_of_toInt (w : BitVec 32) (a b : ℕ) (ha : (a : ℤ) ≤ w.toInt) (hb : w.toInt ≤ b) : a ≤ w.toNat ∧ w.toNat ≤ b := by
  have h0 : w.toNat < 2 ^ 32 := w.isLt
  rw [BitVec.toInt_eq_toNat_cond] at ha hb
  split at ha <;> omega

/-- The printed precondition, decoded. -/
theorem routed [Facts] (a0 : IVec S72 32) (a1 : IVec S1 32) (a2 : FVec F S73728x1024 .f32) (a3 a4 : FVec F S16x1024x3584 .f32)
    (a5 : FVec F S16x3584x1024 .f32) (h : fn a0 a1 a2 a3 a4 a5 = fun _ => 1#1) : Routed a0 a1 := by
  have h := congrFun h ix0
  obtain ⟨ht, hn⟩ := IntOp.andi_eq_one.1 h
  have hn := IntOp.andi_eq_one.1 (Host.reduce_andi_all _ _ _ _ _ hn (ix1 0))
  have n1 : (1#32 : BitVec 32).toInt ≤ (a1 (ix1 0)).toInt := IntOp.cmpi_sge.1 hn.1
  have n2 : (a1 (ix1 0)).toInt ≤ (72#32 : BitVec 32).toInt := IntOp.cmpi_sle.1 hn.2
  obtain ⟨h1, h2⟩ := toNat_of_toInt (a1 (ix1 0)) 1 72 n1 n2
  refine ⟨fun j => ?_, h1, h2⟩
  have hj := IntOp.andi_eq_one.1 (Host.reduce_andi_all _ _ _ _ _ ht (ix1 j))
  have t1 : (0#32 : BitVec 32).toInt ≤ (a0 (ix1 j)).toInt := IntOp.cmpi_sge.1 hj.1
  have t2 : (a0 (ix1 j)).toInt < (16#32 : BitVec 32).toInt := IntOp.cmpi_slt.1 hj.2
  have := (toNat_of_toInt (a0 (ix1 j)) 0 15 t1 (Int.le_of_lt_add_one t2)).2
  omega

end Cert.Experts
end
-- ==== Proof.Experts.Tables.lean ====
module

public import proofs.«01_k».proof.Proof.Experts.Frame
public import proofs.«01_k».proof.Proof.Experts.Pre
public import Idealize.ShloMosaic.Lib.StableHlo.Run

/-!
# The two tables the launch is steered by

The host clamps the tile's number to the last live tile and looks the expert up there; the launch reads that table
and the number of live tiles. With the experts among the 16 and the count between 1 and 72, each window's block lies
inside its array, and its place is plain arithmetic.
-/

@[expose] public section

set_option maxRecDepth 16384

noncomputable section

namespace Cert.Experts

open Cert.Kernel2Ideal Cert.Kernel2Ideal.Gen
open Idealize.ShloMosaic Idealize.ShloMosaic.TcCoe Idealize.SL.Sem

variable {F : FTy → Type} [FloatOps F]

/-! ## Words -/

/-- The clamped tile number, as the host computes it. -/
def clampWord (j n : BitVec 32) : BitVec 32 :=
  Scalar.select (IntOp.cmpi .slt (IntOp.minsi j (IntOp.subi n 1#32)) 0#32) (IntOp.addi (IntOp.minsi j (IntOp.subi n 1#32)) 72#32)
    (IntOp.minsi j (IntOp.subi n 1#32))

theorem clampWord_val : ∀ (j : Fin 72) (n : Fin 73), 1 ≤ n.val →
    min (clampWord (BitVec.ofNat 32 j.val) (BitVec.ofNat 32 n.val)).toInt.toNat 71 = min j.val (n.val - 1) := by
  decide +kernel

theorem rowWord_val : ∀ (j : Fin 72) (n : Fin 73), 1 ≤ n.val →
    (Scalar.minsi (BitVec.ofNat 32 j.val) (Scalar.subi (BitVec.ofNat 32 n.val) 1#32)).toNat = min j.val (n.val - 1) := by
  decide +kernel

theorem stepWord_val : ∀ (j : Fin 72) (f : Fin 7) (n : Fin 73),
    (Scalar.select (Scalar.cmpi .slt (BitVec.ofNat 32 j.val) (BitVec.ofNat 32 n.val)) (BitVec.ofNat 32 f.val) 6#32).toNat
      = if j.val < n.val then f.val else 6 := by
  decide +kernel

/-! ## The host's lookup -/

/-- The lookup read at `j`: the table at the start word, read signed and clamped. -/
theorem gather_at (x : IVec S72 32) (idx : IVec S72x1 32) (j : Fin 72) :
    Host.gather gather_S72_S72x1_S72_n_0_n_n_0_1_1 x idx (ix1 j) = x (ix1 ⟨min (idx (ix2 j 0)).toInt.toNat 71, by omega⟩) := by
  unfold Host.gather
  congr 1
  funext a
  obtain rfl : a = 0 := Subsingleton.elim _ _
  refine Fin.ext ?_
  show GatherDims.start _ _ idx 0 + GatherDims.batchCoord _ _ 0 + GatherDims.offCoord _ _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S72_S72x1_S72_n_0_n_n_0_1_1.startIndexMap from List.mem_singleton.mpr rfl)]
  have hs : gather_S72_S72x1_S72_n_0_n_n_0_1_1.siIdx (ix1 j) ⟨List.idxOf (0 : Fin 1) gather_S72_S72x1_S72_n_0_n_n_0_1_1.startIndexMap,
      List.idxOf_lt_length_iff.2 (List.mem_singleton.mpr rfl)⟩ = ix2 j 0 := by
    funext b
    refine Fin.ext ?_
    match b with
    | ⟨0, _⟩ => rfl
    | ⟨1, _⟩ => rfl
  rw [hs]
  rfl

/-- The table of experts after the host's clamp. -/
def tileTable (te : IVec S72 32) (nu : IVec S1 32) : IVec S72 32 :=
  let v4 := minsi (iotaInDim S72 32 0) (broadcastInDim S72 ![] bcast_S_S72 (subi (shapeCast S_ nu shapeCasts_S1_S_) (constantI S_ 32 1#32)))
  Host.gather gather_S72_S72x1_S72_n_0_n_n_0_1_1 te (broadcastInDim S72x1 ![0] bcast_S72_S72x1_0
    (select (cmpi .slt v4 (broadcastInDim S72 ![] bcast_S_S72 (constantI S_ 32 0#32)))
      (addi v4 (broadcastInDim S72 ![] bcast_S_S72 (constantI S_ 32 72#32))) v4))

theorem start_at (nu : IVec S1 32) (j : Fin 72) :
    (broadcastInDim S72x1 ![0] bcast_S72_S72x1_0
      (select (cmpi .slt (minsi (iotaInDim S72 32 0) (broadcastInDim S72 ![] bcast_S_S72 (subi (shapeCast S_ nu shapeCasts_S1_S_) (constantI S_ 32 1#32))))
          (broadcastInDim S72 ![] bcast_S_S72 (constantI S_ 32 0#32)))
        (addi (minsi (iotaInDim S72 32 0) (broadcastInDim S72 ![] bcast_S_S72 (subi (shapeCast S_ nu shapeCasts_S1_S_) (constantI S_ 32 1#32))))
          (broadcastInDim S72 ![] bcast_S_S72 (constantI S_ 32 72#32)))
        (minsi (iotaInDim S72 32 0) (broadcastInDim S72 ![] bcast_S_S72 (subi (shapeCast S_ nu shapeCasts_S1_S_) (constantI S_ 32 1#32)))))
      : IVec S72x1 32) (ix2 j 0) = clampWord (BitVec.ofNat 32 j.val) (nu (ix1 0)) := by
  pointwise [clampWord]

/-- Tile `j` takes the expert of the last live tile, if it is past it. -/
theorem tileTable_at (te : IVec S72 32) (nu : IVec S1 32) (h : Routed te nu) (j : Fin 72) :
    tileTable te nu (ix1 j) = te (ix1 ⟨min j.val ((nu (ix1 0)).toNat - 1), by omega⟩) := by
  unfold tileTable
  refine (gather_at te _ j).trans (congrArg te (congrArg ix1 (Fin.ext ?_)))
  show min (BitVec.toInt _).toNat 71 = _
  rw [start_at]
  have e := clampWord_val j ⟨(nu (ix1 0)).toNat, by have := h.used_le; omega⟩ h.used_pos
  simp only [BitVec.ofNat_toNat, BitVec.setWidth_eq] at e
  exact e

/-! ## The arrays as the launch finds them -/

section
variable (m : (ℓ : Loc nD τ sig) → Buf (Elt F) ℓ) (c : Dev nD)

theorem V_table : V m c main_v11 = tileTable (m ((c : Thread nD τ).loc main_arg0)) (m ((c : Thread nD τ).loc main_arg1)) := by
  unfold V
  simp only [hostOps0]
  after_results_simp <;> rfl

theorem V_arg0 : V m c main_arg0 = m ((c : Thread nD τ).loc main_arg0) := by
  unfold V; simp only [hostOps0]; after_results_simp <;> rfl
theorem V_arg1 : V m c main_arg1 = m ((c : Thread nD τ).loc main_arg1) := by
  unfold V; simp only [hostOps0]; after_results_simp <;> rfl
theorem V_arg2 : V m c main_arg2 = m ((c : Thread nD τ).loc main_arg2) := by
  unfold V; simp only [hostOps0]; after_results_simp <;> rfl
theorem V_arg3 : V m c main_arg3 = m ((c : Thread nD τ).loc main_arg3) := by
  unfold V; simp only [hostOps0]; after_results_simp <;> rfl
theorem V_arg4 : V m c main_arg4 = m ((c : Thread nD τ).loc main_arg4) := by
  unfold V; simp only [hostOps0]; after_results_simp <;> rfl
theorem V_arg5 : V m c main_arg5 = m ((c : Thread nD τ).loc main_arg5) := by
  unfold V; simp only [hostOps0]; after_results_simp <;> rfl

end

/-! ## The blocks' places -/

/-- What the launch needs of its tables: experts among the 16, and the count of live tiles. -/
structure Steered (pf : pre0.Contents (Elt F)) (n : ℕ) : Prop where
  expert : ∀ j : Fin 72, ((pf 0 : IVec S72 32) (ix1 j)).toNat < 16
  count : (pf 1 : IVec S1 32) (ix1 0) = BitVec.ofNat 32 n
  pos : 1 ≤ n
  le : n ≤ 72

variable (pf : pre0.Contents (Elt F)) {n : ℕ}

theorem count_read : pf.at 1 (Rect.unit (s := S1) ![0] S1.size inb_S1_S1_0) numel1_S1 = (pf 1 : IVec S1 32) (ix1 0) :=
  congrArg (pf 1) (funext fun a => by fin_cases a; rfl)

theorem expert_read (i : grid0.Coords) :
    pf.at 0 (Rect.unit (s := S72) (k0_off1 i) S1.size (k0_off1_inb i)) numel1_S1 = (pf 0 : IVec S72 32) (ix1 ⟨(i 0).val, (i 0).isLt⟩) := by
  refine congrArg (pf 0) (funext fun a => Fin.ext ?_)
  fin_cases a
  have h : (i 0).val < 72 := (i 0).isLt
  show (BitVec.ofNat 32 (i 0).val).toNat + 1 * 0 = (i 0).val
  rw [BitVec.toNat_ofNat]; omega

theorem index_0 (h : Steered pf n) (i : grid0.Coords) : ix0 pf 0 i = ![min (i 0).val (n - 1), 0] := by
  show ![(Scalar.minsi (BitVec.ofNat 32 (i 0).val) (Scalar.subi (pf.at 1 _ _) 1#32)).toNat, 0] = _
  rw [count_read, h.count]
  exact congrArg (fun z => ![z, 0]) (rowWord_val ⟨(i 0).val, (i 0).isLt⟩ ⟨n, Nat.lt_succ_of_le h.le⟩ h.pos)

theorem index_1 (h : Steered pf n) (i : grid0.Coords) :
    ix0 pf 1 i = ![((pf 0 : IVec S72 32) (ix1 ⟨(i 0).val, (i 0).isLt⟩)).toNat, 0, if (i 0).val < n then (i 1).val else 6] := by
  show ![BitVec.toNat (pf.at 0 (Rect.unit (s := S72) (k0_off1 i) S1.size (k0_off1_inb i)) numel1_S1), 0,
    (Scalar.select (Scalar.cmpi .slt (BitVec.ofNat 32 (i 0).val) (pf.at 1 _ _)) (BitVec.ofNat 32 (i 1).val) 6#32).toNat] = _
  rw [count_read, h.count, expert_read]
  exact congrArg (fun z => ![_, 0, z]) (stepWord_val ⟨(i 0).val, (i 0).isLt⟩ ⟨(i 1).val, (i 1).isLt⟩ ⟨n, Nat.lt_succ_of_le h.le⟩)

theorem index_3 (h : Steered pf n) (i : grid0.Coords) :
    ix0 pf 3 i = ![((pf 0 : IVec S72 32) (ix1 ⟨(i 0).val, (i 0).isLt⟩)).toNat, if (i 0).val < n then (i 1).val else 6, 0] := by
  show ![BitVec.toNat (pf.at 0 (Rect.unit (s := S72) (k0_off1 i) S1.size (k0_off1_inb i)) numel1_S1),
    (Scalar.select (Scalar.cmpi .slt (BitVec.ofNat 32 (i 0).val) (pf.at 1 _ _)) (BitVec.ofNat 32 (i 1).val) 6#32).toNat, 0] = _
  rw [count_read, h.count, expert_read]
  exact congrArg (fun z => ![_, z, 0]) (stepWord_val ⟨(i 0).val, (i 0).isLt⟩ ⟨(i 1).val, (i 1).isLt⟩ ⟨n, Nat.lt_succ_of_le h.le⟩)

/-- So every block lies inside its array. -/
theorem ok_of (h : Steered pf n) : ok0 pf := by
  have hn := h.le
  have up : ∀ i : grid0.Coords, ∀ a, (ix0 pf 1 i a + 1) * S1x1024x512.size a ≤ S16x1024x3584.size a := fun i a => by
    have he := h.expert ⟨(i 0).val, (i 0).isLt⟩
    have hf : (i 1).val < 7 := (i 1).isLt
    rw [index_1 pf h i]
    match a with
    | ⟨0, _⟩ => show (((pf 0 : IVec S72 32) (ix1 ⟨(i 0).val, (i 0).isLt⟩)).toNat + 1) * 1 ≤ 16; omega
    | ⟨1, _⟩ => show (0 + 1) * 1024 ≤ 1024; omega
    | ⟨2, _⟩ => show ((if (i 0).val < n then (i 1).val else 6) + 1) * 512 ≤ 3584; split <;> omega
  refine ⟨fun i => ⟨fun a => ?_, .inl rfl⟩, fun i => ⟨up i, .inl rfl⟩, fun i => ⟨up i, .inl rfl⟩, fun i => ⟨fun a => ?_, .inl rfl⟩⟩
  · show (ix0 pf 0 i a + 1) * S1024x1024.size a ≤ S73728x1024.size a
    rw [index_0 pf h i]
    match a with
    | ⟨0, _⟩ => show (min (i 0).val (n - 1) + 1) * 1024 ≤ 73728; omega
    | ⟨1, _⟩ => show (0 + 1) * 1024 ≤ 1024; omega
  · show (ix0 pf 3 i a + 1) * S1x512x1024.size a ≤ S16x3584x1024.size a
    have he := h.expert ⟨(i 0).val, (i 0).isLt⟩
    have hf : (i 1).val < 7 := (i 1).isLt
    rw [index_3 pf h i]
    match a with
    | ⟨0, _⟩ => show (((pf 0 : IVec S72 32) (ix1 ⟨(i 0).val, (i 0).isLt⟩)).toNat + 1) * 1 ≤ 16; omega
    | ⟨1, _⟩ => show ((if (i 0).val < n then (i 1).val else 6) + 1) * 512 ≤ 3584; split <;> omega
    | ⟨2, _⟩ => show (0 + 1) * 1024 ≤ 1024; omega

/-- Whether a point's tile is live, as a comparison of numbers. -/
theorem liveWord_val : ∀ (j : Fin 72) (n : Fin 73),
    Scalar.cmpi .ne (Scalar.extui (Scalar.cmpi .slt (BitVec.ofNat 32 j.val) (BitVec.ofNat 32 n.val)) : BitVec 32) 0#32 = 1#1 ↔ j.val < n.val := by
  decide +kernel

theorem liveAt_iff (A : (pcfg0 (F := F)).Adm) (h : Steered A.1 n) (t : Fin grid0.N) : liveAt A t = 1#1 ↔ t.val / 7 < n := by
  unfold liveAt
  rw [h.count, ← coords_row t]
  exact liveWord_val ⟨(grid0.coords t 0).val, (grid0.coords t 0).isLt⟩ ⟨n, Nat.lt_succ_of_le h.le⟩

/-! ## The tables of a run -/

section
variable (m : (ℓ : Loc nD τ sig) → Buf (Elt F) ℓ)
  (h : Routed (m (((0 : Dev nD) : Thread nD τ).loc main_arg0)) (m (((0 : Dev nD) : Thread nD τ).loc main_arg1)))

/-- The number of live tiles. -/
def used : ℕ := ((m (((0 : Dev nD) : Thread nD τ).loc main_arg1) : IVec S1 32) (ix1 0)).toNat

/-- The tables' contents when the launch starts. -/
def tables : pre0.Contents (Elt F) := fun k => V m 0 (pre0.ref k)

theorem tables_expert (j : Fin 72) : (tables m 0 : IVec S72 32) (ix1 j)
    = tileTable (m (((0 : Dev nD) : Thread nD τ).loc main_arg0)) (m (((0 : Dev nD) : Thread nD τ).loc main_arg1)) (ix1 j) :=
  congrFun (V_table m 0) (ix1 j)

include h in
theorem steered : Steered (tables m) (used m) where
  expert j := by
    rw [tables_expert, tileTable_at _ _ h]
    exact h.expert _
  count := by
    refine (congrFun (V_arg1 m 0) (ix1 0)).trans ?_
    unfold used
    rw [BitVec.ofNat_toNat, BitVec.setWidth_eq]
  pos := h.used_pos
  le := h.used_le

/-- The tables with their side condition. -/
def adm : (pcfg0 (F := F)).Adm := ⟨tables m, ok_of (tables m) (steered m h)⟩

theorem adm_eq (c : Dev nD) (k : Fin 2) : V m c (pre0.ref k) = (adm m h).1 k := by
  obtain rfl : c = 0 := Subsingleton.elim _ _
  rfl

end

end Cert.Experts
end
-- ==== Proof.Experts.Args.lean ====
/- After the experts' launch: the arguments hold what they held, and every counter is zero. -/
module

public import proofs.«01_k».proof.Proof.Experts.Tables

@[expose] public section

set_option maxRecDepth 16384

noncomputable section

namespace Cert.Experts

open Cert.Kernel2Ideal Cert.Kernel2Ideal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)
  (h : Routed (m (((0 : Dev nD) : Thread nD τ).loc main_arg0)) (m (((0 : Dev nD) : Thread nD τ).loc main_arg1)))

/-- The arguments of core `c` at the end are those at the start. -/
def Kept (r : (ℓ : Loc nD τ sig) → Buf (Elt F) ℓ) (c : Dev nD) : Prop :=
  r ((c : Thread nD τ).loc main_arg0) = m ((c : Thread nD τ).loc main_arg0)
    ∧ r ((c : Thread nD τ).loc main_arg1) = m ((c : Thread nD τ).loc main_arg1)
    ∧ r ((c : Thread nD τ).loc main_arg2) = m ((c : Thread nD τ).loc main_arg2)
    ∧ r ((c : Thread nD τ).loc main_arg3) = m ((c : Thread nD τ).loc main_arg3)
    ∧ r ((c : Thread nD τ).loc main_arg4) = m ((c : Thread nD τ).loc main_arg4)
    ∧ r ((c : Thread nD τ).loc main_arg5) = m ((c : Thread nD τ).loc main_arg5)

theorem rest_arg0 : main_arg0 ∈ Pipeline.restRefs sig spec0 := by decide
theorem rest_arg1 : main_arg1 ∈ Pipeline.restRefs sig spec0 := by decide

include h in
/-- The run ends with the result at what the book-keeping computes, the arguments kept and the counters at zero. -/
theorem run : θ_run (defs (F := F)) (onTc (τ := τ) (main (F := F))) ⟨m, fun _ => 0, ρ⟩
    (fun r => (∀ c : Dev nD, r.2.mem ((c : Thread nD τ).loc main_v12) = (dats m (adm m h) 0 c).arrAt 4 (cfgA (adm m h)).N ∧ Kept m r.2.mem c)
      ∧ r.2.sem = fun _ => 0) :=
  (θ_run (defs (F := F)) _ _).mono (fun r hr => ⟨fun c =>
    ⟨(hr.1 c).1 4,
     ((hr.1 c).2 main_arg0 rest_arg0).trans (V_arg0 m c),
     ((hr.1 c).2 main_arg1 rest_arg1).trans (V_arg1 m c),
     ((hr.1 c).1 0).trans (((dats m (adm m h) 0 c).arrAt_in 0 rfl _).trans ((A_eq m (adm m h) c 0).trans (V_arg2 m c))),
     ((hr.1 c).1 1).trans (((dats m (adm m h) 0 c).arrAt_in 1 rfl _).trans ((A_eq m (adm m h) c 1).trans (V_arg3 m c))),
     ((hr.1 c).1 2).trans (((dats m (adm m h) 0 c).arrAt_in 2 rfl _).trans ((A_eq m (adm m h) c 2).trans (V_arg4 m c))),
     ((hr.1 c).1 3).trans (((dats m (adm m h) 0 c).arrAt_in 3 rfl _).trans ((A_eq m (adm m h) c 3).trans (V_arg5 m c)))⟩, hr.2⟩)
    (run_main m ρ (adm m h) (adm_eq m h))

end Cert.Experts
end
-- ==== Proof.Experts.Words.lean ====
/- The experts' kernel as printed for words is, term for term, the one printed for exact reals, so what is proved of the
   latter at any elements is proved of the former. -/
module

public import proofs.«01_k».proof.Proof.Experts.Args
public import proofs.«01_k».proof.Proof.Gen.Kernel2
public import proofs.«01_k».proof.Proof.Gen.Kernel2.Launch

@[expose] public section

set_option maxRecDepth 16384

noncomputable section

namespace Cert.Experts.Words

open Idealize.ShloMosaic Idealize.ShloMosaic.TcCoe Idealize.SL.Sem

variable {F : FTy → Type} [FloatOps F]

theorem kernels_same : (Cert.Kernel2.defs₀ (F := F)) = Cert.Kernel2Ideal.defs₀ (F := F) :=
  congrArg Defs.onTc (funext fun
    | ⟨0, _⟩ => funext fun ⟨_, _⟩ => rfl
    | ⟨n + 1, h⟩ => absurd h (by omega))

theorem calls_same : (Cert.Kernel2.pcfgs (F := F)) = Cert.Kernel2Ideal.pcfgs (F := F) := rfl

theorem defs_same : (Cert.Kernel2.defs (F := F)) = Cert.Kernel2Ideal.defs (F := F) :=
  congrArg (Pipeline.defs Cert.Kernel2Ideal.pcfgs) kernels_same

theorem main_same : (Cert.Kernel2.main (F := F)) = Cert.Kernel2Ideal.main (F := F) :=
  funext fun c => (Cert.Kernel2.Gen.main_chain c).trans (Cert.Kernel2Ideal.Gen.main_chain c).symm

section
open Cert.Kernel2Ideal

theorem run_of (D : Defs nD τ sig (Elt F) (Pipeline.Sig Λ₀ (Fin 1) fun p => (pcfgs (F := F) p).Adm))
    (M : Dev nD → Prog (TpuEff nD τ sig (Elt F) (Pipeline.Sig Λ₀ (Fin 1) fun p => (pcfgs (F := F) p).Adm) .tc) PUnit)
    (hD : D = defs (F := F)) (hM : M = main (F := F)) (m : (ℓ : Loc nD τ sig) → Buf (Elt F) ℓ) (ρ : Dev nD → PrngReg)
    (h : Routed (m (((0 : Dev nD) : Thread nD τ).loc main_arg0)) (m (((0 : Dev nD) : Thread nD τ).loc main_arg1))) :
    θ_run D (onTc (τ := τ) M) ⟨m, fun _ => 0, ρ⟩ (fun r => (∀ c : Dev nD, Kept m r.2.mem c) ∧ r.2.sem = fun _ => 0) := by
  rw [hD, hM]
  exact (θ_run (defs (F := F)) _ _).mono (fun r hr => ⟨fun c => (hr.1 c).2, hr.2⟩) (run m ρ h)

end

open Cert.Kernel2

/-- The printed kernel runs, keeps its arguments and ends with every counter at zero. -/
theorem run (m : (ℓ : Loc nD τ sig) → Buf (Elt F) ℓ) (ρ : Dev nD → PrngReg)
    (h : Routed (m (((0 : Dev nD) : Thread nD τ).loc main_arg0)) (m (((0 : Dev nD) : Thread nD τ).loc main_arg1))) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  run_of (defs (F := F)) (main (F := F)) defs_same main_same m ρ h

end Cert.Experts.Words
end
-- ==== Proof.Experts.Gated.lean ====
/- The gated network of one expert over exact reals, and what one grid point adds of it to the output block. -/
module

public import proofs.«01_k».proof.Proof.Experts.Args
public import Idealize.ShloMosaic.Lib.Pointwise

@[expose] public section

set_option maxRecDepth 16384

noncomputable section

namespace Cert.Experts

open Cert.Kernel2Ideal Cert.Kernel2Ideal.Gen
open Idealize.ShloMosaic Idealize.ShloMosaic.TcCoe

/-- A gate's swish times the matching value. -/
def gated (g u : EReal) : EReal := g * Ideal.div 1 (1 + Ideal.exp (-g)) * u

/-- Hidden unit `k` of expert `e` at row `r`. -/
def hidden (x : Vec Ideal S73728x1024 .f32) (wg wu : Vec Ideal S16x1024x3584 .f32) (e : Fin 16) (r : Fin 73728) (k : Fin 3584) : EReal :=
  gated (∑ d : Fin 1024, x (ix2 r d) * wg (ix3 e d k)) (∑ d : Fin 1024, x (ix2 r d) * wu (ix3 e d k))

/-- Hidden unit `k`'s part of column `q` of the expert's output; nothing past the last unit. -/
def part (x : Vec Ideal S73728x1024 .f32) (wg wu : Vec Ideal S16x1024x3584 .f32) (wd : Vec Ideal S16x3584x1024 .f32)
    (e : Fin 16) (r : Fin 73728) (q : Fin 1024) (k : ℕ) : EReal :=
  if h : k < 3584 then hidden x wg wu e r ⟨k, h⟩ * wd (ix3 e ⟨k, h⟩ q) else 0

theorem zeros_at (p q : Fin 1024) : (k0_pay1 (F := Ideal)) (ix2 p q) = 0 := by
  pointwise [k0_pay1, Ideal.ofBits_zero_f32]

theorem tokens_narrowed (x : Vec Ideal S1024x1024 .f32) (p d : Fin 1024) : k0_pay2 x (ix2 p d) = x (ix2 p d) := by
  pointwise [k0_pay2]

theorem added_at (x : Vec Ideal S1024x1024 .bf16) (wg wu : Vec Ideal S1x1024x512 .f32) (o : Vec Ideal S1024x1024 .f32) (wd : Vec Ideal S1x512x1024 .f32)
    (p q : Fin 1024) :
    k0_pay3 x wg wu o wd (ix2 p q) = o (ix2 p q) + ∑ k : Fin 512,
      gated (∑ d : Fin 1024, x (ix2 p d) * wg (ix3 0 d k)) (∑ d : Fin 1024, x (ix2 p d) * wu (ix3 0 d k)) * wd (ix3 0 k q) := by
  unfold gated
  pointwise [k0_pay3, Ideal.ofBits_zero_f32, Ideal.ofBits_one_f32, zero_sub]

end Cert.Experts
end
-- ==== Proof.Experts.Sum.lean ====
/- What the output block holds after each point: in a live row of blocks the sum over the hidden units so far, in a dead
   one zeros. -/
module

public import proofs.«01_k».proof.Proof.Experts.Gated

@[expose] public section

set_option maxRecDepth 16384

noncomputable section

namespace Cert.Experts

open Cert.Kernel2Ideal Cert.Kernel2Ideal.Gen
open Idealize.ShloMosaic Idealize.ShloMosaic.TcCoe
open Idealize.ShloMosaic.Pipeline (Dat)

variable (m : (ℓ : Loc nD τ sig) → Buf (Elt Ideal) ℓ) (A : (pcfg0 (F := Ideal)).Adm) (c : Dev nD) {n : ℕ} (h : Steered A.1 n)

/-- The expert that the table gives tile `j`. -/
def expertAt (j : Fin 72) : Fin 16 := ⟨((A.1 0 : IVec S72 32) (ix1 j)).toNat, h.expert j⟩

theorem tile_lt (t : Fin grid0.N) : t.val / 7 < 72 := by have := lt_of_lt_of_eq t.isLt N_0; omega

theorem row_coord (t : Fin grid0.N) (j : Fin 72) (hj : t.val / 7 = j.val) :
    (⟨(grid0.coords t 0).val, (grid0.coords t 0).isLt⟩ : Fin 72) = j := Fin.ext ((coords_row t).trans hj)

/-- Hidden unit `k`'s part at row `p` of tile `j`. -/
abbrev partAt (j : Fin 72) (p q : Fin 1024) (k : ℕ) : EReal :=
  part (m ((c : Thread nD τ).loc main_arg2)) (m ((c : Thread nD τ).loc main_arg3)) (m ((c : Thread nD τ).loc main_arg4)) (m ((c : Thread nD τ).loc main_arg5))
    (expertAt A h j) ⟨j.val * 1024 + p.val, by omega⟩ q k

theorem part_of_lt (j : Fin 72) (p q : Fin 1024) (k : ℕ) (hk : k < 3584) : partAt m A c h j p q k
    = hidden (m ((c : Thread nD τ).loc main_arg2)) (m ((c : Thread nD τ).loc main_arg3)) (m ((c : Thread nD τ).loc main_arg4)) (expertAt A h j)
        ⟨j.val * 1024 + p.val, by omega⟩ ⟨k, hk⟩ * (m ((c : Thread nD τ).loc main_arg5) : Vec Ideal S16x3584x1024 .f32) (ix3 (expertAt A h j) ⟨k, hk⟩ q) :=
  dif_pos hk

section
variable (t : Fin grid0.N) (j : Fin 72) (hj : t.val / 7 = j.val) (hl : j.val < n)
include h hj hl

theorem tokens_at (p d : Fin 1024) : (iblk m A c 0 t : Vec Ideal S1024x1024 .f32) (ix2 p d)
    = (m ((c : Thread nD τ).loc main_arg2) : Vec Ideal S73728x1024 .f32) (ix2 ⟨j.val * 1024 + p.val, by omega⟩ d) := by
  unfold iblk
  rw [View.read_apply]
  refine (congrFun (V_arg2 m c) _).trans (congrArg (m ((c : Thread nD τ).loc main_arg2)) (funext fun a => Fin.ext ?_))
  have e := index_0 A.1 h (grid0.coords t)
  rw [coords_row, hj, min_eq_left (by omega)] at e
  match a with
  | ⟨0, _⟩ => show ix0 A.1 0 (grid0.coords t) 0 * 1024 + 1 * p.val = j.val * 1024 + p.val; rw [e]; show j.val * 1024 + 1 * p.val = _; omega
  | ⟨1, _⟩ => show ix0 A.1 0 (grid0.coords t) 1 * 1024 + 1 * d.val = d.val; rw [e]; show 0 * 1024 + 1 * d.val = _; omega

theorem gates_at (d : Fin 1024) (k : Fin 512) : (iblk m A c 1 t : Vec Ideal S1x1024x512 .f32) (ix3 0 d k)
    = (m ((c : Thread nD τ).loc main_arg3) : Vec Ideal S16x1024x3584 .f32) (ix3 (expertAt A h j) d ⟨t.val % 7 * 512 + k.val, by omega⟩) := by
  unfold iblk
  rw [View.read_apply]
  refine (congrFun (V_arg3 m c) _).trans (congrArg (m ((c : Thread nD τ).loc main_arg3)) (funext fun a => Fin.ext ?_))
  have e := index_1 A.1 h (grid0.coords t)
  rw [row_coord t j hj, coords_row, coords_col, if_pos (by omega)] at e
  match a with
  | ⟨0, _⟩ => show ix0 A.1 1 (grid0.coords t) 0 * 1 + 1 * 0 = (expertAt A h j).val; rw [e]; show ((A.1 0 : IVec S72 32) (ix1 j)).toNat * 1 + 1 * 0 = _; unfold expertAt; dsimp only; omega
  | ⟨1, _⟩ => show ix0 A.1 1 (grid0.coords t) 1 * 1024 + 1 * d.val = d.val; rw [e]; show 0 * 1024 + 1 * d.val = _; omega
  | ⟨2, _⟩ => show ix0 A.1 1 (grid0.coords t) 2 * 512 + 1 * k.val = t.val % 7 * 512 + k.val; rw [e]; show t.val % 7 * 512 + 1 * k.val = _; omega

theorem values_at (d : Fin 1024) (k : Fin 512) : (iblk m A c 2 t : Vec Ideal S1x1024x512 .f32) (ix3 0 d k)
    = (m ((c : Thread nD τ).loc main_arg4) : Vec Ideal S16x1024x3584 .f32) (ix3 (expertAt A h j) d ⟨t.val % 7 * 512 + k.val, by omega⟩) := by
  unfold iblk
  rw [View.read_apply]
  refine (congrFun (V_arg4 m c) _).trans (congrArg (m ((c : Thread nD τ).loc main_arg4)) (funext fun a => Fin.ext ?_))
  have e : ix0 A.1 2 (grid0.coords t) = _ := index_1 A.1 h (grid0.coords t)
  rw [row_coord t j hj, coords_row, coords_col, if_pos (by omega)] at e
  match a with
  | ⟨0, _⟩ => show ix0 A.1 2 (grid0.coords t) 0 * 1 + 1 * 0 = (expertAt A h j).val; rw [e]; show ((A.1 0 : IVec S72 32) (ix1 j)).toNat * 1 + 1 * 0 = _; unfold expertAt; dsimp only; omega
  | ⟨1, _⟩ => show ix0 A.1 2 (grid0.coords t) 1 * 1024 + 1 * d.val = d.val; rw [e]; show 0 * 1024 + 1 * d.val = _; omega
  | ⟨2, _⟩ => show ix0 A.1 2 (grid0.coords t) 2 * 512 + 1 * k.val = t.val % 7 * 512 + k.val; rw [e]; show t.val % 7 * 512 + 1 * k.val = _; omega

theorem outs_at (k : Fin 512) (q : Fin 1024) : (iblk m A c 3 t : Vec Ideal S1x512x1024 .f32) (ix3 0 k q)
    = (m ((c : Thread nD τ).loc main_arg5) : Vec Ideal S16x3584x1024 .f32) (ix3 (expertAt A h j) ⟨t.val % 7 * 512 + k.val, by omega⟩ q) := by
  unfold iblk
  rw [View.read_apply]
  refine (congrFun (V_arg5 m c) _).trans (congrArg (m ((c : Thread nD τ).loc main_arg5)) (funext fun a => Fin.ext ?_))
  have e := index_3 A.1 h (grid0.coords t)
  rw [row_coord t j hj, coords_row, coords_col, if_pos (by omega)] at e
  match a with
  | ⟨0, _⟩ => show ix0 A.1 3 (grid0.coords t) 0 * 1 + 1 * 0 = (expertAt A h j).val; rw [e]; show ((A.1 0 : IVec S72 32) (ix1 j)).toNat * 1 + 1 * 0 = _; unfold expertAt; dsimp only; omega
  | ⟨1, _⟩ => show ix0 A.1 3 (grid0.coords t) 1 * 512 + 1 * k.val = t.val % 7 * 512 + k.val; rw [e]; show t.val % 7 * 512 + 1 * k.val = _; omega
  | ⟨2, _⟩ => show ix0 A.1 3 (grid0.coords t) 2 * 1024 + 1 * q.val = q.val; rw [e]; show 0 * 1024 + 1 * q.val = _; omega

/-- A live point adds its 512 hidden units' parts. -/
theorem step_live (o : Vec Ideal S1024x1024 .f32) (p q : Fin 1024) :
    step m A c t o (ix2 p q) = (if t.val % 7 = 0 then 0 else o (ix2 p q))
      + ∑ k ∈ Finset.range 512, partAt m A c h j p q (t.val % 7 * 512 + k) := by
  have hlive : liveAt A t = 1#1 := (liveAt_iff A h t).2 (by omega)
  have e : step m A c t o = k0_pay3 (k0_pay2 (iblk m A c 0 t)) (iblk m A c 1 t) (iblk m A c 2 t)
      (if t.val % 7 = 0 then (k0_pay1 (F := Ideal)) else o) (iblk m A c 3 t) := by
    unfold step output
    rw [if_pos hlive, ite_self]
    simp only [decide_eq_true_iff]
  rw [e, added_at, Finset.sum_range]
  refine congrArg₂ (· + ·) ?_ (Finset.sum_congr rfl fun k _ => ?_)
  · split
    · exact zeros_at p q
    · rfl
  · rw [part_of_lt m A c h j p q _ (by omega), outs_at m A c h t j hj hl]
    refine congrArg (· * _) ?_
    unfold hidden
    refine congrArg₂ gated (Finset.sum_congr rfl fun d _ => ?_) (Finset.sum_congr rfl fun d _ => ?_)
    · rw [tokens_narrowed, tokens_at m A c h t j hj hl, gates_at m A c h t j hj hl]
    · rw [tokens_narrowed, tokens_at m A c h t j hj hl, values_at m A c h t j hj hl]

end

include h in
/-- A dead point leaves zeros at a row's start and else what there was. -/
theorem step_dead (t : Fin grid0.N) (hl : ¬ t.val / 7 < n) (o : Vec Ideal S1024x1024 .f32) :
    step m A c t o = if t.val % 7 = 0 then (k0_pay1 (F := Ideal)) else o := by
  have hlive : ¬ liveAt A t = 1#1 := fun e => hl ((liveAt_iff A h t).1 e)
  unfold step output
  rw [if_neg hlive]
  simp only [decide_eq_true_iff]

include h in
/-- In a live row the block holds the hidden units' parts up to and with the point's. -/
theorem traj_live (j : Fin 72) (hl : j.val < n) (p q : Fin 1024) : ∀ (t : ℕ) (ht : t < grid0.N), t / 7 = j.val →
    traj m A c t ht (ix2 p q) = ∑ k ∈ Finset.range (t % 7 * 512 + 512), partAt m A c h j p q k
  | 0, ht, hj => by
    refine (step_live m A c h ⟨0, ht⟩ j hj hl (k0_pay1 (F := Ideal)) p q).trans ?_
    show 0 + ∑ k ∈ Finset.range 512, partAt m A c h j p q (0 * 512 + k) = ∑ k ∈ Finset.range (0 * 512 + 512), _
    simp only [Nat.zero_mul, Nat.zero_add, zero_add]
  | t + 1, ht, hj => by
    refine (step_live m A c h ⟨t + 1, ht⟩ j hj hl _ p q).trans ?_
    by_cases h7 : (t + 1) % 7 = 0
    · rw [if_pos h7]
      dsimp only
      rw [h7]
      simp only [Nat.zero_mul, Nat.zero_add, zero_add]
    · have hj' : t / 7 = j.val := by omega
      rw [if_neg h7, traj_live j hl p q t (Nat.lt_of_succ_lt ht) hj', show t % 7 * 512 + 512 = (t + 1) % 7 * 512 by omega, Finset.sum_range_add]

include h in
/-- In a dead row it holds zeros. -/
theorem traj_dead : ∀ (t : ℕ) (ht : t < grid0.N), ¬ t / 7 < n → traj m A c t ht = (k0_pay1 (F := Ideal))
  | 0, ht, hl => step_dead m A c h ⟨0, ht⟩ hl (k0_pay1 (F := Ideal))
  | t + 1, ht, hl => by
    refine (step_dead m A c h ⟨t + 1, ht⟩ hl _).trans ?_
    by_cases h7 : (t + 1) % 7 = 0
    · exact if_pos h7
    · exact (if_neg h7).trans (traj_dead t (Nat.lt_of_succ_lt ht) (by omega))

end Cert.Experts
end
-- ==== Proof.Experts.Array.lean ====
/- What the experts' result array holds after the run: each block of rows is written after its tile's last point. -/
module

public import proofs.«01_k».proof.Proof.Experts.Sum
public import Idealize.ShloMosaic.Lib.Pipeline.ValueKit.Geometry

@[expose] public section

set_option maxRecDepth 16384

noncomputable section

namespace Cert.Experts

open Cert.Kernel2Ideal Cert.Kernel2Ideal.Gen
open Idealize.ShloMosaic Idealize.ShloMosaic.TcCoe
open Idealize.ShloMosaic.Pipeline (Dat)

/-- The experts' output: a row of a tile in use is put through the tile's expert, any other row is zeros. -/
def result (te : IVec S72 32) (nu : IVec S1 32) (x : Vec Ideal S73728x1024 .f32) (wg wu : Vec Ideal S16x1024x3584 .f32) (wd : Vec Ideal S16x3584x1024 .f32)
    (h : Routed te nu) : S73728x1024.Idx → EReal := fun i =>
  if (i 0).val / 1024 < (nu (ix1 0)).toNat then
    ∑ k ∈ Finset.range 3584, part x wg wu wd ⟨(te (ix1 ⟨(i 0).val / 1024, by have : (i 0).val < 73728 := (i 0).isLt; omega⟩)).toNat, h.expert _⟩ (i 0) (i 1) k
  else 0

variable (m : (ℓ : Loc nD τ sig) → Buf (Elt Ideal) ℓ) (c : Dev nD)
  (h : Routed (m (((0 : Dev nD) : Thread nD τ).loc main_arg0)) (m (((0 : Dev nD) : Thread nD τ).loc main_arg1)))

/-- The result array of core `c`. -/
abbrev final : S73728x1024.Idx → EReal :=
  result (m (((0 : Dev nD) : Thread nD τ).loc main_arg0)) (m (((0 : Dev nD) : Thread nD τ).loc main_arg1)) (m ((c : Thread nD τ).loc main_arg2))
    (m ((c : Thread nD τ).loc main_arg3)) (m ((c : Thread nD τ).loc main_arg4)) (m ((c : Thread nD τ).loc main_arg5)) h

/-- A live tile's expert is the one its own entry of the table names. -/
theorem expert_live (j : Fin 72) (hl : j.val < used m) :
    expertAt (adm m h) (steered m h) j = ⟨((m (((0 : Dev nD) : Thread nD τ).loc main_arg0) : IVec S72 32) (ix1 j)).toNat, h.expert j⟩ := by
  have e : (tables m 0 : IVec S72 32) (ix1 j) = (m (((0 : Dev nD) : Thread nD τ).loc main_arg0) : IVec S72 32) (ix1 j) := by
    have hl' : j.val < ((m (((0 : Dev nD) : Thread nD τ).loc main_arg1) : IVec S1 32) (ix1 0)).toNat := hl
    refine (tables_expert m j).trans ((tileTable_at _ _ h j).trans (congrArg (fun z => (m (((0 : Dev nD) : Thread nD τ).loc main_arg0) : IVec S72 32) (ix1 z)) (Fin.ext ?_)))
    dsimp only
    omega
  have e' := congrArg BitVec.toNat e
  exact Fin.ext e'

theorem part_congr (x : Vec Ideal S73728x1024 .f32) (wg wu : Vec Ideal S16x1024x3584 .f32) (wd : Vec Ideal S16x3584x1024 .f32)
    {e e' : Fin 16} (he : e = e') (r : Fin 73728) (q : Fin 1024) (k : ℕ) : part x wg wu wd e r q k = part x wg wu wd e' r q k := by rw [he]

theorem out_index : ∀ t : Fin grid0.N, cc0_transform_4 (grid0.coords t) 0 = t.val / 7 ∧ cc0_transform_4 (grid0.coords t) 1 = 0 := by
  decide +kernel

/-- What a tile's last point leaves in the output block is the result array's block. -/
theorem block_eq (t : Fin grid0.N) (h6 : t.val % 7 = 6) (p q : Fin 1024) :
    traj m (adm m h) c t.val t.isLt (ix2 p q) = final m c h (ix2 ⟨t.val / 7 * 1024 + p.val, by have := tile_lt t; omega⟩ q) := by
  have ht := tile_lt t
  have e : (t.val / 7 * 1024 + p.val) / 1024 = t.val / 7 := by omega
  by_cases hl : t.val / 7 < used m
  · rw [traj_live m (adm m h) c (steered m h) ⟨t.val / 7, ht⟩ hl p q t.val t.isLt rfl, h6]
    refine Eq.trans ?_ (if_pos (show (t.val / 7 * 1024 + p.val) / 1024 < used m by omega)).symm
    refine Finset.sum_congr rfl fun k _ => ?_
    unfold partAt
    rw [expert_live m h _ hl]
    exact part_congr _ _ _ _ (Fin.ext (congrArg (fun z => ((m (((0 : Dev nD) : Thread nD τ).loc main_arg0) : IVec S72 32) (ix1 z)).toNat) (Fin.ext e.symm))) _ q k
  · rw [traj_dead m (adm m h) c (steered m h) t.val t.isLt hl]
    exact (zeros_at p q).trans (if_neg (show ¬ (t.val / 7 * 1024 + p.val) / 1024 < used m by omega)).symm

theorem written_at (t : Fin grid0.N) (h6 : t.val % 7 = 6) (y : S1024x1024.Idx) :
    traj m (adm m h) c t.val t.isLt y = final m c h ((((cfgA (adm m h)).win 4).blk t).view.emb y) := by
  have hy : y = ix2 ⟨(y 0).val, (y 0).isLt⟩ ⟨(y 1).val, (y 1).isLt⟩ := by
    funext a; match a with | ⟨0, _⟩ => rfl | ⟨1, _⟩ => rfl
  refine (congrArg (traj m (adm m h) c t.val t.isLt) hy).trans ((block_eq m c h t h6 _ _).trans (congrArg (final m c h) (funext fun a => Fin.ext ?_)))
  match a with
  | ⟨0, _⟩ => show t.val / 7 * 1024 + (y 0).val = cc0_transform_4 (grid0.coords t) 0 * 1024 + 1 * (y 0).val; rw [(out_index t).1]; omega
  | ⟨1, _⟩ => show (y 1).val = cc0_transform_4 (grid0.coords t) 1 * 1024 + 1 * (y 1).val; rw [(out_index t).2]; omega

theorem covered (i : S73728x1024.Idx) : ∃ t : Fin grid0.N, ((cfgA (adm m h)).win 4).flush t = true ∧ i ∈ (((cfgA (adm m h)).win 4).blk t).view.set := by
  have h0 : (i 0 : Nat) < 73728 := (i 0).isLt
  have h1 : (i 1 : Nat) < 1024 := (i 1).isLt
  have ht : (i 0 : Nat) / 1024 * 7 + 6 < grid0.N := by rw [N_0]; omega
  have ho := out_index ⟨(i 0 : Nat) / 1024 * 7 + 6, ht⟩
  dsimp only at ho
  refine ⟨⟨(i 0 : Nat) / 1024 * 7 + 6, ht⟩, (flush_out (adm m h) _).trans (decide_eq_true (by show ((i 0 : Nat) / 1024 * 7 + 6) % 7 = 6; omega)), ?_⟩
  refine (Pipeline.Window.emb_mem_blk_iff ((cfgA (adm m h)).win 4) ⟨(i 0 : Nat) / 1024 * 7 + 6, ht⟩ i).mpr fun a => ?_
  match a with
  | ⟨0, _⟩ =>
    show cc0_transform_4 (grid0.coords ⟨(i 0 : Nat) / 1024 * 7 + 6, ht⟩) 0 * 1024 ≤ (i 0 : Nat)
      ∧ (i 0 : Nat) < cc0_transform_4 (grid0.coords ⟨(i 0 : Nat) / 1024 * 7 + 6, ht⟩) 0 * 1024 + 1024
    rw [ho.1]; omega
  | ⟨1, _⟩ =>
    show cc0_transform_4 (grid0.coords ⟨(i 0 : Nat) / 1024 * 7 + 6, ht⟩) 1 * 1024 ≤ (i 1 : Nat)
      ∧ (i 1 : Nat) < cc0_transform_4 (grid0.coords ⟨(i 0 : Nat) / 1024 * 7 + 6, ht⟩) 1 * 1024 + 1024
    rw [ho.2]; omega

/-- After the run the result array is `final`. -/
theorem final_eq : (dats m (adm m h) 0 c).arrAt 4 (cfgA (adm m h)).N = final m c h := by
  refine (dats m (adm m h) 0 c).arrAt_eq_of_emb 4 (final m c h) (fun t hf y => ?_) (covered m h)
  have h6 : t.val % 7 = 6 := of_decide_eq_true ((flush_out (adm m h) t).symm.trans hf)
  rw [after_4]
  exact written_at m c h t h6 y

end Cert.Experts
end
-- ==== Proof.Experts.Reference.lean ====
/- What the experts' reference computes, read at an index. -/
module

public import proofs.«01_k».proof.Proof.Gen.Reference2Ideal.Run
public import Idealize.ShloMosaic.Lib.Pointwise
public import Idealize.ShloMosaic.Lib.IdealHost

@[expose] public section

set_option maxRecDepth 16384

noncomputable section

namespace Cert.Experts.Ref

open Cert.Reference2Ideal Cert.Reference2Ideal.Gen Idealize.ShloMosaic Idealize.ShloMosaic.TcCoe Idealize.SL.Sem

variable (te : IVec S72 32) (nu : IVec S1 32) (x : FVec Ideal S73728x1024 .f32) (wg wu w : FVec Ideal S16x1024x3584 .f32) (wd : FVec Ideal S16x3584x1024 .f32)

/-- Every expert's gate for every row. -/
def gates : FVec Ideal S16x73728 .f32 :=
  select (andi
      (cmpi .eq (broadcastInDim S16x73728 ![0, 1] bcast_S16x1_S16x73728_0_1 (broadcastInDim S16x1 ![0] bcast_S16_S16x1_0 (iotaInDim S16 32 0)))
        (broadcastInDim S16x73728 ![0, 1] bcast_S1x73728_S16x73728_0_1 (broadcastInDim S1x73728 ![1] bcast_S73728_S1x73728_1
          (shapeCast _ (broadcastInDim S72x1024 ![0] bcast_S72_S72x1024_0 te) shapeCasts_S72x1024_S73728))))
      (broadcastInDim S16x73728 ![0, 1] bcast_S1x73728_S16x73728_0_1 (broadcastInDim S1x73728 ![1] bcast_S73728_S1x73728_1
        (shapeCast _ (broadcastInDim S72x1024 ![0] bcast_S72_S72x1024_0 (cmpi .slt (iotaInDim S72 32 0)
          (broadcastInDim S72 ![] bcast_S_S72 (shapeCast _ nu shapeCasts_S1_S_)))) shapeCasts_S72x1024_S73728))))
    (broadcastInDim S16x73728 ![] bcast_S_S16x73728 (constant S_ .f32 0x3F800000#32)) (broadcastInDim S16x73728 ![] bcast_S_S16x73728 (constant S_ .f32 0x00000000#32))

/-- Every row's product with every expert's matrix. -/
def product : FVec Ideal S16x73728x3584 .f32 :=
  transpose S16x73728x3584 [0, 2, 1] (Host.dotGeneral dot_S16x1024x3584_S73728x1024_S16x3584x73728_1_1_02_0_n_n none w x) transposes_S16x3584x73728_S16x73728x3584_0_2_1

/-- The swish. -/
def swish (a : FVec Ideal S16x73728x3584 .f32) : FVec Ideal S16x73728x3584 .f32 :=
  mulf a (Host.divf (broadcastInDim S16x73728x3584 ![] bcast_S_S16x73728x3584 (constant S_ .f32 0x3F800000#32))
    (addf (broadcastInDim S16x73728x3584 ![] bcast_S_S16x73728x3584 (constant S_ .f32 0x3F800000#32)) (Host.exp (Host.negf a))))

/-- Every expert's output for every row. -/
def outputs (b : FVec Ideal S16x73728x3584 .f32) : FVec Ideal S16x73728x1024 .f32 :=
  Host.dotGeneral dot_S16x73728x3584_S16x3584x1024_S16x73728x1024_2_1_1_2_0_0 none b wd

/-- The outputs weighed by the gates. -/
def weighed (g : FVec Ideal S16x73728 .f32) (y : FVec Ideal S16x73728x1024 .f32) : FVec Ideal S16x73728x1024 .f32 :=
  mulf (broadcastInDim S16x73728x1024 ![0, 1, 2] bcast_S16x73728x1_S16x73728x1024_0_1_2 (id (broadcastInDim S16x73728x1 ![0, 1] bcast_S16x73728_S16x73728x1_0_1 g))) y

/-- Their sum over the experts. -/
def total (y : FVec Ideal S16x73728x1024 .f32) : FVec Ideal S73728x1024 .f32 :=
  Host.reduceAdd y (constant S_ .f32 0x00000000#32) reducesTo_S16x73728x1024_S73728x1024_d0 h_S_

/-- The reference's result. -/
def output : FVec Ideal S73728x1024 .f32 :=
  total (weighed (gates te nu) (outputs wd (mulf (swish (product x wg)) (product x wu))))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = output (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

theorem gates_at (e : Fin 16) (r : Fin 73728) : gates te nu (ix2 e r)
    = if BitVec.ofNat 32 e.val = te (ix1 ⟨r.val / 1024, by omega⟩) ∧ (BitVec.ofNat 32 (r.val / 1024)).toInt < (nu (ix1 0)).toInt then 1 else 0 := by
  pointwise [gates, Ideal.ofBits_zero_f32, Ideal.ofBits_one_f32]
  exact if_congr (IntOp.andi_eq_one.trans (and_congr IntOp.cmpi_eq IntOp.cmpi_slt)) rfl rfl

theorem product_at (e : Fin 16) (r : Fin 73728) (k : Fin 3584) : product x w (ix3 e r k) = ∑ d : Fin 1024, w (ix3 e d k) * x (ix2 r d) := by
  pointwise [product]

theorem swish_at (a : FVec Ideal S16x73728x3584 .f32) (e : Fin 16) (r : Fin 73728) (k : Fin 3584) :
    swish a (ix3 e r k) = a (ix3 e r k) * Ideal.div 1 (1 + Ideal.exp (-a (ix3 e r k))) := by
  pointwise [swish, Ideal.ofBits_one_f32]

theorem outputs_at (b : FVec Ideal S16x73728x3584 .f32) (e : Fin 16) (r : Fin 73728) (q : Fin 1024) :
    outputs wd b (ix3 e r q) = ∑ k : Fin 3584, b (ix3 e r k) * wd (ix3 e k q) := by
  pointwise [outputs]

theorem weighed_at (g : FVec Ideal S16x73728 .f32) (y : FVec Ideal S16x73728x1024 .f32) (e : Fin 16) (r : Fin 73728) (q : Fin 1024) :
    weighed g y (ix3 e r q) = g (ix2 e r) * y (ix3 e r q) := by
  pointwise [weighed, id_eq]

theorem total_at (y : FVec Ideal S16x73728x1024 .f32) (r : Fin 73728) (q : Fin 1024) :
    total y (ix2 r q) = ∑ e : Fin 16, y (ix3 e r q) := by
  pointwise [total, Ideal.ofBits_zero_f32]

end Cert.Experts.Ref
end
-- ==== Proof.Experts.Meet.lean ====
/- The experts' result array is the reference's: the gates pick out the tile's expert in a tile in use, and no expert
   elsewhere. -/
module

public import proofs.«01_k».proof.Proof.Experts.Array
public import proofs.«01_k».proof.Proof.Experts.Reference

@[expose] public section

set_option maxRecDepth 16384

noncomputable section

namespace Cert.Experts

open Cert.Kernel2Ideal Idealize.ShloMosaic Idealize.ShloMosaic.TcCoe

variable (te : IVec S72 32) (nu : IVec S1 32) (x : FVec Ideal S73728x1024 .f32) (wg wu : FVec Ideal S16x1024x3584 .f32) (wd : FVec Ideal S16x3584x1024 .f32)
  (h : Routed te nu)

include h in
/-- The gate of expert `e` is open for the rows of the tiles in use that have it. -/
theorem gate_open (e : Fin 16) (r : Fin 73728) : Ref.gates te nu (ix2 e r)
    = if e = ⟨(te (ix1 ⟨r.val / 1024, by omega⟩)).toNat, h.expert _⟩ ∧ r.val / 1024 < (nu (ix1 0)).toNat then 1 else 0 := by
  have h72 := h.used_le
  refine (Ref.gates_at te nu e r).trans (if_congr (and_congr ?_ ?_) rfl rfl)
  · rw [← BitVec.toNat_inj, BitVec.toNat_ofNat, Nat.mod_eq_of_lt (by omega), Fin.ext_iff]
  · rw [BitVec.toInt_eq_toNat_of_lt (by rw [BitVec.toNat_ofNat]; omega), BitVec.toInt_eq_toNat_of_lt (by omega), BitVec.toNat_ofNat,
      Nat.mod_eq_of_lt (by omega)]
    exact Int.ofNat_lt

/-- An expert's output for a row, as the reference computes it. -/
theorem expert_output (e : Fin 16) (r : Fin 73728) (q : Fin 1024) :
    Ref.outputs wd (mulf (Ref.swish (Ref.product x wg)) (Ref.product x wu)) (ix3 e r q) = ∑ k ∈ Finset.range 3584, part x wg wu wd e r q k := by
  rw [Ref.outputs_at, Finset.sum_range]
  refine Finset.sum_congr rfl fun k _ => ?_
  unfold part
  rw [dif_pos k.isLt]
  refine congrArg (· * _) ?_
  show Ref.swish (Ref.product x wg) (ix3 e r k) * Ref.product x wu (ix3 e r k) = _
  rw [Ref.swish_at, Ref.product_at, Ref.product_at]
  unfold hidden gated
  simp only [mul_comm]

theorem output_at (r : Fin 73728) (q : Fin 1024) : Ref.output te nu x wg wu wd (ix2 r q) = result te nu x wg wu wd h (ix2 r q) := by
  unfold Ref.output
  rw [Ref.total_at]
  have e : ∀ e : Fin 16, Ref.weighed (Ref.gates te nu) (Ref.outputs wd (mulf (Ref.swish (Ref.product x wg)) (Ref.product x wu))) (ix3 e r q)
      = (if e = ⟨(te (ix1 ⟨r.val / 1024, by omega⟩)).toNat, h.expert _⟩ ∧ r.val / 1024 < (nu (ix1 0)).toNat then 1 else 0)
        * ∑ k ∈ Finset.range 3584, part x wg wu wd e r q k := fun e => by
    rw [Ref.weighed_at, gate_open te nu h, expert_output]
  rw [Finset.sum_congr rfl fun z _ => e z]
  by_cases hl : r.val / 1024 < (nu (ix1 0)).toNat
  · refine Eq.trans ?_ (if_pos hl).symm
    simp only [hl, and_true, ite_mul, one_mul, zero_mul, Finset.sum_ite_eq', Finset.mem_univ, if_true]
    rfl
  · refine Eq.trans ?_ (if_neg hl).symm
    simp only [hl, and_false, if_false, zero_mul, Finset.sum_const_zero]

/-- The reference's result is the kernel's. -/
theorem output_eq : Ref.output te nu x wg wu wd = result te nu x wg wu wd h := funext fun i => by
  have hi : i = ix2 ⟨(i 0).val, (i 0).isLt⟩ ⟨(i 1).val, (i 1).isLt⟩ := by
    funext a; match a with | ⟨0, _⟩ => rfl | ⟨1, _⟩ => rfl
  exact (congrArg (Ref.output te nu x wg wu wd) hi).trans ((output_at te nu x wg wu wd h _ _).trans (congrArg (result te nu x wg wu wd h) hi.symm))

end Cert.Experts
end
-- ==== Proof.Dense.Row.lean ====
/- One row of the output projection and the dense feed-forward, as functions of the row's numbers. -/
module

public import proofs.«01_k».proof.Proof.Gen.Kernel3Ideal.Value
public import Idealize.ShloMosaic.Lib.Pointwise

@[expose] public section

set_option maxRecDepth 16384

noncomputable section

namespace Cert.Dense

open Idealize.ShloMosaic

/-- A number with a branch's output added to it through a gate. -/
def added (x g b : EReal) : EReal := x + g * b

/-- Column `q` of a row divided by the root of its mean square, scaled and shifted. -/
def normed (a n s t : Fin 1024 → EReal) (q : Fin 1024) : EReal :=
  a q * Ideal.rsqrt (Ideal.div (∑ k : Fin 1024, a k * a k) (Ideal.ofBits .f32 0x44800000#32) + Ideal.ofBits .f32 0x358637BD#32)
    * n q * (1 + s q) + t q

/-- A gate's swish times the matching value. -/
def gated (g u : EReal) : EReal := g * Ideal.div 1 (1 + Ideal.exp (-g)) * u

/-- Column `q` of the feed-forward of a row. -/
def forward (h : Fin 1024 → EReal) (wg wu : Fin 1024 → Fin 2816 → EReal) (wd : Fin 2816 → Fin 1024 → EReal) (q : Fin 1024) : EReal :=
  ∑ k : Fin 2816, gated (∑ d : Fin 1024, h d * wg d k) (∑ d : Fin 1024, h d * wu d k) * wd k q

end Cert.Dense
end
-- ==== Proof.Dense.Ops.lean ====
/- What one grid point of the output projection computes, operation by operation, each at an index. -/
module

public import proofs.«01_k».proof.Proof.Dense.Row

@[expose] public section

set_option maxRecDepth 16384

noncomputable section

namespace Cert.Dense

open Cert.Kernel3Ideal Cert.Kernel3Ideal.Gen Idealize.ShloMosaic Idealize.ShloMosaic.TcCoe

section Ops
variable (oa ob : Vec Ideal S1x512x256 .bf16) (wa wb : Vec Ideal S512x1024 .bf16) (x : Vec Ideal S1x256x1024 .f32) (g s t : Vec Ideal S1x1x1024 .f32)
  (n : Vec Ideal S1x1024 .f32)

theorem projected_at (r : Fin 256) (q : Fin 1024) : k0_pay2 oa wa ob wb x g (ix2 r q)
    = added (x (ix3 0 r q)) (g (ix3 0 0 q)) (∑ j : Fin 512, oa (ix3 0 j r) * wa (ix2 j q) + ∑ j : Fin 512, ob (ix3 0 j r) * wb (ix2 j q)) := by
  unfold added
  pointwise [k0_pay2, Ideal.ofBits_zero_f32]

theorem projected_eq : k0_pay8 oa wa ob wb x g = k0_pay2 oa wa ob wb x g := rfl

theorem kept_at (r : Fin 256) (q : Fin 1024) : k0_pay3 oa wa ob wb x g (ix2 r q) = k0_pay2 oa wa ob wb x g (ix2 r q) := by
  pointwise [k0_pay3]

theorem kept_eq : k0_pay9 (k0_pay2 oa wa ob wb x g) = k0_pay3 oa wa ob wb x g := rfl

theorem squares_at (r : Fin 256) : k0_pay6 oa wa ob wb x g (ix2 r 0)
    = ∑ k : Fin 1024, k0_pay2 oa wa ob wb x g (ix2 r k) * k0_pay2 oa wa ob wb x g (ix2 r k) := by
  pointwise [k0_pay6, Ideal.ofBits_zero_f32]

theorem normed_at (a : FVec Ideal S256x1024 .f32) (r : Fin 256) (q : Fin 1024) :
    k0_pay10 a n s t (ix2 r q) = normed (fun k => a (ix2 r k)) (fun k => n (ix2 0 k)) (fun k => s (ix3 0 0 k)) (fun k => t (ix3 0 0 k)) q := by
  unfold normed
  pointwise [k0_pay10, Ideal.ofBits_zero_f32, Ideal.ofBits_one_f32]

theorem normed_eq : k0_pay7 (k0_pay2 oa wa ob wb x g) n (k0_pay4 s) (k0_pay5 t) (k0_pay6 oa wa ob wb x g) (FloatOps.ofBits .f32 0x44800000#32)
    = k0_pay10 (k0_pay2 oa wa ob wb x g) n s t := rfl
end Ops

section Ffn
variable (h : Vec Ideal S512x1024 .bf16) (wg wu : Vec Ideal S1x1024x2816 .bf16) (wd : Vec Ideal S1x2816x1024 .bf16) (a : Vec Ideal S512x1024 .f32) (g : Vec Ideal S1x1x1024 .f32)

theorem output_at (u : Fin 1) (r : Fin 512) (q : Fin 1024) : k0_pay1 h (k0_pay11 h wg) wu wd a g (ix3 u r q)
    = added (a (ix2 r q)) (g (ix3 0 0 q))
        (forward (fun d => h (ix2 r d)) (fun d k => wg (ix3 0 d k)) (fun d k => wu (ix3 0 d k)) (fun k q => wd (ix3 0 k q)) q) := by
  unfold added forward gated
  pointwise [k0_pay1, k0_pay11, Ideal.ofBits_zero_f32, Ideal.ofBits_one_f32, zero_sub]
end Ffn

end Cert.Dense
end
-- ==== Proof.Dense.Block.lean ====
/- What one grid point leaves in the output's block: the two halves of the rows, projected and normed one after the other,
   are read back whole for the feed-forward. -/
module

public import proofs.«01_k».proof.Proof.Dense.Ops
public import Idealize.ShloMosaic.Lib.Pipeline.ReadBack

@[expose] public section

set_option maxRecDepth 16384

noncomputable section

namespace Cert.Dense

open Cert.Kernel3Ideal Cert.Kernel3Ideal.Gen Idealize.ShloMosaic Idealize.ShloMosaic.TcCoe
open kernelRun0_A

/-! ## Loads of the input blocks -/

/-- A load of 256 columns of the heads' outputs. -/
theorem heads_at (a : Memref sig .tc .vmem S1x512x512 .bf16) (h : a.IsWhole) (x : Vec Ideal S1x512x512 .bf16) (o : ℕ) (ho : o + 256 ≤ 512)
    (inb : ∀ a : Fin 3, ![0, 0, o] a + S1x512x256.size a ≤ S1x512x512.size a) (j : Fin 512) (r : Fin 256) :
    (View.readAt (Elt Ideal) a.view (Rect.unit (s := S1x512x512) ![0, 0, o] S1x512x256.size inb).toLoadRect (h.unread x) : Vec Ideal S1x512x256 .bf16) (ix3 0 j r)
      = x (ix3 0 j ⟨o + r.val, by omega⟩) := by
  pointwise [View.readAt_eq_ld, Memref.IsWhole.read_unread]

/-- A load of 512 rows of the output matrix. -/
theorem matrix_at (a : Memref sig .tc .vmem S1024x1024 .bf16) (h : a.IsWhole) (x : Vec Ideal S1024x1024 .bf16) (o : ℕ) (ho : o + 512 ≤ 1024)
    (inb : ∀ a : Fin 2, ![o, 0] a + S512x1024.size a ≤ S1024x1024.size a) (j : Fin 512) (q : Fin 1024) :
    (View.readAt (Elt Ideal) a.view (Rect.unit (s := S1024x1024) ![o, 0] S512x1024.size inb).toLoadRect (h.unread x) : Vec Ideal S512x1024 .bf16) (ix2 j q)
      = x (ix2 ⟨o + j.val, by omega⟩ q) := by
  pointwise [View.readAt_eq_ld, Memref.IsWhole.read_unread]

/-- A load of 256 rows of the stream. -/
theorem stream_at (a : Memref sig .tc .vmem S1x512x1024 .f32) (h : a.IsWhole) (x : Vec Ideal S1x512x1024 .f32) (o : ℕ) (ho : o + 256 ≤ 512)
    (inb : ∀ a : Fin 3, ![0, o, 0] a + S1x256x1024.size a ≤ S1x512x1024.size a) (r : Fin 256) (q : Fin 1024) :
    (View.readAt (Elt Ideal) a.view (Rect.unit (s := S1x512x1024) ![0, o, 0] S1x256x1024.size inb).toLoadRect (h.unread x) : Vec Ideal S1x256x1024 .f32) (ix3 0 r q)
      = x (ix3 0 ⟨o + r.val, by omega⟩ q) := by
  pointwise [View.readAt_eq_ld, Memref.IsWhole.read_unread]

/-- A load of a whole block. -/
theorem whole_eq {s : Shape} {e : EltTy} (a : Memref sig .tc .vmem s e) (h : a.IsWhole) (x : Vec Ideal s e) {off : Fin s.rank → ℕ} (ho : ∀ a, off a = 0)
    (inb : ∀ a, off a + s.size a ≤ s.size a) : View.readAt (Elt Ideal) a.view (Rect.unit off s.size inb).toLoadRect (h.unread x) = x := by
  rw [View.readAt_eq_ld, h.read_unread]
  exact View.ld_unit_lit inb x ho

/-- What is read back whole after the two halves of the rows are stored. -/
theorem halves_at {e : EltTy} (v : View sig .tc .vmem S512x1024 e) (G : S512x1024.Idx → Elt Ideal e) (w0 w1 : S256x1024.Idx → Elt Ideal e)
    (inb0 : ∀ a : Fin 2, ![0, 0] a + S256x1024.size a ≤ S512x1024.size a) (inb1 : ∀ a : Fin 2, ![256, 0] a + S256x1024.size a ≤ S512x1024.size a)
    (inb : ∀ a : Fin 2, ![0, 0] a + S512x1024.size a ≤ S512x1024.size a)
    (e0 : ∀ (r : Fin 256) (q : Fin 1024), w0 (ix2 r q) = G (ix2 ⟨0 + r.val, by omega⟩ q))
    (e1 : ∀ (r : Fin 256) (q : Fin 1024), w1 (ix2 r q) = G (ix2 ⟨256 + r.val, by omega⟩ q)) :
    v.readCov (Val := Elt Ideal) [⟨Rect.unit (s := S512x1024) ![256, 0] S256x1024.size inb1, w1⟩, ⟨Rect.unit (s := S512x1024) ![0, 0] S256x1024.size inb0, w0⟩]
      (Rect.unit (s := S512x1024) ![0, 0] S512x1024.size inb).toLoadRect = G := by
  have piece : ∀ (o : ℕ) (ho : o + 256 ≤ 512) (inbo : ∀ a : Fin 2, ![o, 0] a + S256x1024.size a ≤ S512x1024.size a) (w : S256x1024.Idx → Elt Ideal e),
      (∀ (r : Fin 256) (q : Fin 1024), w (ix2 r q) = G (ix2 ⟨o + r.val, by omega⟩ q)) →
      ∀ z : S256x1024.Idx, w z = G ((Rect.unit (s := S512x1024) ![o, 0] S256x1024.size inbo).emb z) := by
    intro o ho inbo w hw z
    idx_vars z
    rw [hw]
    refine congrArg G (funext fun a => Fin.ext ?_)
    match a with
    | ⟨0, _⟩ => show o + z0.val = o + 1 * z0.val; omega
    | ⟨1, _⟩ => show z1.val = 0 + 1 * z1.val; omega
  have cover : ∀ y : S512x1024.Idx, View.canon (Val := Elt Ideal)
      [⟨Rect.unit (s := S512x1024) ![256, 0] S256x1024.size inb1, w1⟩, ⟨Rect.unit (s := S512x1024) ![0, 0] S256x1024.size inb0, w0⟩] y = G y := by
    intro y
    have hp : View.PiecesOf (Val := Elt Ideal) G
        [⟨Rect.unit (s := S512x1024) ![256, 0] S256x1024.size inb1, w1⟩, ⟨Rect.unit (s := S512x1024) ![0, 0] S256x1024.size inb0, w0⟩] :=
      ⟨piece 256 (by omega) inb1 w1 e1, piece 0 (by omega) inb0 w0 e0, trivial⟩
    refine (congrArg (View.canon · y) (List.append_nil _).symm).trans (View.canon_append_of_piecesOf G [] _ hp y ?_)
    have hr : (y 0).val < 512 := (y 0).isLt
    have hq : (y 1).val < 1024 := (y 1).isLt
    by_cases h : 256 ≤ (y 0).val
    · refine ⟨_, List.mem_cons_self, ?_⟩
      rw [Rect.mem_set_unit]
      intro a
      match a with
      | ⟨0, _⟩ => show 256 ≤ (y 0).val ∧ (y 0).val < 256 + 256; omega
      | ⟨1, _⟩ => show 0 ≤ (y 1).val ∧ (y 1).val < 0 + 1024; omega
    · refine ⟨_, List.mem_cons_of_mem _ List.mem_cons_self, ?_⟩
      rw [Rect.mem_set_unit]
      intro a
      match a with
      | ⟨0, _⟩ => show 0 ≤ (y 0).val ∧ (y 0).val < 0 + 256; omega
      | ⟨1, _⟩ => show 0 ≤ (y 1).val ∧ (y 1).val < 0 + 1024; omega
  rw [View.readCov_eq_canon']
  funext y
  rw [cover]
  refine congrArg G (funext fun a => Fin.ext ?_)
  match a with
  | ⟨0, _⟩ => show 0 + 1 * (y 0).val = (y 0).val; omega
  | ⟨1, _⟩ => show 0 + 1 * (y 1).val = (y 1).val; omega

/-! ## The blocks' rows -/

variable (x0 x1 : Vec Ideal S1x512x512 .bf16) (x2 : Vec Ideal S1024x1024 .bf16) (x3 : Vec Ideal S1x512x1024 .f32) (x4 : Vec Ideal S1x1x1024 .f32)
  (x5 : Vec Ideal S1x1024 .f32) (x6 x7 : Vec Ideal S1x1x1024 .f32) (x8 x9 : Vec Ideal S1x1024x2816 .bf16) (x10 : Vec Ideal S1x2816x1024 .bf16)
  (x11 : Vec Ideal S1x1x1024 .f32)

/-- Row `r` of the stream with the projected heads added. -/
def attended (r : Fin 512) (q : Fin 1024) : EReal :=
  added (x3 (ix3 0 r q)) (x4 (ix3 0 0 q)) (∑ j : Fin 512, x0 (ix3 0 j r) * x2 (ix2 ⟨j.val, by omega⟩ q)
    + ∑ j : Fin 512, x1 (ix3 0 j r) * x2 (ix2 ⟨512 + j.val, by omega⟩ q))

/-- That row normed. -/
def hidden (r : Fin 512) (q : Fin 1024) : EReal :=
  normed (attended x0 x1 x2 x3 x4 r) (fun k => x5 (ix2 0 k)) (fun k => x6 (ix3 0 0 k)) (fun k => x7 (ix3 0 0 k)) q

/-- The output block, index by index. -/
def block (y : S1x512x1024.Idx) : EReal :=
  added (attended x0 x1 x2 x3 x4 (y 1) (y 2)) (x11 (ix3 0 0 (y 2)))
    (forward (hidden x0 x1 x2 x3 x4 x5 x6 x7 (y 1)) (fun d k => x8 (ix3 0 d k)) (fun d k => x9 (ix3 0 d k)) (fun k q => x10 (ix3 0 k q)) (y 2))

variable (c : Dev nD) (a2 : Memref sig .tc .vmem S1x512x512 .bf16) (h2 : a2.IsWhole) (a3 : Memref sig .tc .vmem S1x512x512 .bf16) (h3 : a3.IsWhole)
  (a4 : Memref sig .tc .vmem S1024x1024 .bf16) (h4 : a4.IsWhole) (a5 : Memref sig .tc .vmem S1x512x1024 .f32) (h5 : a5.IsWhole)
  (a6 : Memref sig .tc .vmem S1x1x1024 .f32) (h6 : a6.IsWhole) (a7 : Memref sig .tc .vmem S1x1024 .f32) (h7 : a7.IsWhole)
  (a8 : Memref sig .tc .vmem S1x1x1024 .f32) (h8 : a8.IsWhole) (a9 : Memref sig .tc .vmem S1x1x1024 .f32) (h9 : a9.IsWhole)

/-- The rows projected from the loads at row offset `o`. -/
abbrev projected (o : ℕ) (inb0 : ∀ a : Fin 3, ![0, 0, o] a + S1x512x256.size a ≤ S1x512x512.size a)
    (inb3 : ∀ a : Fin 3, ![0, o, 0] a + S1x256x1024.size a ≤ S1x512x1024.size a) : FVec Ideal S256x1024 .f32 :=
  k0_pay2
    (View.readAt (Elt Ideal) a2.view (Rect.unit (s := S1x512x512) ![0, 0, o] S1x512x256.size inb0).toLoadRect (h2.unread x0))
    (View.readAt (Elt Ideal) a4.view (Rect.unit (s := S1024x1024) ![0, 0] S512x1024.size inb_S1024x1024_S512x1024_0_0).toLoadRect (h4.unread x2))
    (View.readAt (Elt Ideal) a3.view (Rect.unit (s := S1x512x512) ![0, 0, o] S1x512x256.size inb0).toLoadRect (h3.unread x1))
    (View.readAt (Elt Ideal) a4.view (Rect.unit (s := S1024x1024) ![512, 0] S512x1024.size inb_S1024x1024_S512x1024_512_0).toLoadRect (h4.unread x2))
    (View.readAt (Elt Ideal) a5.view (Rect.unit (s := S1x512x1024) ![0, o, 0] S1x256x1024.size inb3).toLoadRect (h5.unread x3))
    (View.readAt (Elt Ideal) a6.view (Rect.unit (s := S1x1x1024) ![0, 0, 0] S1x1x1024.size inb_S1x1x1024_S1x1x1024_0_0_0).toLoadRect (h6.unread x4))

theorem projected_rows (o : ℕ) (ho : o + 256 ≤ 512) (inb0) (inb3) (r : Fin 256) (q : Fin 1024) :
    projected x0 x1 x2 x3 x4 a2 h2 a3 h3 a4 h4 a5 h5 a6 h6 o inb0 inb3 (ix2 r q) = attended x0 x1 x2 x3 x4 ⟨o + r.val, by omega⟩ q := by
  unfold projected attended
  rw [projected_at, stream_at a5 h5 x3 o ho, whole_eq a6 h6 x4 (by decide)]
  refine congrArg (added _ _) (congrArg₂ (· + ·) ?_ ?_) <;> refine Finset.sum_congr rfl fun j _ => ?_
  · rw [heads_at a2 h2 x0 o ho, matrix_at a4 h4 x2 0 (by omega)]
    simp only [Nat.zero_add]
  · rw [heads_at a3 h3 x1 o ho, matrix_at a4 h4 x2 512 (by omega)]

/-- The projected rows, read back whole. -/
theorem rows_back (a15 : Memref sig .tc .vmem S512x1024 .f32) :
    sl.v112 c a2 h2 a3 h3 a4 h4 a5 h5 a6 h6 a15 x0 x1 x2 x3 x4 = fun y => attended x0 x1 x2 x3 x4 (y 0) (y 1) := by
  unfold sl.v112 sl.HS0_2 sl.r_5
  rw [projected_eq, kept_eq]
  refine halves_at (e := .f32) _ (fun y : S512x1024.Idx => attended x0 x1 x2 x3 x4 (y 0) (y 1)) _ _ _ _ _ ?_ ?_
  · exact fun r q => (kept_at _ _ _ _ _ _ r q).trans (projected_rows x0 x1 x2 x3 x4 a2 h2 a3 h3 a4 h4 a5 h5 a6 h6 0 (by omega) _ _ r q)
  · exact fun r q => (kept_at _ _ _ _ _ _ r q).trans (projected_rows x0 x1 x2 x3 x4 a2 h2 a3 h3 a4 h4 a5 h5 a6 h6 256 (by omega) _ _ r q)

/-- The normed rows of the half at row offset `o`. -/
theorem hidden_rows (o : ℕ) (ho : o + 256 ≤ 512) (inb0) (inb3) (r : Fin 256) (q : Fin 1024) :
    k0_pay10 (projected x0 x1 x2 x3 x4 a2 h2 a3 h3 a4 h4 a5 h5 a6 h6 o inb0 inb3)
      (View.readAt (Elt Ideal) a7.view (Rect.unit (s := S1x1024) ![0, 0] S1x1024.size inb_S1x1024_S1x1024_0_0).toLoadRect (h7.unread x5))
      (View.readAt (Elt Ideal) a8.view (Rect.unit (s := S1x1x1024) ![0, 0, 0] S1x1x1024.size inb_S1x1x1024_S1x1x1024_0_0_0).toLoadRect (h8.unread x6))
      (View.readAt (Elt Ideal) a9.view (Rect.unit (s := S1x1x1024) ![0, 0, 0] S1x1x1024.size inb_S1x1x1024_S1x1x1024_0_0_0).toLoadRect (h9.unread x7)) (ix2 r q)
      = hidden x0 x1 x2 x3 x4 x5 x6 x7 ⟨o + r.val, by omega⟩ q := by
  rw [normed_at, whole_eq a7 h7 x5 (by decide), whole_eq a8 h8 x6 (by decide), whole_eq a9 h9 x7 (by decide)]
  unfold hidden
  exact congrArg (normed · _ _ _ q) (funext fun k => projected_rows x0 x1 x2 x3 x4 a2 h2 a3 h3 a4 h4 a5 h5 a6 h6 o ho _ _ r k)

/-- The normed rows, read back whole. -/
theorem hidden_back (a16 : Memref sig .tc .vmem S512x1024 .bf16) :
    sl.v92 c a2 h2 a3 h3 a4 h4 a5 h5 a6 h6 a7 h7 a8 h8 a9 h9 a16 x0 x1 x2 x3 x4 x5 x6 x7
      = fun y => hidden x0 x1 x2 x3 x4 x5 x6 x7 (y 0) (y 1) := by
  unfold sl.v92 sl.HS1_2 sl.r_5 sl.r sl.r_1 sl.r_2 sl.r_3 sl.r_4 sl.cst_26
  rw [projected_eq, normed_eq]
  refine halves_at (e := .bf16) _ (fun y : S512x1024.Idx => hidden x0 x1 x2 x3 x4 x5 x6 x7 (y 0) (y 1)) _ _ _ _ _ ?_ ?_
  · exact hidden_rows x0 x1 x2 x3 x4 x5 x6 x7 a2 h2 a3 h3 a4 h4 a5 h5 a6 h6 a7 h7 a8 h8 a9 h9 0 (by omega) _ _
  · exact hidden_rows x0 x1 x2 x3 x4 x5 x6 x7 a2 h2 a3 h3 a4 h4 a5 h5 a6 h6 a7 h7 a8 h8 a9 h9 256 (by omega) _ _

/-- The output's block after the point. -/
theorem out_eq (i : grid0.Coords) (a10 : Memref sig .tc .vmem S1x1024x2816 .bf16) (h10 : a10.IsWhole)
    (a11 : Memref sig .tc .vmem S1x1024x2816 .bf16) (h11 : a11.IsWhole) (a12 : Memref sig .tc .vmem S1x2816x1024 .bf16) (h12 : a12.IsWhole)
    (a13 : Memref sig .tc .vmem S1x1x1024 .f32) (h13 : a13.IsWhole) (a14 : Memref sig .tc .vmem S1x512x1024 .f32) (h14 : a14.IsWhole)
    (a15 : Memref sig .tc .vmem S512x1024 .f32) (h15 : a15.IsWhole) (a16 : Memref sig .tc .vmem S512x1024 .bf16) (h16 : a16.IsWhole) :
    out0_A_12 c i a2 h2 a3 h3 a4 h4 a5 h5 a6 h6 a7 h7 a8 h8 a9 h9 a10 h10 a11 h11 a12 h12 a13 h13 a14 h14 a15 h15 a16 h16
      x0 x1 x2 x3 x4 x5 x6 x7 x8 x9 x10 x11 = block x0 x1 x2 x3 x4 x5 x6 x7 x8 x9 x10 x11 := by
  funext y
  unfold out0_A_12
  rw [View.read_writes_junk_eq_canon]
  have hc := cover0_A_12 c i a2 h2 a3 h3 a4 h4 a5 h5 a6 h6 a7 h7 a8 h8 a9 h9 a10 h10 a11 h11 a12 h12 a13 h13 a14 h14 a15 h15 a16 h16
    x0 x1 x2 x3 x4 x5 x6 x7 x8 x9 x10 x11 y
  revert hc
  generalize hL : (kernelRun0_A c i a2 h2 a3 h3 a4 h4 a5 h5 a6 h6 a7 h7 a8 h8 a9 h9 a10 h10 a11 h11 a12 h12 a13 h13 a14 h14 a15 h15 a16 h16
    x0 x1 x2 x3 x4 x5 x6 x7 x8 x9 x10 x11).1 = L
  intro hc
  have hw : ∀ (u : Fin 1) (r : Fin 512) (q : Fin 1024), k0_pay1
      (sl.v92 c a2 h2 a3 h3 a4 h4 a5 h5 a6 h6 a7 h7 a8 h8 a9 h9 a16 x0 x1 x2 x3 x4 x5 x6 x7)
      (k0_pay11 (sl.v92 c a2 h2 a3 h3 a4 h4 a5 h5 a6 h6 a7 h7 a8 h8 a9 h9 a16 x0 x1 x2 x3 x4 x5 x6 x7)
        (View.readAt (Elt Ideal) a10.view (Rect.unit (s := S1x1024x2816) ![0, 0, 0] S1x1024x2816.size inb_S1x1024x2816_S1x1024x2816_0_0_0).toLoadRect (h10.unread x8)))
      (View.readAt (Elt Ideal) a11.view (Rect.unit (s := S1x1024x2816) ![0, 0, 0] S1x1024x2816.size inb_S1x1024x2816_S1x1024x2816_0_0_0).toLoadRect (h11.unread x9))
      (View.readAt (Elt Ideal) a12.view (Rect.unit (s := S1x2816x1024) ![0, 0, 0] S1x2816x1024.size inb_S1x2816x1024_S1x2816x1024_0_0_0).toLoadRect (h12.unread x10))
      (sl.v112 c a2 h2 a3 h3 a4 h4 a5 h5 a6 h6 a15 x0 x1 x2 x3 x4)
      (View.readAt (Elt Ideal) a13.view (Rect.unit (s := S1x1x1024) ![0, 0, 0] S1x1x1024.size inb_S1x1x1024_S1x1x1024_0_0_0).toLoadRect (h13.unread x11)) (ix3 u r q)
      = block x0 x1 x2 x3 x4 x5 x6 x7 x8 x9 x10 x11 (ix3 u r q) := fun u r q => by
    rw [output_at, rows_back, hidden_back, whole_eq a10 h10 x8 (by decide), whole_eq a11 h11 x9 (by decide), whole_eq a12 h12 x10 (by decide),
      whole_eq a13 h13 x11 (by decide)]
    rfl
  have hp : View.PiecesOf (block x0 x1 x2 x3 x4 x5 x6 x7 x8 x9 x10 x11) L := by
    subst hL
    refine ⟨fun z => ?_, trivial⟩
    have hz : (Rect.unit (s := S1x512x1024) ![0, 0, 0] S1x512x1024.size inb_S1x512x1024_S1x512x1024_0_0_0).emb z = z := by
      funext a
      apply Fin.ext
      match a with
      | ⟨0, _⟩ => show 0 + 1 * (z 0).val = (z 0).val; omega
      | ⟨1, _⟩ => show 0 + 1 * (z 1).val = (z 1).val; omega
      | ⟨2, _⟩ => show 0 + 1 * (z 2).val = (z 2).val; omega
    refine Eq.trans ?_ (congrArg (block x0 x1 x2 x3 x4 x5 x6 x7 x8 x9 x10 x11) hz).symm
    have hi : z = ix3 ⟨(z 0).val, (z 0).isLt⟩ ⟨(z 1).val, (z 1).isLt⟩ ⟨(z 2).val, (z 2).isLt⟩ := by
      funext a; match a with | ⟨0, _⟩ => rfl | ⟨1, _⟩ => rfl | ⟨2, _⟩ => rfl
    rw [hi]
    exact hw _ _ _
  have := View.canon_append_of_piecesOf (block x0 x1 x2 x3 x4 x5 x6 x7 x8 x9 x10 x11) [] L hp y hc
  rwa [List.append_nil] at this

end Cert.Dense
end
-- ==== Proof.Dense.Array.lean ====
/- What the result array of the output projection holds after the run: every block is written once, by one grid point, from
   the blocks of the arguments that the point reads. -/
module

public import proofs.«01_k».proof.Proof.Dense.Block
public import proofs.«01_k».proof.Proof.Gen.Kernel3Ideal.Value

@[expose] public section

set_option maxRecDepth 16384

noncomputable section

namespace Cert.Dense

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Batch `t / 16` and block `t % 16` of the rows at point `t`, for each window that moves with the point. -/
theorem index_at : ∀ t : Fin grid0.N, (win0_0.index t 0 = t.val / 16 ∧ win0_0.index t 1 = 0 ∧ win0_0.index t 2 = t.val % 16)
    ∧ (win0_1.index t 0 = t.val / 16 ∧ win0_1.index t 1 = 0 ∧ win0_1.index t 2 = t.val % 16)
    ∧ (win0_3.index t 0 = t.val / 16 ∧ win0_3.index t 1 = t.val % 16 ∧ win0_3.index t 2 = 0)
    ∧ (win0_4.index t 0 = t.val / 16 ∧ win0_4.index t 1 = 0 ∧ win0_4.index t 2 = 0)
    ∧ (win0_6.index t 0 = t.val / 16 ∧ win0_6.index t 1 = 0 ∧ win0_6.index t 2 = 0)
    ∧ (win0_7.index t 0 = t.val / 16 ∧ win0_7.index t 1 = 0 ∧ win0_7.index t 2 = 0)
    ∧ (win0_11.index t 0 = t.val / 16 ∧ win0_11.index t 1 = 0 ∧ win0_11.index t 2 = 0)
    ∧ (win0_12.index t 0 = t.val / 16 ∧ win0_12.index t 1 = t.val % 16 ∧ win0_12.index t 2 = 0) := by
  decide +kernel

/-- The windows of the matrices and of the norm's scale stay at the first block. -/
theorem index_fixed : ∀ t : Fin grid0.N, (win0_2.index t 0 = 0 ∧ win0_2.index t 1 = 0) ∧ (win0_5.index t 0 = 0 ∧ win0_5.index t 1 = 0)
    ∧ (win0_8.index t 0 = 0 ∧ win0_8.index t 1 = 0 ∧ win0_8.index t 2 = 0) ∧ (win0_9.index t 0 = 0 ∧ win0_9.index t 1 = 0 ∧ win0_9.index t 2 = 0)
    ∧ (win0_10.index t 0 = 0 ∧ win0_10.index t 1 = 0 ∧ win0_10.index t 2 = 0) := by
  decide +kernel

theorem at2 {δ : Type} {n0 n1 : ℕ} (f : (⟨2, ![n0, n1]⟩ : Shape).Idx → δ) (z : (⟨2, ![n0, n1]⟩ : Shape).Idx) (a : Fin n0) (b : Fin n1)
    (ha : (z 0).val = a.val) (hb : (z 1).val = b.val) : f z = f (ix2 a b) :=
  congrArg f (funext fun i => Fin.ext (match i with | ⟨0, _⟩ => ha | ⟨1, _⟩ => hb))

theorem at3 {δ : Type} {n0 n1 n2 : ℕ} (f : (⟨3, ![n0, n1, n2]⟩ : Shape).Idx → δ) (z : (⟨3, ![n0, n1, n2]⟩ : Shape).Idx) (a : Fin n0) (b : Fin n1) (d : Fin n2)
    (ha : (z 0).val = a.val) (hb : (z 1).val = b.val) (hd : (z 2).val = d.val) : f z = f (ix3 a b d) :=
  congrArg f (funext fun i => Fin.ext (match i with | ⟨0, _⟩ => ha | ⟨1, _⟩ => hb | ⟨2, _⟩ => hd))

/-- The point that serves batch `b` and the block of row `p`. -/
def pointOf (b : Fin 4) (p : Fin 8192) : Fin cfg0.N := ⟨16 * b.val + p.val / 512, by rw [show cfg0.N = 64 from N_0]; omega⟩

section Reads
variable (b : Fin 4) (p : Fin 8192)

theorem headsA_at (j r : Fin 512) : (iblk m c 0 (pointOf b p) : Vec Ideal S1x512x512 .bf16) (ix3 0 j r)
    = (m ((c : Thread nD τ).loc main_arg0) : Vec Ideal S4x512x8192 .bf16) (ix3 b j ⟨p.val / 512 * 512 + r.val, by omega⟩) := by
  have hi := (index_at (pointOf b p)).1
  unfold iblk
  rw [View.read_apply]
  refine at3 (m (c.tc.loc main_arg0) : Vec Ideal S4x512x8192 .bf16) _ _ _ _ ?_ ?_ ?_
  · show win0_0.index (pointOf b p) 0 * 1 + 1 * 0 = b.val; rw [hi.1]; unfold pointOf; dsimp only; omega
  · show win0_0.index (pointOf b p) 1 * 512 + 1 * j.val = j.val; rw [hi.2.1]; omega
  · show win0_0.index (pointOf b p) 2 * 512 + 1 * r.val = p.val / 512 * 512 + r.val; rw [hi.2.2]; unfold pointOf; dsimp only; omega

theorem headsB_at (j r : Fin 512) : (iblk m c 1 (pointOf b p) : Vec Ideal S1x512x512 .bf16) (ix3 0 j r)
    = (m ((c : Thread nD τ).loc main_arg1) : Vec Ideal S4x512x8192 .bf16) (ix3 b j ⟨p.val / 512 * 512 + r.val, by omega⟩) := by
  have hi := (index_at (pointOf b p)).2.1
  unfold iblk
  rw [View.read_apply]
  refine at3 (m (c.tc.loc main_arg1) : Vec Ideal S4x512x8192 .bf16) _ _ _ _ ?_ ?_ ?_
  · show win0_1.index (pointOf b p) 0 * 1 + 1 * 0 = b.val; rw [hi.1]; unfold pointOf; dsimp only; omega
  · show win0_1.index (pointOf b p) 1 * 512 + 1 * j.val = j.val; rw [hi.2.1]; omega
  · show win0_1.index (pointOf b p) 2 * 512 + 1 * r.val = p.val / 512 * 512 + r.val; rw [hi.2.2]; unfold pointOf; dsimp only; omega

theorem projection_at (t : Fin cfg0.N) (j q : Fin 1024) : (iblk m c 2 t : Vec Ideal S1024x1024 .bf16) (ix2 j q)
    = (m ((c : Thread nD τ).loc main_arg2) : Vec Ideal S1024x1024 .bf16) (ix2 j q) := by
  have hi := (index_fixed t).1
  unfold iblk
  rw [View.read_apply]
  refine at2 (m (c.tc.loc main_arg2) : Vec Ideal S1024x1024 .bf16) _ _ _ ?_ ?_
  · show win0_2.index t 0 * 1024 + 1 * j.val = j.val; rw [hi.1]; omega
  · show win0_2.index t 1 * 1024 + 1 * q.val = q.val; rw [hi.2]; omega

theorem rows_at (r : Fin 512) (q : Fin 1024) : (iblk m c 3 (pointOf b p) : Vec Ideal S1x512x1024 .f32) (ix3 0 r q)
    = (m ((c : Thread nD τ).loc main_arg3) : Vec Ideal S4x8192x1024 .f32) (ix3 b ⟨p.val / 512 * 512 + r.val, by omega⟩ q) := by
  have hi := (index_at (pointOf b p)).2.2.1
  unfold iblk
  rw [View.read_apply]
  refine at3 (m (c.tc.loc main_arg3) : Vec Ideal S4x8192x1024 .f32) _ _ _ _ ?_ ?_ ?_
  · show win0_3.index (pointOf b p) 0 * 1 + 1 * 0 = b.val; rw [hi.1]; unfold pointOf; dsimp only; omega
  · show win0_3.index (pointOf b p) 1 * 512 + 1 * r.val = p.val / 512 * 512 + r.val; rw [hi.2.1]; unfold pointOf; dsimp only; omega
  · show win0_3.index (pointOf b p) 2 * 1024 + 1 * q.val = q.val; rw [hi.2.2]; omega

theorem gateA_at (q : Fin 1024) : (iblk m c 4 (pointOf b p) : Vec Ideal S1x1x1024 .f32) (ix3 0 0 q)
    = (m ((c : Thread nD τ).loc main_arg4) : Vec Ideal S4x1x1024 .f32) (ix3 b 0 q) := by
  have hi := (index_at (pointOf b p)).2.2.2.1
  unfold iblk
  rw [View.read_apply]
  refine at3 (m (c.tc.loc main_arg4) : Vec Ideal S4x1x1024 .f32) _ _ _ _ ?_ ?_ ?_
  · show win0_4.index (pointOf b p) 0 * 1 + 1 * 0 = b.val; rw [hi.1]; unfold pointOf; dsimp only; omega
  · show win0_4.index (pointOf b p) 1 * 1 + 1 * 0 = 0; rw [hi.2.1]
  · show win0_4.index (pointOf b p) 2 * 1024 + 1 * q.val = q.val; rw [hi.2.2]; omega

theorem normScale_at (t : Fin cfg0.N) (q : Fin 1024) : (iblk m c 5 t : Vec Ideal S1x1024 .f32) (ix2 0 q)
    = (m ((c : Thread nD τ).loc main_arg5) : Vec Ideal S1x1024 .f32) (ix2 0 q) := by
  have hi := (index_fixed t).2.1
  unfold iblk
  rw [View.read_apply]
  refine at2 (m (c.tc.loc main_arg5) : Vec Ideal S1x1024 .f32) _ _ _ ?_ ?_
  · show win0_5.index t 0 * 1 + 1 * 0 = 0; rw [hi.1]
  · show win0_5.index t 1 * 1024 + 1 * q.val = q.val; rw [hi.2]; omega

theorem scale_at (q : Fin 1024) : (iblk m c 6 (pointOf b p) : Vec Ideal S1x1x1024 .f32) (ix3 0 0 q)
    = (m ((c : Thread nD τ).loc main_arg6) : Vec Ideal S4x1x1024 .f32) (ix3 b 0 q) := by
  have hi := (index_at (pointOf b p)).2.2.2.2.1
  unfold iblk
  rw [View.read_apply]
  refine at3 (m (c.tc.loc main_arg6) : Vec Ideal S4x1x1024 .f32) _ _ _ _ ?_ ?_ ?_
  · show win0_6.index (pointOf b p) 0 * 1 + 1 * 0 = b.val; rw [hi.1]; unfold pointOf; dsimp only; omega
  · show win0_6.index (pointOf b p) 1 * 1 + 1 * 0 = 0; rw [hi.2.1]
  · show win0_6.index (pointOf b p) 2 * 1024 + 1 * q.val = q.val; rw [hi.2.2]; omega

theorem shift_at (q : Fin 1024) : (iblk m c 7 (pointOf b p) : Vec Ideal S1x1x1024 .f32) (ix3 0 0 q)
    = (m ((c : Thread nD τ).loc main_arg7) : Vec Ideal S4x1x1024 .f32) (ix3 b 0 q) := by
  have hi := (index_at (pointOf b p)).2.2.2.2.2.1
  unfold iblk
  rw [View.read_apply]
  refine at3 (m (c.tc.loc main_arg7) : Vec Ideal S4x1x1024 .f32) _ _ _ _ ?_ ?_ ?_
  · show win0_7.index (pointOf b p) 0 * 1 + 1 * 0 = b.val; rw [hi.1]; unfold pointOf; dsimp only; omega
  · show win0_7.index (pointOf b p) 1 * 1 + 1 * 0 = 0; rw [hi.2.1]
  · show win0_7.index (pointOf b p) 2 * 1024 + 1 * q.val = q.val; rw [hi.2.2]; omega

theorem matrixG_at (t : Fin cfg0.N) (d : Fin 1024) (k : Fin 2816) : (iblk m c 8 t : Vec Ideal S1x1024x2816 .bf16) (ix3 0 d k)
    = (m ((c : Thread nD τ).loc main_arg8) : Vec Ideal S2x1024x2816 .bf16) (ix3 0 d k) := by
  have hi := (index_fixed t).2.2.1
  unfold iblk
  rw [View.read_apply]
  refine at3 (m (c.tc.loc main_arg8) : Vec Ideal S2x1024x2816 .bf16) _ _ _ _ ?_ ?_ ?_
  · show win0_8.index t 0 * 1 + 1 * 0 = 0; rw [hi.1]
  · show win0_8.index t 1 * 1024 + 1 * d.val = d.val; rw [hi.2.1]; omega
  · show win0_8.index t 2 * 2816 + 1 * k.val = k.val; rw [hi.2.2]; omega

theorem matrixU_at (t : Fin cfg0.N) (d : Fin 1024) (k : Fin 2816) : (iblk m c 9 t : Vec Ideal S1x1024x2816 .bf16) (ix3 0 d k)
    = (m ((c : Thread nD τ).loc main_arg9) : Vec Ideal S2x1024x2816 .bf16) (ix3 0 d k) := by
  have hi := (index_fixed t).2.2.2.1
  unfold iblk
  rw [View.read_apply]
  refine at3 (m (c.tc.loc main_arg9) : Vec Ideal S2x1024x2816 .bf16) _ _ _ _ ?_ ?_ ?_
  · show win0_9.index t 0 * 1 + 1 * 0 = 0; rw [hi.1]
  · show win0_9.index t 1 * 1024 + 1 * d.val = d.val; rw [hi.2.1]; omega
  · show win0_9.index t 2 * 2816 + 1 * k.val = k.val; rw [hi.2.2]; omega

theorem matrixD_at (t : Fin cfg0.N) (k : Fin 2816) (q : Fin 1024) : (iblk m c 10 t : Vec Ideal S1x2816x1024 .bf16) (ix3 0 k q)
    = (m ((c : Thread nD τ).loc main_arg10) : Vec Ideal S2x2816x1024 .bf16) (ix3 0 k q) := by
  have hi := (index_fixed t).2.2.2.2
  unfold iblk
  rw [View.read_apply]
  refine at3 (m (c.tc.loc main_arg10) : Vec Ideal S2x2816x1024 .bf16) _ _ _ _ ?_ ?_ ?_
  · show win0_10.index t 0 * 1 + 1 * 0 = 0; rw [hi.1]
  · show win0_10.index t 1 * 2816 + 1 * k.val = k.val; rw [hi.2.1]; omega
  · show win0_10.index t 2 * 1024 + 1 * q.val = q.val; rw [hi.2.2]; omega

theorem gateF_at (q : Fin 1024) : (iblk m c 11 (pointOf b p) : Vec Ideal S1x1x1024 .f32) (ix3 0 0 q)
    = (m ((c : Thread nD τ).loc main_arg11) : Vec Ideal S4x1x1024 .f32) (ix3 b 0 q) := by
  have hi := (index_at (pointOf b p)).2.2.2.2.2.2.1
  unfold iblk
  rw [View.read_apply]
  refine at3 (m (c.tc.loc main_arg11) : Vec Ideal S4x1x1024 .f32) _ _ _ _ ?_ ?_ ?_
  · show win0_11.index (pointOf b p) 0 * 1 + 1 * 0 = b.val; rw [hi.1]; unfold pointOf; dsimp only; omega
  · show win0_11.index (pointOf b p) 1 * 1 + 1 * 0 = 0; rw [hi.2.1]
  · show win0_11.index (pointOf b p) 2 * 1024 + 1 * q.val = q.val; rw [hi.2.2]; omega
end Reads

/-- The block that point `t` writes. -/
def blockOf (t : Fin cfg0.N) : S1x512x1024.Idx → EReal :=
  block (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

/-- The result array: each element from the blocks that its own point reads. -/
def result : S4x8192x1024.Idx → EReal := fun i =>
  blockOf m c (pointOf (i 0) (i 1)) (ix3 0 ⟨(i 1).val % 512, by omega⟩ (i 2))

/-- What a point writes back is the result array's block there. -/
theorem flushed_eq (t : Fin cfg0.N) : (dats m 0 c).flushed 12 t = ((cfg0.win 12).blk t).view.read (Elt Ideal) (result m c) := by
  rw [Value.flushed12_A, out_eq]
  have hi := (index_at t).2.2.2.2.2.2.2
  have ht : t.val < 64 := lt_of_lt_of_eq t.isLt N_0
  funext y
  rw [View.read_apply]
  show blockOf m c t y = result m c _
  generalize hz : ((cfg0.win 12).blk t).view.emb y = z
  have e0 : (z 0).val = t.val / 16 := by
    rw [← hz]
    have h : (y 0).val < 1 := (y 0).isLt
    show win0_12.index t 0 * 1 + 1 * (y 0).val = _
    rw [hi.1]; omega
  have e1 : (z 1).val = t.val % 16 * 512 + (y 1).val := by
    rw [← hz]
    show win0_12.index t 1 * 512 + 1 * (y 1).val = _
    rw [hi.2.1]; omega
  have e2 : (z 2).val = (y 2).val := by
    rw [← hz]
    show win0_12.index t 2 * 1024 + 1 * (y 2).val = _
    rw [hi.2.2]; omega
  have h0 : (y 0).val < 1 := (y 0).isLt
  have h1 : (y 1).val < 512 := (y 1).isLt
  have hp : pointOf (z 0) (z 1) = t := Fin.ext (by unfold pointOf; dsimp only; omega)
  unfold result
  rw [hp]
  exact at3 (blockOf m c t) y _ _ _ (show (y 0).val = 0 by omega) (show (y 1).val = (z 1).val % 512 by omega) e2.symm

/-- After the run the result array is `result`. -/
theorem final_eq : (dats m 0 c).arrAt 12 cfg0.N = result m c :=
  (dats m 0 c).arrAt_eq_of_cover 12 (result m c) (fun t _ => flushed_eq m c t) fun i => by
    have h0 : (i 0 : Nat) < 4 := (i 0).isLt
    have h1 : (i 1 : Nat) < 8192 := (i 1).isLt
    have h2 : (i 2 : Nat) < 1024 := (i 2).isLt
    refine ⟨pointOf (i 0) (i 1), flush0_12 _, ?_⟩
    have hi := (index_at (pointOf (i 0) (i 1))).2.2.2.2.2.2.2
    have hp : (pointOf (i 0) (i 1)).val = 16 * (i 0).val + (i 1).val / 512 := rfl
    show i ∈ ((View.whole main_v0).slice (win0_12.rect (pointOf (i 0) (i 1)))).set
    rw [View.set_slice_whole, Rect.mem_set_unit]
    intro a
    match a with
    | ⟨0, _⟩ =>
      show win0_12.index (pointOf (i 0) (i 1)) 0 * 1 ≤ (i 0 : Nat) ∧ (i 0 : Nat) < win0_12.index (pointOf (i 0) (i 1)) 0 * 1 + 1
      rw [hi.1]; omega
    | ⟨1, _⟩ =>
      show win0_12.index (pointOf (i 0) (i 1)) 1 * 512 ≤ (i 1 : Nat) ∧ (i 1 : Nat) < win0_12.index (pointOf (i 0) (i 1)) 1 * 512 + 512
      rw [hi.2.1]; omega
    | ⟨2, _⟩ =>
      show win0_12.index (pointOf (i 0) (i 1)) 2 * 1024 ≤ (i 2 : Nat) ∧ (i 2 : Nat) < win0_12.index (pointOf (i 0) (i 1)) 2 * 1024 + 1024
      rw [hi.2.2]; omega

end Cert.Dense
end
-- ==== Proof.Dense.Reference.lean ====
/- What the reference of the output projection and the dense feed-forward computes, read at an index. -/
module

public import proofs.«01_k».proof.Proof.Gen.Reference3Ideal.Run
public import proofs.«01_k».proof.Proof.Dense.Row
public import Idealize.ShloMosaic.Lib.Pointwise
public import Idealize.ShloMosaic.Lib.IdealHost

@[expose] public section

set_option maxRecDepth 16384

noncomputable section

namespace Cert.Dense.Ref

open Cert.Reference3Ideal Cert.Reference3Ideal.Gen Idealize.ShloMosaic Idealize.ShloMosaic.TcCoe Idealize.SL.Sem

variable (oa ob : FVec Ideal S4x512x8192 .bf16) (wo : FVec Ideal S1024x1024 .bf16) (x : FVec Ideal S4x8192x1024 .f32) (g1 : FVec Ideal S4x1x1024 .f32)
  (n2 : FVec Ideal S1x1024 .f32) (sc sh : FVec Ideal S4x1x1024 .f32) (wg wu : FVec Ideal S1024x2816 .f32) (wd : FVec Ideal S2816x1024 .f32)
  (g2 : FVec Ideal S4x1x1024 .f32)

/-- The heads' outputs one over the other. -/
def heads : FVec Ideal S4x1024x8192 .bf16 :=
  concatenate S4x1024x8192 1 [⟨S4x512x8192, oa⟩, ⟨S4x512x8192, ob⟩] concatenates_S4x512x8192_S4x512x8192_S4x1024x8192_d1

/-- A branch's output added to the stream through its gate. -/
def joined (g : FVec Ideal S4x1x1024 .f32) (b : FVec Ideal S4x8192x1024 .f32) : FVec Ideal S4x8192x1024 .f32 :=
  addf x (mulf (broadcastInDim S4x8192x1024 ![0, 1, 2] bcast_S4x1x1024_S4x8192x1024_0_1_2 g) b)

/-- The projection of the heads' outputs. -/
def projected (o : FVec Ideal S4x1024x8192 .bf16) : FVec Ideal S4x8192x1024 .f32 :=
  Host.dotGeneral dot_S4x1024x8192_S1024x1024_S4x8192x1024_1_0_02_1_n_n none o wo

/-- The inverse root of every row's mean square. -/
def inverse : FVec Ideal S4x8192x1 .f32 :=
  Host.rsqrt (addf (Host.divf (broadcastInDim S4x8192x1 ![0, 1] bcast_S4x8192_S4x8192x1_0_1
        (Host.reduceAdd (mulf x x) (constant S_ .f32 0x00000000#32) reducesTo_S4x8192x1024_S4x8192_d2 h_S_))
      (broadcastInDim S4x8192x1 ![] bcast_S_S4x8192x1 (constant S_ .f32 0x44800000#32)))
    (broadcastInDim S4x8192x1 ![] bcast_S_S4x8192x1 (constant S_ .f32 0x358637BD#32)))

/-- The normed stream, scaled and shifted. -/
def modulated : FVec Ideal S4x8192x1024 .f32 :=
  addf (mulf (mulf (mulf x (broadcastInDim S4x8192x1024 ![0, 1, 2] bcast_S4x8192x1_S4x8192x1024_0_1_2 (inverse x)))
      (broadcastInDim S4x8192x1024 ![0, 1, 2] bcast_S1x1x1024_S4x8192x1024_0_1_2
        (broadcastInDim S1x1x1024 ![2] bcast_S1024_S1x1x1024_2 (shapeCast _ n2 shapeCasts_S1x1024_S1024))))
    (broadcastInDim S4x8192x1024 ![0, 1, 2] bcast_S4x1x1024_S4x8192x1024_0_1_2
      (addf (broadcastInDim S4x1x1024 ![] bcast_S_S4x1x1024 (constant S_ .f32 0x3F800000#32)) sc)))
    (broadcastInDim S4x8192x1024 ![0, 1, 2] bcast_S4x1x1024_S4x8192x1024_0_1_2 sh)

/-- The first layer of a stack of matrices into the hidden columns, widened. -/
def inward (w : FVec Ideal S2x1024x2816 .bf16) : FVec Ideal S1024x2816 .f32 :=
  extf .f32 (shapeCast _ (extractStridedSlice S1x1024x2816 ![0, 0, 0] w slices_S2x1024x2816_S1x1024x2816_0_0_0) shapeCasts_S1x1024x2816_S1024x2816) bitsLt_bf16_f32

/-- The first layer of a stack of matrices out of them, widened. -/
def outward (w : FVec Ideal S2x2816x1024 .bf16) : FVec Ideal S2816x1024 .f32 :=
  extf .f32 (shapeCast _ (extractStridedSlice S1x2816x1024 ![0, 0, 0] w slices_S2x2816x1024_S1x2816x1024_0_0_0) shapeCasts_S1x2816x1024_S2816x1024) bitsLt_bf16_f32

/-- The product with a matrix into the hidden columns. -/
def product (w : FVec Ideal S1024x2816 .f32) : FVec Ideal S4x8192x2816 .f32 :=
  Host.dotGeneral dot_S4x8192x1024_S1024x2816_S4x8192x2816_2_0_01_1_n_n none x w

/-- The swish. -/
def swish (a : FVec Ideal S4x8192x2816 .f32) : FVec Ideal S4x8192x2816 .f32 :=
  mulf a (Host.divf (broadcastInDim S4x8192x2816 ![] bcast_S_S4x8192x2816 (constant S_ .f32 0x3F800000#32))
    (addf (broadcastInDim S4x8192x2816 ![] bcast_S_S4x8192x2816 (constant S_ .f32 0x3F800000#32)) (Host.exp (Host.negf a))))

/-- The product back. -/
def back (a : FVec Ideal S4x8192x2816 .f32) : FVec Ideal S4x8192x1024 .f32 :=
  Host.dotGeneral dot_S4x8192x2816_S2816x1024_S4x8192x1024_2_0_01_1_n_n none a wd

/-- The stream after the attention. -/
def attended : FVec Ideal S4x8192x1024 .f32 := joined x g1 (projected wo (heads oa ob))

/-- The feed-forward of a normed stream. -/
def forwarded (h : FVec Ideal S4x8192x1024 .f32) : FVec Ideal S4x8192x1024 .f32 := back wd (mulf (swish (product h wg)) (product h wu))

/-- The reference's result. -/
def output : FVec Ideal S4x8192x1024 .f32 :=
  joined (attended oa ob wo x g1) g2 (forwarded wg wu wd (modulated (attended oa ob wo x g1) n2 sc sh))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = output (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (inward (m ((c.tc : Thread nD τ).loc main_arg8)))
          (inward (m ((c.tc : Thread nD τ).loc main_arg9))) (outward (m ((c.tc : Thread nD τ).loc main_arg10))) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Value.run m ρ

theorem joined_at (g : FVec Ideal S4x1x1024 .f32) (y : FVec Ideal S4x8192x1024 .f32) (b : Fin 4) (p : Fin 8192) (q : Fin 1024) :
    joined x g y (ix3 b p q) = added (x (ix3 b p q)) (g (ix3 b 0 q)) (y (ix3 b p q)) := by
  unfold added
  pointwise [joined]

theorem projected_at (o : FVec Ideal S4x1024x8192 .bf16) (b : Fin 4) (p : Fin 8192) (q : Fin 1024) :
    projected wo o (ix3 b p q) = ∑ j : Fin 1024, o (ix3 b j p) * wo (ix2 j q) := by
  pointwise [projected]

theorem heads_first (b : Fin 4) (j : Fin 512) (p : Fin 8192) : heads oa ob (ix3 b ⟨j.val, by omega⟩ p) = oa (ix3 b j p) := by
  pointwise [heads]

theorem heads_second (b : Fin 4) (j : Fin 512) (p : Fin 8192) : heads oa ob (ix3 b ⟨512 + j.val, by omega⟩ p) = ob (ix3 b j p) := by
  pointwise [heads]

theorem modulated_at (b : Fin 4) (p : Fin 8192) (q : Fin 1024) : modulated x n2 sc sh (ix3 b p q)
    = normed (fun k => x (ix3 b p k)) (fun k => n2 (ix2 0 k)) (fun k => sc (ix3 b 0 k)) (fun k => sh (ix3 b 0 k)) q := by
  unfold normed
  pointwise [modulated, inverse, Ideal.ofBits_zero_f32, Ideal.ofBits_one_f32]

theorem inward_at (w : FVec Ideal S2x1024x2816 .bf16) (d : Fin 1024) (k : Fin 2816) : inward w (ix2 d k) = w (ix3 0 d k) := by
  pointwise [inward]

theorem outward_at (w : FVec Ideal S2x2816x1024 .bf16) (k : Fin 2816) (q : Fin 1024) : outward w (ix2 k q) = w (ix3 0 k q) := by
  pointwise [outward]

theorem product_at (w : FVec Ideal S1024x2816 .f32) (b : Fin 4) (p : Fin 8192) (k : Fin 2816) :
    product x w (ix3 b p k) = ∑ d : Fin 1024, x (ix3 b p d) * w (ix2 d k) := by
  pointwise [product]

theorem swish_at (a : FVec Ideal S4x8192x2816 .f32) (b : Fin 4) (p : Fin 8192) (k : Fin 2816) :
    swish a (ix3 b p k) = a (ix3 b p k) * Ideal.div 1 (1 + Ideal.exp (-a (ix3 b p k))) := by
  pointwise [swish, Ideal.ofBits_one_f32]

theorem back_at (a : FVec Ideal S4x8192x2816 .f32) (b : Fin 4) (p : Fin 8192) (q : Fin 1024) :
    back wd a (ix3 b p q) = ∑ k : Fin 2816, a (ix3 b p k) * wd (ix2 k q) := by
  pointwise [back]

/-- The feed-forward, row by row. -/
theorem forwarded_at (h : FVec Ideal S4x8192x1024 .f32) (b : Fin 4) (p : Fin 8192) (q : Fin 1024) : forwarded wg wu wd h (ix3 b p q)
    = forward (fun d => h (ix3 b p d)) (fun d k => wg (ix2 d k)) (fun d k => wu (ix2 d k)) (fun k q => wd (ix2 k q)) q := by
  unfold forwarded forward gated
  rw [back_at]
  refine Finset.sum_congr rfl fun k _ => congrArg (· * _) ?_
  show swish (product h wg) (ix3 b p k) * product h wu (ix3 b p k) = _
  rw [swish_at, product_at, product_at]

/-- The sum over the heads' rows is the sum over the first half's and the second half's. -/
theorem attended_at (b : Fin 4) (p : Fin 8192) (q : Fin 1024) : attended oa ob wo x g1 (ix3 b p q)
    = added (x (ix3 b p q)) (g1 (ix3 b 0 q)) (∑ j : Fin 512, oa (ix3 b j p) * wo (ix2 ⟨j.val, by omega⟩ q)
      + ∑ j : Fin 512, ob (ix3 b j p) * wo (ix2 ⟨512 + j.val, by omega⟩ q)) := by
  unfold attended
  rw [joined_at, projected_at]
  refine congrArg (added _ _) ((Fin.sum_univ_add (a := 512) (b := 512) fun j => heads oa ob (ix3 b j p) * wo (ix2 j q)).trans ?_)
  exact congrArg₂ (· + ·) (Finset.sum_congr rfl fun j _ => congrArg (· * _) (heads_first oa ob b j p))
    (Finset.sum_congr rfl fun j _ => congrArg (· * _) (heads_second oa ob b j p))

/-- The reference's result, row by row. -/
theorem output_at (b : Fin 4) (p : Fin 8192) (q : Fin 1024) : output oa ob wo x g1 n2 sc sh wg wu wd g2 (ix3 b p q)
    = added (attended oa ob wo x g1 (ix3 b p q)) (g2 (ix3 b 0 q))
        (forward (normed (fun k => attended oa ob wo x g1 (ix3 b p k)) (fun k => n2 (ix2 0 k)) (fun k => sc (ix3 b 0 k)) (fun k => sh (ix3 b 0 k)))
          (fun d k => wg (ix2 d k)) (fun d k => wu (ix2 d k)) (fun k q => wd (ix2 k q)) q) := by
  unfold output
  rw [joined_at, forwarded_at]
  exact congrArg (fun h => added _ _ (forward h _ _ _ q)) (funext fun d => modulated_at _ n2 sc sh b p d)

end Cert.Dense.Ref
end
-- ==== Proof.Dense.Meet.lean ====
/- The result array of the output projection and the dense feed-forward is the reference's, row by row. -/
module

public import proofs.«01_k».proof.Proof.Dense.Array
public import proofs.«01_k».proof.Proof.Dense.Reference

@[expose] public section

set_option maxRecDepth 16384

noncomputable section

namespace Cert.Dense

open Cert.Kernel3Ideal Cert.Kernel3Ideal.Gen Idealize.ShloMosaic Idealize.ShloMosaic.TcCoe

variable (m : (ℓ : Loc nD τ sig) → Buf (Elt Ideal) ℓ) (c : Dev nD)

/-- The reference's result at the kernel's arguments. -/
abbrev expected : FVec Ideal S4x8192x1024 .f32 :=
  Ref.output (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (Ref.inward (m ((c : Thread nD τ).loc main_arg8))) (Ref.inward (m ((c : Thread nD τ).loc main_arg9))) (Ref.outward (m ((c : Thread nD τ).loc main_arg10))) (m ((c : Thread nD τ).loc main_arg11))

/-- A row of the stream after the attention, in the block that holds it and in the reference. -/
theorem attended_eq (b : Fin 4) (p : Fin 8192) (q : Fin 1024) :
    attended (iblk m c 0 (pointOf b p)) (iblk m c 1 (pointOf b p)) (iblk m c 2 (pointOf b p)) (iblk m c 3 (pointOf b p)) (iblk m c 4 (pointOf b p))
        ⟨p.val % 512, by omega⟩ q
      = Ref.attended (m ((c : Thread nD τ).loc main_arg0)) (m ((c : Thread nD τ).loc main_arg1)) (m ((c : Thread nD τ).loc main_arg2))
        (m ((c : Thread nD τ).loc main_arg3)) (m ((c : Thread nD τ).loc main_arg4)) (ix3 b p q) := by
  have hp : (⟨p.val / 512 * 512 + p.val % 512, by omega⟩ : Fin 8192) = p := Fin.ext (by dsimp only; omega)
  rw [Ref.attended_at]
  unfold attended
  rw [rows_at, gateA_at]
  simp only [headsA_at, headsB_at, projection_at, hp]

theorem result_at (b : Fin 4) (p : Fin 8192) (q : Fin 1024) : result m c (ix3 b p q) = expected m c (ix3 b p q) := by
  unfold expected
  rw [Ref.output_at]
  show added (attended (iblk m c 0 (pointOf b p)) (iblk m c 1 (pointOf b p)) (iblk m c 2 (pointOf b p)) (iblk m c 3 (pointOf b p)) (iblk m c 4 (pointOf b p))
      ⟨p.val % 512, _⟩ q) ((iblk m c 11 (pointOf b p) : Vec Ideal S1x1x1024 .f32) (ix3 0 0 q))
    (forward (hidden (iblk m c 0 (pointOf b p)) (iblk m c 1 (pointOf b p)) (iblk m c 2 (pointOf b p)) (iblk m c 3 (pointOf b p)) (iblk m c 4 (pointOf b p))
        (iblk m c 5 (pointOf b p)) (iblk m c 6 (pointOf b p)) (iblk m c 7 (pointOf b p)) ⟨p.val % 512, _⟩)
      (fun d k => (iblk m c 8 (pointOf b p) : Vec Ideal S1x1024x2816 .bf16) (ix3 0 d k))
      (fun d k => (iblk m c 9 (pointOf b p) : Vec Ideal S1x1024x2816 .bf16) (ix3 0 d k))
      (fun k q => (iblk m c 10 (pointOf b p) : Vec Ideal S1x2816x1024 .bf16) (ix3 0 k q)) q) = _
  unfold hidden
  have ha := funext (attended_eq m c b p)
  simp only [ha, normScale_at, scale_at, shift_at, matrixG_at, matrixU_at, matrixD_at, gateF_at, Ref.inward_at, Ref.outward_at]

/-- The kernel's result is the reference's. -/
theorem result_eq : result m c = expected m c := funext fun i => by
  have hi : i = ix3 ⟨(i 0).val, (i 0).isLt⟩ ⟨(i 1).val, (i 1).isLt⟩ ⟨(i 2).val, (i 2).isLt⟩ := by
    funext a; match a with | ⟨0, _⟩ => rfl | ⟨1, _⟩ => rfl | ⟨2, _⟩ => rfl
  exact (congrArg (result m c) hi).trans ((result_at m c _ _ _).trans (congrArg (expected m c) hi.symm))

end Cert.Dense
end
-- ==== Proof.Conv.Block.lean ====
/- What one grid point of the convolution's input computes: a normed row times the input matrix, whose columns are the gate's, then
   those of two factors that are multiplied. -/
module

public import proofs.«01_k».proof.Proof.Dense.Row
public import proofs.«01_k».proof.Proof.Gen.Kernel4Ideal.Value
public import Idealize.ShloMosaic.Lib.Pipeline.ReadBack

@[expose] public section

set_option maxRecDepth 16384

noncomputable section

namespace Cert.Conv

open Cert.Kernel4Ideal Cert.Kernel4Ideal.Gen Idealize.ShloMosaic Idealize.ShloMosaic.TcCoe

/-- Column `o + q` of the product of a row with the input matrix. -/
def column (h : Fin 1024 → EReal) (w : Fin 1024 → Fin 3072 → EReal) (o : ℕ) (ho : o + 1024 ≤ 3072) (q : Fin 1024) : EReal :=
  ∑ d : Fin 1024, h d * w d ⟨o + q.val, by omega⟩

/-- The gate's column `q`. -/
def gate (h : Fin 1024 → EReal) (w : Fin 1024 → Fin 3072 → EReal) (q : Fin 1024) : EReal := column h w 0 (by omega) q

/-- Column `q` of what the convolution runs over. -/
def signal (h : Fin 1024 → EReal) (w : Fin 1024 → Fin 3072 → EReal) (q : Fin 1024) : EReal :=
  column h w 1024 (by omega) q * column h w 2048 (by omega) q

variable (x : Vec Ideal S1x512x1024 .f32) (n : Vec Ideal S1x1024 .f32) (s t : Vec Ideal S1x1x1024 .f32) (w : Vec Ideal S1024x3072 .bf16)

/-- Row `r` of a block, normed. -/
def hidden (r : Fin 512) : Fin 1024 → EReal :=
  Dense.normed (fun k => x (ix3 0 r k)) (fun k => n (ix2 0 k)) (fun k => s (ix3 0 0 k)) (fun k => t (ix3 0 0 k))

theorem product_at (r : Fin 512) (e : Fin 3072) : k0_pay2 x n s t w (ix2 r e) = ∑ d : Fin 1024, hidden x n s t r d * w (ix2 d e) := by
  unfold hidden Dense.normed
  pointwise [k0_pay2, Ideal.ofBits_zero_f32, Ideal.ofBits_one_f32]

/-- The gate's block, index by index. -/
def gateBlock (y : S1x512x1024.Idx) : EReal := gate (hidden x n s t (y 1)) (fun d e => w (ix2 d e)) (y 2)

/-- The signal's block, index by index. -/
def signalBlock (y : S1x512x1024.Idx) : EReal := signal (hidden x n s t (y 1)) (fun d e => w (ix2 d e)) (y 2)

theorem gateStored_at (u : Fin 1) (r : Fin 512) (q : Fin 1024) : k0_pay3 x n s t w (ix3 u r q) = gateBlock x n s t w (ix3 u r q) := by
  refine Eq.trans (b := k0_pay2 x n s t w (ix2 r ⟨0 + q.val, by omega⟩)) ?_ (product_at x n s t w r _)
  generalize hy : k0_pay2 x n s t w = y
  unfold k0_pay3
  rw [hy]
  pointwise

theorem signalStored_at (u : Fin 1) (r : Fin 512) (q : Fin 1024) : k0_pay1 (k0_pay4 x n s t w) (ix3 u r q) = signalBlock x n s t w (ix3 u r q) := by
  refine Eq.trans (b := k0_pay2 x n s t w (ix2 r ⟨1024 + q.val, by omega⟩) * k0_pay2 x n s t w (ix2 r ⟨2048 + q.val, by omega⟩)) ?_
    (congrArg₂ (· * ·) (product_at x n s t w r _) (product_at x n s t w r _))
  generalize hy : k0_pay2 x n s t w = y
  unfold k0_pay1 k0_pay4
  rw [hy]
  pointwise

/-- A function of a block's index is given by its values at the three coordinates. -/
theorem ext3 {f g : S1x512x1024.Idx → EReal} (h : ∀ u r q, f (ix3 u r q) = g (ix3 u r q)) : f = g := funext fun y => by
  have hy : y = ix3 ⟨(y 0).val, (y 0).isLt⟩ ⟨(y 1).val, (y 1).isLt⟩ ⟨(y 2).val, (y 2).isLt⟩ := by
    funext a; match a with | ⟨0, _⟩ => rfl | ⟨1, _⟩ => rfl | ⟨2, _⟩ => rfl
  exact (congrArg f hy).trans ((h _ _ _).trans (congrArg g hy.symm))

theorem gate_out : out0_5 x n s t w = gateBlock x n s t w := by
  unfold out0_5
  rw [View.canon_unit_zero (by decide), View.ld_unit_lit _ x (by decide), View.ld_unit_lit _ n (by decide), View.ld_unit_lit _ s (by decide),
    View.ld_unit_lit _ t (by decide), View.ld_unit_lit _ w (by decide)]
  exact ext3 (gateStored_at x n s t w)

theorem signal_out : out0_6 x n s t w = signalBlock x n s t w := by
  unfold out0_6
  rw [View.canon_unit_zero (by decide), View.ld_unit_lit _ x (by decide), View.ld_unit_lit _ n (by decide), View.ld_unit_lit _ s (by decide),
    View.ld_unit_lit _ t (by decide), View.ld_unit_lit _ w (by decide)]
  exact ext3 (signalStored_at x n s t w)

end Cert.Conv
end
-- ==== Proof.Conv.Array.lean ====
/- What the two result arrays of the convolution's input hold after the run: every block of each is written once, by one grid
   point, from the blocks of the arguments that the point reads. -/
module

public import proofs.«01_k».proof.Proof.Conv.Block

@[expose] public section

set_option maxRecDepth 16384

noncomputable section

namespace Cert.Conv

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Batch `t / 16` and block `t % 16` of the rows at point `t`; the norm's scale and the matrix stay at their one block. -/
theorem index_at : ∀ t : Fin grid0.N, (win0_0.index t 0 = t.val / 16 ∧ win0_0.index t 1 = t.val % 16 ∧ win0_0.index t 2 = 0)
    ∧ (win0_1.index t 0 = 0 ∧ win0_1.index t 1 = 0)
    ∧ (win0_2.index t 0 = t.val / 16 ∧ win0_2.index t 1 = 0 ∧ win0_2.index t 2 = 0)
    ∧ (win0_3.index t 0 = t.val / 16 ∧ win0_3.index t 1 = 0 ∧ win0_3.index t 2 = 0)
    ∧ (win0_4.index t 0 = 0 ∧ win0_4.index t 1 = 0)
    ∧ (win0_5.index t 0 = t.val / 16 ∧ win0_5.index t 1 = t.val % 16 ∧ win0_5.index t 2 = 0)
    ∧ (win0_6.index t 0 = t.val / 16 ∧ win0_6.index t 1 = t.val % 16 ∧ win0_6.index t 2 = 0) := by
  decide +kernel

/-- The point that serves batch `b` and the block of row `p`. -/
def pointOf (b : Fin 4) (p : Fin 8192) : Fin cfg0.N := ⟨16 * b.val + p.val / 512, by rw [show cfg0.N = 64 from N_0]; omega⟩

/-- Equal coordinates, equal values. -/
theorem same {δ : Type} {s : Shape} (f : s.Idx → δ) {i j : s.Idx} (h : ∀ a, (i a).val = (j a).val) : f i = f j :=
  congrArg f (funext fun a => Fin.ext (h a))

section Reads
variable (b : Fin 4) (p : Fin 8192)

theorem rows_at (q : Fin 1024) : (iblk m c 0 (pointOf b p) : Vec Ideal S1x512x1024 .f32) (ix3 0 ⟨p.val % 512, by omega⟩ q)
    = (m ((c : Thread nD τ).loc main_arg0) : Vec Ideal S4x8192x1024 .f32) (ix3 b p q) := by
  have hi := (index_at (pointOf b p)).1
  unfold iblk
  rw [View.read_apply]
  refine same (m (c.tc.loc main_arg0) : Vec Ideal S4x8192x1024 .f32) fun a => ?_
  match a with
  | ⟨0, _⟩ => show win0_0.index (pointOf b p) 0 * 1 + 1 * 0 = b.val; rw [hi.1]; unfold pointOf; dsimp only; omega
  | ⟨1, _⟩ => show win0_0.index (pointOf b p) 1 * 512 + 1 * (p.val % 512) = p.val; rw [hi.2.1]; unfold pointOf; dsimp only; omega
  | ⟨2, _⟩ => show win0_0.index (pointOf b p) 2 * 1024 + 1 * q.val = q.val; rw [hi.2.2]; omega

theorem normScale_at (t : Fin cfg0.N) (q : Fin 1024) : (iblk m c 1 t : Vec Ideal S1x1024 .f32) (ix2 0 q)
    = (m ((c : Thread nD τ).loc main_arg1) : Vec Ideal S1x1024 .f32) (ix2 0 q) := by
  have hi := (index_at t).2.1
  unfold iblk
  rw [View.read_apply]
  refine same (m (c.tc.loc main_arg1) : Vec Ideal S1x1024 .f32) fun a => ?_
  match a with
  | ⟨0, _⟩ => show win0_1.index t 0 * 1 + 1 * 0 = 0; rw [hi.1]
  | ⟨1, _⟩ => show win0_1.index t 1 * 1024 + 1 * q.val = q.val; rw [hi.2]; omega

theorem scale_at (q : Fin 1024) : (iblk m c 2 (pointOf b p) : Vec Ideal S1x1x1024 .f32) (ix3 0 0 q)
    = (m ((c : Thread nD τ).loc main_arg2) : Vec Ideal S4x1x1024 .f32) (ix3 b 0 q) := by
  have hi := (index_at (pointOf b p)).2.2.1
  unfold iblk
  rw [View.read_apply]
  refine same (m (c.tc.loc main_arg2) : Vec Ideal S4x1x1024 .f32) fun a => ?_
  match a with
  | ⟨0, _⟩ => show win0_2.index (pointOf b p) 0 * 1 + 1 * 0 = b.val; rw [hi.1]; unfold pointOf; dsimp only; omega
  | ⟨1, _⟩ => show win0_2.index (pointOf b p) 1 * 1 + 1 * 0 = 0; rw [hi.2.1]
  | ⟨2, _⟩ => show win0_2.index (pointOf b p) 2 * 1024 + 1 * q.val = q.val; rw [hi.2.2]; omega

theorem shift_at (q : Fin 1024) : (iblk m c 3 (pointOf b p) : Vec Ideal S1x1x1024 .f32) (ix3 0 0 q)
    = (m ((c : Thread nD τ).loc main_arg3) : Vec Ideal S4x1x1024 .f32) (ix3 b 0 q) := by
  have hi := (index_at (pointOf b p)).2.2.2.1
  unfold iblk
  rw [View.read_apply]
  refine same (m (c.tc.loc main_arg3) : Vec Ideal S4x1x1024 .f32) fun a => ?_
  match a with
  | ⟨0, _⟩ => show win0_3.index (pointOf b p) 0 * 1 + 1 * 0 = b.val; rw [hi.1]; unfold pointOf; dsimp only; omega
  | ⟨1, _⟩ => show win0_3.index (pointOf b p) 1 * 1 + 1 * 0 = 0; rw [hi.2.1]
  | ⟨2, _⟩ => show win0_3.index (pointOf b p) 2 * 1024 + 1 * q.val = q.val; rw [hi.2.2]; omega

theorem matrix_at (t : Fin cfg0.N) (d : Fin 1024) (e : Fin 3072) : (iblk m c 4 t : Vec Ideal S1024x3072 .bf16) (ix2 d e)
    = (m ((c : Thread nD τ).loc main_arg4) : Vec Ideal S1024x3072 .bf16) (ix2 d e) := by
  have hi := (index_at t).2.2.2.2.1
  unfold iblk
  rw [View.read_apply]
  refine same (m (c.tc.loc main_arg4) : Vec Ideal S1024x3072 .bf16) fun a => ?_
  match a with
  | ⟨0, _⟩ => show win0_4.index t 0 * 1024 + 1 * d.val = d.val; rw [hi.1]; omega
  | ⟨1, _⟩ => show win0_4.index t 1 * 3072 + 1 * e.val = e.val; rw [hi.2]; omega
end Reads

/-- An array put together from a block for every point. -/
def spread (f : Fin cfg0.N → S1x512x1024.Idx → EReal) : S4x8192x1024.Idx → EReal := fun i =>
  f (pointOf (i 0) (i 1)) (ix3 0 ⟨(i 1).val % 512, by omega⟩ (i 2))

/-- At an index that lies in point `t`'s block it has that block's value. -/
theorem spread_block (f : Fin cfg0.N → S1x512x1024.Idx → EReal) (t : Fin cfg0.N) (y : S1x512x1024.Idx) (z : S4x8192x1024.Idx)
    (e0 : (z 0).val = t.val / 16 * 1 + 1 * (y 0).val) (e1 : (z 1).val = t.val % 16 * 512 + 1 * (y 1).val) (e2 : (z 2).val = 0 * 1024 + 1 * (y 2).val) :
    f t y = spread f z := by
  have ht : t.val < 64 := lt_of_lt_of_eq t.isLt N_0
  have h0 : (y 0).val < 1 := (y 0).isLt
  have h1 : (y 1).val < 512 := (y 1).isLt
  have hp : pointOf (z 0) (z 1) = t := Fin.ext (by unfold pointOf; dsimp only; omega)
  unfold spread
  rw [hp]
  refine same (f t) fun a => ?_
  match a with
  | ⟨0, _⟩ => show (y 0).val = 0; omega
  | ⟨1, _⟩ => show (y 1).val = (z 1).val % 512; omega
  | ⟨2, _⟩ => show (y 2).val = (z 2).val; omega

/-- Every index lies in its own point's block. -/
theorem inside (i : S4x8192x1024.Idx) (k : Fin 3 → ℕ) (h : k 0 = (pointOf (i 0) (i 1)).val / 16 ∧ k 1 = (pointOf (i 0) (i 1)).val % 16 ∧ k 2 = 0)
    (a : Fin 3) : k a * S1x512x1024.size a ≤ (i a).val ∧ (i a).val < k a * S1x512x1024.size a + S1x512x1024.size a := by
  have h0 : (i 0).val < 4 := (i 0).isLt
  have h1 : (i 1).val < 8192 := (i 1).isLt
  have h2 : (i 2).val < 1024 := (i 2).isLt
  have hp : (pointOf (i 0) (i 1)).val = 16 * (i 0).val + (i 1).val / 512 := rfl
  obtain ⟨e0, e1, e2⟩ := h
  match a with
  | ⟨0, _⟩ => show k 0 * 1 ≤ (i 0).val ∧ (i 0).val < k 0 * 1 + 1; omega
  | ⟨1, _⟩ => show k 1 * 512 ≤ (i 1).val ∧ (i 1).val < k 1 * 512 + 512; omega
  | ⟨2, _⟩ => show k 2 * 1024 ≤ (i 2).val ∧ (i 2).val < k 2 * 1024 + 1024; omega

/-- The gate's array. -/
def gates : S4x8192x1024.Idx → EReal :=
  spread fun t => gateBlock (iblk m c 0 t) (iblk m c 1 t) (iblk m c 2 t) (iblk m c 3 t) (iblk m c 4 t)

/-- The signal's array. -/
def signals : S4x8192x1024.Idx → EReal :=
  spread fun t => signalBlock (iblk m c 0 t) (iblk m c 1 t) (iblk m c 2 t) (iblk m c 3 t) (iblk m c 4 t)

/-- After the run the first result array is `gates`. -/
theorem gates_final : (dats m 0 c).arrAt 5 cfg0.N = gates m c :=
  (dats m 0 c).arrAt_eq_of_cover 5 (gates m c) (fun t _ => by
    obtain ⟨i0, i1, i2⟩ := (index_at t).2.2.2.2.2.1
    rw [Value.flushed5, gate_out]
    funext y
    rw [View.read_apply]
    refine spread_block (fun t => gateBlock (iblk m c 0 t) (iblk m c 1 t) (iblk m c 2 t) (iblk m c 3 t) (iblk m c 4 t)) t y _ ?_ ?_ ?_
    · rw [← i0]; rfl
    · rw [← i1]; rfl
    · rw [← i2]; rfl) fun i => by
    refine ⟨pointOf (i 0) (i 1), flush0_5 _, ?_⟩
    show i ∈ ((View.whole main_v0_0).slice (win0_5.rect (pointOf (i 0) (i 1)))).set
    rw [View.set_slice_whole, Rect.mem_set_unit]
    exact inside i (win0_5.index (pointOf (i 0) (i 1))) (index_at (pointOf (i 0) (i 1))).2.2.2.2.2.1

/-- After the run the second result array is `signals`. -/
theorem signals_final : (dats m 0 c).arrAt 6 cfg0.N = signals m c :=
  (dats m 0 c).arrAt_eq_of_cover 6 (signals m c) (fun t _ => by
    obtain ⟨i0, i1, i2⟩ := (index_at t).2.2.2.2.2.2
    rw [Value.flushed6, signal_out]
    funext y
    rw [View.read_apply]
    refine spread_block (fun t => signalBlock (iblk m c 0 t) (iblk m c 1 t) (iblk m c 2 t) (iblk m c 3 t) (iblk m c 4 t)) t y _ ?_ ?_ ?_
    · rw [← i0]; rfl
    · rw [← i1]; rfl
    · rw [← i2]; rfl) fun i => by
    refine ⟨pointOf (i 0) (i 1), flush0_6 _, ?_⟩
    show i ∈ ((View.whole main_v0_1).slice (win0_6.rect (pointOf (i 0) (i 1)))).set
    rw [View.set_slice_whole, Rect.mem_set_unit]
    exact inside i (win0_6.index (pointOf (i 0) (i 1))) (index_at (pointOf (i 0) (i 1))).2.2.2.2.2.2

end Cert.Conv
end
-- ==== Proof.Dense.SecondArray.lean ====
/- The result array of the second layer's output projection. Its launch differs from the first layer's in the blocks of the three
   stacked matrices alone, so what is proved there of one grid point and of the other blocks holds here as it stands. -/
module

public import proofs.«01_k».proof.Proof.Dense.Array
public import proofs.«01_k».proof.Proof.Conv.Array
public import proofs.«01_k».proof.Proof.Gen.Kernel5Ideal.Value

@[expose] public section

set_option maxRecDepth 16384

noncomputable section

namespace Cert.Dense.Second

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The windows of the stacked matrices stay at the second block. -/
theorem index_second : ∀ t : Fin grid0.N, (win0_8.index t 0 = 1 ∧ win0_8.index t 1 = 0 ∧ win0_8.index t 2 = 0)
    ∧ (win0_9.index t 0 = 1 ∧ win0_9.index t 1 = 0 ∧ win0_9.index t 2 = 0)
    ∧ (win0_10.index t 0 = 1 ∧ win0_10.index t 1 = 0 ∧ win0_10.index t 2 = 0) := by
  decide +kernel

theorem matrixG_at (t : Fin cfg0.N) (d : Fin 1024) (k : Fin 2816) : (iblk m c 8 t : Vec Ideal S1x1024x2816 .bf16) (ix3 0 d k)
    = (m ((c : Thread nD τ).loc main_arg8) : Vec Ideal S2x1024x2816 .bf16) (ix3 1 d k) := by
  have hi := (index_second t).1
  unfold iblk
  rw [View.read_apply]
  refine at3 (m (c.tc.loc main_arg8) : Vec Ideal S2x1024x2816 .bf16) _ _ _ _ ?_ ?_ ?_
  · show win0_8.index t 0 * 1 + 1 * 0 = 1; rw [hi.1]
  · show win0_8.index t 1 * 1024 + 1 * d.val = d.val; rw [hi.2.1]; omega
  · show win0_8.index t 2 * 2816 + 1 * k.val = k.val; rw [hi.2.2]; omega

theorem matrixU_at (t : Fin cfg0.N) (d : Fin 1024) (k : Fin 2816) : (iblk m c 9 t : Vec Ideal S1x1024x2816 .bf16) (ix3 0 d k)
    = (m ((c : Thread nD τ).loc main_arg9) : Vec Ideal S2x1024x2816 .bf16) (ix3 1 d k) := by
  have hi := (index_second t).2.1
  unfold iblk
  rw [View.read_apply]
  refine at3 (m (c.tc.loc main_arg9) : Vec Ideal S2x1024x2816 .bf16) _ _ _ _ ?_ ?_ ?_
  · show win0_9.index t 0 * 1 + 1 * 0 = 1; rw [hi.1]
  · show win0_9.index t 1 * 1024 + 1 * d.val = d.val; rw [hi.2.1]; omega
  · show win0_9.index t 2 * 2816 + 1 * k.val = k.val; rw [hi.2.2]; omega

theorem matrixD_at (t : Fin cfg0.N) (k : Fin 2816) (q : Fin 1024) : (iblk m c 10 t : Vec Ideal S1x2816x1024 .bf16) (ix3 0 k q)
    = (m ((c : Thread nD τ).loc main_arg10) : Vec Ideal S2x2816x1024 .bf16) (ix3 1 k q) := by
  have hi := (index_second t).2.2
  unfold iblk
  rw [View.read_apply]
  refine at3 (m (c.tc.loc main_arg10) : Vec Ideal S2x2816x1024 .bf16) _ _ _ _ ?_ ?_ ?_
  · show win0_10.index t 0 * 1 + 1 * 0 = 1; rw [hi.1]
  · show win0_10.index t 1 * 2816 + 1 * k.val = k.val; rw [hi.2.1]; omega
  · show win0_10.index t 2 * 1024 + 1 * q.val = q.val; rw [hi.2.2]; omega

/-- The block that point `t` writes: the first layer's function of the blocks, of which the three matrices' are this launch's own. -/
def blockOf (t : Fin cfg0.N) : S1x512x1024.Idx → EReal :=
  block (Kernel3Ideal.Gen.iblk (F := Ideal) m c 0 t) (Kernel3Ideal.Gen.iblk (F := Ideal) m c 1 t) (Kernel3Ideal.Gen.iblk (F := Ideal) m c 2 t)
    (Kernel3Ideal.Gen.iblk (F := Ideal) m c 3 t) (Kernel3Ideal.Gen.iblk (F := Ideal) m c 4 t) (Kernel3Ideal.Gen.iblk (F := Ideal) m c 5 t)
    (Kernel3Ideal.Gen.iblk (F := Ideal) m c 6 t) (Kernel3Ideal.Gen.iblk (F := Ideal) m c 7 t) (iblk m c 8 t) (iblk m c 9 t) (iblk m c 10 t)
    (Kernel3Ideal.Gen.iblk (F := Ideal) m c 11 t)

/-- What a point leaves in the output's block is what a point of the first layer's launch leaves for the same blocks. -/
theorem out_eq (x0 x1 : Vec Ideal S1x512x512 .bf16) (x2 : Vec Ideal S1024x1024 .bf16) (x3 : Vec Ideal S1x512x1024 .f32) (x4 : Vec Ideal S1x1x1024 .f32)
    (x5 : Vec Ideal S1x1024 .f32) (x6 x7 : Vec Ideal S1x1x1024 .f32) (x8 x9 : Vec Ideal S1x1024x2816 .bf16) (x10 : Vec Ideal S1x2816x1024 .bf16)
    (x11 : Vec Ideal S1x1x1024 .f32) (i : grid0.Coords) (a2 h2 a3 h3 a4 h4 a5 h5 a6 h6 a7 h7 a8 h8 a9 h9 a10 h10 a11 h11 a12 h12 a13 h13 a14 h14 a15 h15 a16 h16) :
    out0_A_12 c i a2 h2 a3 h3 a4 h4 a5 h5 a6 h6 a7 h7 a8 h8 a9 h9 a10 h10 a11 h11 a12 h12 a13 h13 a14 h14 a15 h15 a16 h16
      x0 x1 x2 x3 x4 x5 x6 x7 x8 x9 x10 x11 = block x0 x1 x2 x3 x4 x5 x6 x7 x8 x9 x10 x11 :=
  Dense.out_eq x0 x1 x2 x3 x4 x5 x6 x7 x8 x9 x10 x11 c a2 h2 a3 h3 a4 h4 a5 h5 a6 h6 a7 h7 a8 h8 a9 h9 i a10 h10 a11 h11 a12 h12 a13 h13 a14 h14 a15 h15 a16 h16

/-- What a point writes back. -/
theorem flushed_block (t : Fin cfg0.N) : (dats m 0 c).flushed 12 t = blockOf m c t := by
  rw [Value.flushed12_A, out_eq]
  rfl

/-- The result array. -/
def result : S4x8192x1024.Idx → EReal := Conv.spread (blockOf m c)

/-- After the run the result array is `result`. -/
theorem final_eq : (dats m 0 c).arrAt 12 cfg0.N = result m c :=
  (dats m 0 c).arrAt_eq_of_cover 12 (result m c) (fun t _ => by
    obtain ⟨i0, i1, i2⟩ := (index_at t).2.2.2.2.2.2.2
    rw [flushed_block]
    funext y
    rw [View.read_apply]
    refine Conv.spread_block (blockOf m c) t y _ ?_ ?_ ?_
    · rw [← i0]; rfl
    · rw [← i1]; rfl
    · rw [← i2]; rfl) fun i => by
    refine ⟨Conv.pointOf (i 0) (i 1), flush0_12 _, ?_⟩
    show i ∈ ((View.whole main_v0).slice (win0_12.rect (Conv.pointOf (i 0) (i 1)))).set
    rw [View.set_slice_whole, Rect.mem_set_unit]
    exact Conv.inside i (win0_12.index (Conv.pointOf (i 0) (i 1))) (index_at (Conv.pointOf (i 0) (i 1))).2.2.2.2.2.2.2

end Cert.Dense.Second
end
-- ==== Proof.Dense.SecondReference.lean ====
/- The reference of the second layer's output projection is the first layer's at the second of each stack of matrices. -/
module

public import proofs.«01_k».proof.Proof.Gen.Reference5Ideal.Run
public import proofs.«01_k».proof.Proof.Dense.Reference

@[expose] public section

set_option maxRecDepth 16384

noncomputable section

namespace Cert.Dense.Second.Ref

open Cert.Reference5Ideal Cert.Reference5Ideal.Gen Idealize.ShloMosaic Idealize.ShloMosaic.TcCoe Idealize.SL.Sem

/-- The second layer of a stack of matrices into the hidden columns, widened. -/
def inward (w : FVec Ideal S2x1024x2816 .bf16) : FVec Ideal S1024x2816 .f32 :=
  extf .f32 (shapeCast _ (extractStridedSlice S1x1024x2816 ![1, 0, 0] w slices_S2x1024x2816_S1x1024x2816_1_0_0) shapeCasts_S1x1024x2816_S1024x2816) bitsLt_bf16_f32

/-- The second layer of a stack of matrices out of them, widened. -/
def outward (w : FVec Ideal S2x2816x1024 .bf16) : FVec Ideal S2816x1024 .f32 :=
  extf .f32 (shapeCast _ (extractStridedSlice S1x2816x1024 ![1, 0, 0] w slices_S2x2816x1024_S1x2816x1024_1_0_0) shapeCasts_S1x2816x1024_S2816x1024) bitsLt_bf16_f32

theorem inward_at (w : FVec Ideal S2x1024x2816 .bf16) (d : Fin 1024) (k : Fin 2816) : inward w (ix2 d k) = w (ix3 1 d k) := by
  pointwise [inward]

theorem outward_at (w : FVec Ideal S2x2816x1024 .bf16) (k : Fin 2816) (q : Fin 1024) : outward w (ix2 k q) = w (ix3 1 k q) := by
  pointwise [outward]

/-- The reference's result at the arguments in memory. -/
abbrev output (m : (ℓ : Loc nD τ sig) → Buf (Elt Ideal) ℓ) (c : Dev nD) : FVec Ideal S4x8192x1024 .f32 :=
  Dense.Ref.output (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (inward (m ((c.tc : Thread nD τ).loc main_arg8)))
    (inward (m ((c.tc : Thread nD τ).loc main_arg9))) (outward (m ((c.tc : Thread nD τ).loc main_arg10))) (m ((c.tc : Thread nD τ).loc main_arg11))

theorem result_eq (m : (ℓ : Loc nD τ sig) → Buf (Elt Ideal) ℓ) (c : Dev nD) : Value.res_main_v41 m c = output m c := rfl

end Cert.Dense.Second.Ref
end
-- ==== Proof.Conv.Reference.lean ====
/- What the reference of the convolution's input computes, read at an index. -/
module

public import proofs.«01_k».proof.Proof.Gen.Reference4Ideal.Run
public import proofs.«01_k».proof.Proof.Conv.Block
public import proofs.«01_k».proof.Proof.Dense.Reference

@[expose] public section

set_option maxRecDepth 16384

noncomputable section

namespace Cert.Conv.Ref

open Cert.Reference4Ideal Cert.Reference4Ideal.Gen Idealize.ShloMosaic Idealize.ShloMosaic.TcCoe Idealize.SL.Sem

variable (x : FVec Ideal S4x8192x1024 .f32) (n : FVec Ideal S1x1024 .f32) (sc sh : FVec Ideal S4x1x1024 .f32) (w : FVec Ideal S1024x3072 .bf16)

/-- The product of a normed stream with the input matrix. -/
def product (h : FVec Ideal S4x8192x1024 .f32) : FVec Ideal S4x8192x3072 .f32 :=
  Host.dotGeneral dot_S4x8192x1024_S1024x3072_S4x8192x3072_2_0_01_1_n_n none h (extf .f32 w bitsLt_bf16_f32)

/-- The first third of the columns. -/
def first (y : FVec Ideal S4x8192x3072 .f32) : FVec Ideal S4x8192x1024 .bf16 :=
  truncf .bf16 (extractStridedSlice S4x8192x1024 ![0, 0, 0] y slices_S4x8192x3072_S4x8192x1024_0_0_0) bitsLt_bf16_f32

/-- The second third times the last. -/
def others (y : FVec Ideal S4x8192x3072 .f32) : FVec Ideal S4x8192x1024 .bf16 :=
  truncf .bf16 (mulf (extractStridedSlice S4x8192x1024 ![0, 0, 1024] y slices_S4x8192x3072_S4x8192x1024_0_0_1024)
    (extractStridedSlice S4x8192x1024 ![0, 0, 2048] y slices_S4x8192x3072_S4x8192x1024_0_0_2048)) bitsLt_bf16_f32

/-- The reference's first result. The norm with its modulation is that of the output projection's reference. -/
def gates : FVec Ideal S4x8192x1024 .bf16 := first (product w (Dense.Ref.modulated x n sc sh))

/-- The reference's second result. -/
def signals : FVec Ideal S4x8192x1024 .bf16 := others (product w (Dense.Ref.modulated x n sc sh))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = gates (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v27) = signals (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

theorem product_at (h : FVec Ideal S4x8192x1024 .f32) (b : Fin 4) (p : Fin 8192) (e : Fin 3072) :
    product w h (ix3 b p e) = ∑ d : Fin 1024, h (ix3 b p d) * w (ix2 d e) := by
  pointwise [product]

theorem first_at (y : FVec Ideal S4x8192x3072 .f32) (b : Fin 4) (p : Fin 8192) (q : Fin 1024) :
    first y (ix3 b p q) = y (ix3 b p ⟨0 + q.val, by omega⟩) := by
  pointwise [first]

theorem others_at (y : FVec Ideal S4x8192x3072 .f32) (b : Fin 4) (p : Fin 8192) (q : Fin 1024) :
    others y (ix3 b p q) = y (ix3 b p ⟨1024 + q.val, by omega⟩) * y (ix3 b p ⟨2048 + q.val, by omega⟩) := by
  pointwise [others]

/-- A row of the stream, normed. -/
def hidden (b : Fin 4) (p : Fin 8192) : Fin 1024 → EReal :=
  Dense.normed (fun k => x (ix3 b p k)) (fun k => n (ix2 0 k)) (fun k => sc (ix3 b 0 k)) (fun k => sh (ix3 b 0 k))

/-- A column of the product is that column of the row's. -/
theorem column_eq (b : Fin 4) (p : Fin 8192) (o : ℕ) (ho : o + 1024 ≤ 3072) (q : Fin 1024) :
    product w (Dense.Ref.modulated x n sc sh) (ix3 b p ⟨o + q.val, by omega⟩) = column (hidden x n sc sh b p) (fun d e => w (ix2 d e)) o ho q :=
  (product_at w _ b p _).trans (Finset.sum_congr rfl fun d _ => congrArg (· * _) (Dense.Ref.modulated_at x n sc sh b p d))

theorem gates_at (b : Fin 4) (p : Fin 8192) (q : Fin 1024) :
    gates x n sc sh w (ix3 b p q) = gate (hidden x n sc sh b p) (fun d e => w (ix2 d e)) q :=
  (first_at _ b p q).trans (column_eq x n sc sh w b p 0 (by omega) q)

theorem signals_at (b : Fin 4) (p : Fin 8192) (q : Fin 1024) :
    signals x n sc sh w (ix3 b p q) = signal (hidden x n sc sh b p) (fun d e => w (ix2 d e)) q :=
  (others_at _ b p q).trans (congrArg₂ (· * ·) (column_eq x n sc sh w b p 1024 (by omega) q) (column_eq x n sc sh w b p 2048 (by omega) q))

end Cert.Conv.Ref
end
-- ==== Proof.Conv.Meet.lean ====
/- The two result arrays of the convolution's input are the reference's, row by row. -/
module

public import proofs.«01_k».proof.Proof.Conv.Array
public import proofs.«01_k».proof.Proof.Conv.Reference

@[expose] public section

set_option maxRecDepth 16384

noncomputable section

namespace Cert.Conv

open Cert.Kernel4Ideal Cert.Kernel4Ideal.Gen Idealize.ShloMosaic Idealize.ShloMosaic.TcCoe

variable (m : (ℓ : Loc nD τ sig) → Buf (Elt Ideal) ℓ) (c : Dev nD)

/-- A normed row, in the block that holds it and in the reference. -/
theorem hidden_eq (b : Fin 4) (p : Fin 8192) :
    hidden (iblk m c 0 (pointOf b p)) (iblk m c 1 (pointOf b p)) (iblk m c 2 (pointOf b p)) (iblk m c 3 (pointOf b p)) ⟨p.val % 512, by omega⟩
      = Ref.hidden (m ((c : Thread nD τ).loc main_arg0)) (m ((c : Thread nD τ).loc main_arg1)) (m ((c : Thread nD τ).loc main_arg2))
        (m ((c : Thread nD τ).loc main_arg3)) b p := by
  unfold hidden Ref.hidden
  simp only [rows_at, normScale_at, scale_at, shift_at]

/-- The matrix, in the block and in the array. -/
theorem matrix_eq (t : Fin cfg0.N) : (fun d e => (iblk m c 4 t : Vec Ideal S1024x3072 .bf16) (ix2 d e))
    = fun d e => (m ((c : Thread nD τ).loc main_arg4) : Vec Ideal S1024x3072 .bf16) (ix2 d e) :=
  funext fun d => funext fun e => matrix_at m c t d e

/-- Arrays that agree at every batch, row and column are equal. -/
theorem array_ext {f g : S4x8192x1024.Idx → EReal} (h : ∀ b p q, f (ix3 b p q) = g (ix3 b p q)) : f = g := funext fun i => by
  have hi : i = ix3 ⟨(i 0).val, (i 0).isLt⟩ ⟨(i 1).val, (i 1).isLt⟩ ⟨(i 2).val, (i 2).isLt⟩ := by
    funext a; match a with | ⟨0, _⟩ => rfl | ⟨1, _⟩ => rfl | ⟨2, _⟩ => rfl
  exact (congrArg f hi).trans ((h _ _ _).trans (congrArg g hi.symm))

/-- The kernel's first result is the reference's. -/
theorem gates_eq : gates m c = Ref.gates (m ((c : Thread nD τ).loc main_arg0)) (m ((c : Thread nD τ).loc main_arg1))
    (m ((c : Thread nD τ).loc main_arg2)) (m ((c : Thread nD τ).loc main_arg3)) (m ((c : Thread nD τ).loc main_arg4)) :=
  array_ext fun b p q =>
    (congrArg₂ (gate · · q) (hidden_eq m c b p) (matrix_eq m c (pointOf b p))).trans (Ref.gates_at _ _ _ _ _ b p q).symm

/-- The kernel's second result is the reference's. -/
theorem signals_eq : signals m c = Ref.signals (m ((c : Thread nD τ).loc main_arg0)) (m ((c : Thread nD τ).loc main_arg1))
    (m ((c : Thread nD τ).loc main_arg2)) (m ((c : Thread nD τ).loc main_arg3)) (m ((c : Thread nD τ).loc main_arg4)) :=
  array_ext fun b p q =>
    (congrArg₂ (signal · · q) (hidden_eq m c b p) (matrix_eq m c (pointOf b p))).trans (Ref.signals_at _ _ _ _ _ b p q).symm

end Cert.Conv
end
-- ==== Proof.Dense.SecondMeet.lean ====
/- The result array of the second layer's output projection and feed-forward is the reference's, row by row. -/
module

public import proofs.«01_k».proof.Proof.Dense.SecondArray
public import proofs.«01_k».proof.Proof.Dense.SecondReference
public import proofs.«01_k».proof.Proof.Dense.Meet
public import proofs.«01_k».proof.Proof.Conv.Meet

@[expose] public section

set_option maxRecDepth 16384

noncomputable section

namespace Cert.Dense.Second

open Cert.Kernel5Ideal Cert.Kernel5Ideal.Gen Idealize.ShloMosaic Idealize.ShloMosaic.TcCoe

variable (m : (ℓ : Loc nD τ sig) → Buf (Elt Ideal) ℓ) (c : Dev nD)

/-- The reference's result at the kernel's arguments. -/
abbrev expected : FVec Ideal S4x8192x1024 .f32 :=
  Dense.Ref.output (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (Ref.inward (m ((c : Thread nD τ).loc main_arg8))) (Ref.inward (m ((c : Thread nD τ).loc main_arg9))) (Ref.outward (m ((c : Thread nD τ).loc main_arg10)))
    (m ((c : Thread nD τ).loc main_arg11))

theorem result_at (b : Fin 4) (p : Fin 8192) (q : Fin 1024) : result m c (ix3 b p q) = expected m c (ix3 b p q) := by
  refine Eq.trans ?_ (Dense.Ref.output_at _ _ _ _ _ _ _ _ _ _ _ _ b p q).symm
  have ha := funext (Dense.attended_eq m c b p)
  have hn : (fun k => (Kernel3Ideal.Gen.iblk (F := Ideal) m c 5 (Dense.pointOf b p) : Vec Ideal S1x1024 .f32) (ix2 0 k)) = _ :=
    funext (Dense.normScale_at m c (Dense.pointOf b p))
  have hs : (fun k => (Kernel3Ideal.Gen.iblk (F := Ideal) m c 6 (Dense.pointOf b p) : Vec Ideal S1x1x1024 .f32) (ix3 0 0 k)) = _ :=
    funext (Dense.scale_at m c b p)
  have ht : (fun k => (Kernel3Ideal.Gen.iblk (F := Ideal) m c 7 (Dense.pointOf b p) : Vec Ideal S1x1x1024 .f32) (ix3 0 0 k)) = _ :=
    funext (Dense.shift_at m c b p)
  unfold result Conv.spread blockOf block
  show added _ _ (forward (hidden _ _ _ _ _ _ _ _ _) _ _ _ _) = _
  refine congr (congr (congrArg added (congrFun ha q)) (Dense.gateF_at m c b p q)) ?_
  refine congrFun (congr (congr (congr (congrArg forward (?_ : hidden _ _ _ _ _ _ _ _ _ = _)) ?_) ?_) ?_) q
  · unfold hidden
    exact congr (congr (congr (congrArg normed ha) hn) hs) ht
  · exact funext fun d => funext fun k => (matrixG_at m c _ d k).trans (Ref.inward_at _ d k).symm
  · exact funext fun d => funext fun k => (matrixU_at m c _ d k).trans (Ref.inward_at _ d k).symm
  · exact funext fun k => funext fun q => (matrixD_at m c _ k q).trans (Ref.outward_at _ k q).symm

/-- The kernel's result is the reference's. -/
theorem result_eq : result m c = expected m c := Conv.array_ext (result_at m c)

end Cert.Dense.Second
end
-- ==== Proof.Context.Block.lean ====
/- What one grid point of the context's experts computes: 512 of an expert's hidden columns, taken through the expert's second
   matrix, weighed by the tokens' gates for the expert and added to what the points before left. -/
module

public import proofs.«01_k».proof.Proof.Dense.Row
public import proofs.«01_k».proof.Proof.Gen.Kernel6Ideal.Value
public import Idealize.ShloMosaic.Lib.Pipeline.ReadBack
public import Idealize.ShloMosaic.Lib.Affine

@[expose] public section

set_option maxRecDepth 16384

noncomputable section

namespace Cert.Context

open Cert.Kernel6Ideal Cert.Kernel6Ideal.Gen Idealize.ShloMosaic Idealize.ShloMosaic.TcCoe

variable (x : Vec Ideal S1x1024x1024 .bf16) (wg wu : Vec Ideal S1x1024x512 .f32) (wd : Vec Ideal S1x512x1024 .f32)
  (y o : Vec Ideal S1024x1024 .f32) (g : Vec Ideal S1x1024x128 .f32) (a : Vec Ideal S1x1024x1024 .f32) (s : Vec Ideal S1x1x1024 .f32)

theorem start_at (p q : Fin 1024) : k0_pay3 (F := Ideal) (ix2 p q) = 0 := by
  pointwise [k0_pay3, Ideal.ofBits_zero_f32]

theorem part_at (p q : Fin 1024) : k0_pay4 x wg wu wd (ix2 p q)
    = ∑ k : Fin 512, Dense.gated (∑ d : Fin 1024, x (ix3 0 p d) * wg (ix3 0 d k)) (∑ d : Fin 1024, x (ix3 0 p d) * wu (ix3 0 d k)) * wd (ix3 0 k q) := by
  unfold Dense.gated
  pointwise [k0_pay4, Ideal.ofBits_zero_f32, Ideal.ofBits_one_f32, zero_sub]

/-- Of a row of gates, the one whose number an iota meets. -/
theorem select_lane (z : Fin 128 → EReal) (e : Fin 8) :
    ∑ k : Fin 128, Scalar.select (IntOp.cmpi .eq (BitVec.ofNat 32 k.val) (BitVec.ofNat 32 e.val)) (z k) 0 = z ⟨e.val, by omega⟩ := by
  rw [Finset.sum_eq_single ⟨e.val, by omega⟩]
  · exact if_pos (IntOp.cmpi_eq.2 rfl)
  · intro k _ hk
    refine if_neg fun h => hk (Fin.ext ?_)
    have := congrArg BitVec.toNat (IntOp.cmpi_eq.1 h)
    simp only [BitVec.toNat_ofNat] at this
    show k.val = e.val
    omega
  · exact fun h => absurd (Finset.mem_univ _) h

theorem added_at (e : Fin 8) (p q : Fin 1024) :
    k0_pay1 (BitVec.ofNat 32 e.val) y g o (ix2 p q) = o (ix2 p q) + y (ix2 p q) * g (ix3 0 p ⟨e.val, by omega⟩) := by
  rw [← select_lane (fun k => g (ix3 0 p k)) e]
  pointwise [k0_pay1, Ideal.ofBits_zero_f32]

theorem closed_at (p q : Fin 1024) : k0_pay2 a s o (ix3 0 p q) = a (ix3 0 p q) + s (ix3 0 0 q) * o (ix2 p q) := by
  pointwise [k0_pay2]

end Cert.Context
end
-- ==== Proof.Context.Array.lean ====
/- What the result array of the context's experts holds after the run: the running sum starts at zero at the first grid point, takes
   one block's part at every point, and at the last is added, through the branch's gate, to the residual. -/
module

public import proofs.«01_k».proof.Proof.Context.Block
public import Idealize.ShloMosaic.Lib.Pipeline.ValueKit.Acc

@[expose] public section

set_option maxRecDepth 16384

noncomputable section

namespace Cert.Context

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Expert `t / 7` and block `t % 7` of its hidden columns at point `t`. -/
theorem index_at : ∀ t : Fin grid0.N, (grid0.coords t 2).val = t.val / 7
    ∧ (win0_0.index t 0 = 0 ∧ win0_0.index t 1 = 0 ∧ win0_0.index t 2 = 0)
    ∧ (win0_1.index t 0 = t.val / 7 ∧ win0_1.index t 1 = 0 ∧ win0_1.index t 2 = t.val % 7)
    ∧ (win0_2.index t 0 = t.val / 7 ∧ win0_2.index t 1 = 0 ∧ win0_2.index t 2 = t.val % 7)
    ∧ (win0_3.index t 0 = t.val / 7 ∧ win0_3.index t 1 = t.val % 7 ∧ win0_3.index t 2 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0) := by
  decide +kernel

/-- What point `t` makes of a running sum. -/
def grown (t : Fin cfg0.N) (o : Vec Ideal S1024x1024 .f32) : Vec Ideal S1024x1024 .f32 :=
  k0_pay1 (BitVec.ofNat 32 (grid0.coords t 2).val) (k0_pay4 (iblk m c 0 t) (iblk m c 1 t) (iblk m c 2 t) (iblk m c 3 t)) (iblk m c 4 t) o

theorem first_sum (t : Fin cfg0.N) (h0 : t.val % 56 = 0) : (outsAt0 m c t.val t.isLt).2 = grown m c t (k0_pay3 (F := Ideal)) := by
  rw [outsAt0_A m c t h0 (by omega)]
  unfold grown
  frame_out

theorem next_sum (t : Fin cfg0.N) (h0 : ¬t.val % 56 = 0) :
    (outsAt0 m c t.val t.isLt).2 = grown m c t (outsAt0 m c (t.val - 1) (Nat.lt_of_le_of_lt (Nat.sub_le _ _) t.isLt)).2 := by
  unfold grown
  by_cases h1 : t.val % 56 = 55
  · rw [outsAt0_C m c t h0 h1]
    frame_out [read_unread_whole]
  · rw [outsAt0_B m c t h0 h1]
    frame_out [read_unread_whole]

theorem last_block (t : Fin cfg0.N) (h1 : t.val % 56 = 55) :
    (outsAt0 m c t.val t.isLt).1 = k0_pay2 (iblk m c 5 t) (iblk m c 6 t) (outsAt0 m c t.val t.isLt).2 := by
  rw [next_sum m c t (by omega), outsAt0_C m c t (by omega) h1]
  unfold grown
  frame_out [read_unread_whole]

theorem points : cfg0.N = 56 := N_0

/-- The expert of a point. -/
def expertOf (t : Fin cfg0.N) : Fin 8 := ⟨t.val / 7, by have := lt_of_lt_of_eq t.isLt points; omega⟩

/-- What point `t` adds to the running sum. -/
def part (t : Fin cfg0.N) (p q : Fin 1024) : EReal :=
  k0_pay4 (iblk m c 0 t) (iblk m c 1 t) (iblk m c 2 t) (iblk m c 3 t) (ix2 p q)
    * (iblk m c 4 t : Vec Ideal S1x1024x128 .f32) (ix3 0 p ⟨(expertOf t).val, by omega⟩)

theorem grown_at (t : Fin cfg0.N) (o : Vec Ideal S1024x1024 .f32) (p q : Fin 1024) : grown m c t o (ix2 p q) = o (ix2 p q) + part m c t p q := by
  unfold grown
  rw [(index_at t).1]
  exact added_at _ o _ (expertOf t) p q

/-- The running sum at the last point. -/
theorem sum_at (t : Fin cfg0.N) (ht : t.val + 1 = cfg0.N) (p q : Fin 1024) :
    (outsAt0 m c t.val t.isLt).2 (ix2 p q) = ∑ u : Fin cfg0.N, part m c u p q := by
  have := Pipeline.eq_sum_fin_of_reset_step_apply_last (fun n h (i : Fin 1024 × Fin 1024) => ((outsAt0 m c n h).2 (ix2 i.1 i.2) : EReal)) 56
    (fun _ => 0) (fun u i => part m c u i.1 i.2)
    (fun u h0 i => by
      rw [first_sum m c u h0, grown_at, start_at])
    (fun u h0 i => by
      rw [next_sum m c u h0, grown_at])
    (le_of_eq points) t ht (p, q)
  exact this.trans (zero_add _)

/-- Equal coordinates, equal values. -/
theorem same {δ : Type} {s : Shape} (f : s.Idx → δ) {i j : s.Idx} (h : ∀ a, (i a).val = (j a).val) : f i = f j :=
  congrArg f (funext fun a => Fin.ext (h a))

section Reads
variable (t : Fin cfg0.N)

/-- Column `k` of a point's block, among the expert's hidden columns. -/
def columnOf (k : Fin 512) : Fin 3584 := ⟨t.val % 7 * 512 + k.val, by omega⟩

theorem token_at (p d : Fin 1024) : (iblk m c 0 t : Vec Ideal S1x1024x1024 .bf16) (ix3 0 p d)
    = (m ((c : Thread nD τ).loc main_arg0) : Vec Ideal S1x1024x1024 .bf16) (ix3 0 p d) := by
  have hi := (index_at t).2.1
  unfold iblk
  rw [View.read_apply]
  refine same (m (c.tc.loc main_arg0) : Vec Ideal S1x1024x1024 .bf16) fun a => ?_
  match a with
  | ⟨0, _⟩ => show win0_0.index t 0 * 1 + 1 * 0 = 0; rw [hi.1]
  | ⟨1, _⟩ => show win0_0.index t 1 * 1024 + 1 * p.val = p.val; rw [hi.2.1]; omega
  | ⟨2, _⟩ => show win0_0.index t 2 * 1024 + 1 * d.val = d.val; rw [hi.2.2]; omega

theorem gateMatrix_at (d : Fin 1024) (k : Fin 512) : (iblk m c 1 t : Vec Ideal S1x1024x512 .f32) (ix3 0 d k)
    = (m ((c : Thread nD τ).loc main_arg1) : Vec Ideal S16x1024x3584 .f32) (ix3 ⟨(expertOf t).val, by omega⟩ d (columnOf t k)) := by
  have hi := (index_at t).2.2.1
  unfold iblk
  rw [View.read_apply]
  refine same (m (c.tc.loc main_arg1) : Vec Ideal S16x1024x3584 .f32) fun a => ?_
  match a with
  | ⟨0, _⟩ => show win0_1.index t 0 * 1 + 1 * 0 = t.val / 7; rw [hi.1]; omega
  | ⟨1, _⟩ => show win0_1.index t 1 * 1024 + 1 * d.val = d.val; rw [hi.2.1]; omega
  | ⟨2, _⟩ => show win0_1.index t 2 * 512 + 1 * k.val = t.val % 7 * 512 + k.val; rw [hi.2.2]; omega

theorem upMatrix_at (d : Fin 1024) (k : Fin 512) : (iblk m c 2 t : Vec Ideal S1x1024x512 .f32) (ix3 0 d k)
    = (m ((c : Thread nD τ).loc main_arg2) : Vec Ideal S16x1024x3584 .f32) (ix3 ⟨(expertOf t).val, by omega⟩ d (columnOf t k)) := by
  have hi := (index_at t).2.2.2.1
  unfold iblk
  rw [View.read_apply]
  refine same (m (c.tc.loc main_arg2) : Vec Ideal S16x1024x3584 .f32) fun a => ?_
  match a with
  | ⟨0, _⟩ => show win0_2.index t 0 * 1 + 1 * 0 = t.val / 7; rw [hi.1]; omega
  | ⟨1, _⟩ => show win0_2.index t 1 * 1024 + 1 * d.val = d.val; rw [hi.2.1]; omega
  | ⟨2, _⟩ => show win0_2.index t 2 * 512 + 1 * k.val = t.val % 7 * 512 + k.val; rw [hi.2.2]; omega

theorem downMatrix_at (k : Fin 512) (q : Fin 1024) : (iblk m c 3 t : Vec Ideal S1x512x1024 .f32) (ix3 0 k q)
    = (m ((c : Thread nD τ).loc main_arg3) : Vec Ideal S16x3584x1024 .f32) (ix3 ⟨(expertOf t).val, by omega⟩ (columnOf t k) q) := by
  have hi := (index_at t).2.2.2.2.1
  unfold iblk
  rw [View.read_apply]
  refine same (m (c.tc.loc main_arg3) : Vec Ideal S16x3584x1024 .f32) fun a => ?_
  match a with
  | ⟨0, _⟩ => show win0_3.index t 0 * 1 + 1 * 0 = t.val / 7; rw [hi.1]; omega
  | ⟨1, _⟩ => show win0_3.index t 1 * 512 + 1 * k.val = t.val % 7 * 512 + k.val; rw [hi.2.1]; omega
  | ⟨2, _⟩ => show win0_3.index t 2 * 1024 + 1 * q.val = q.val; rw [hi.2.2]; omega

theorem weight_at (p : Fin 1024) (l : Fin 128) : (iblk m c 4 t : Vec Ideal S1x1024x128 .f32) (ix3 0 p l)
    = (m ((c : Thread nD τ).loc main_arg4) : Vec Ideal S1x1024x128 .f32) (ix3 0 p l) := by
  have hi := (index_at t).2.2.2.2.2.1
  unfold iblk
  rw [View.read_apply]
  refine same (m (c.tc.loc main_arg4) : Vec Ideal S1x1024x128 .f32) fun a => ?_
  match a with
  | ⟨0, _⟩ => show win0_4.index t 0 * 1 + 1 * 0 = 0; rw [hi.1]
  | ⟨1, _⟩ => show win0_4.index t 1 * 1024 + 1 * p.val = p.val; rw [hi.2.1]; omega
  | ⟨2, _⟩ => show win0_4.index t 2 * 128 + 1 * l.val = l.val; rw [hi.2.2]; omega

theorem residual_at (p q : Fin 1024) : (iblk m c 5 t : Vec Ideal S1x1024x1024 .f32) (ix3 0 p q)
    = (m ((c : Thread nD τ).loc main_arg5) : Vec Ideal S1x1024x1024 .f32) (ix3 0 p q) := by
  have hi := (index_at t).2.2.2.2.2.2.1
  unfold iblk
  rw [View.read_apply]
  refine same (m (c.tc.loc main_arg5) : Vec Ideal S1x1024x1024 .f32) fun a => ?_
  match a with
  | ⟨0, _⟩ => show win0_5.index t 0 * 1 + 1 * 0 = 0; rw [hi.1]
  | ⟨1, _⟩ => show win0_5.index t 1 * 1024 + 1 * p.val = p.val; rw [hi.2.1]; omega
  | ⟨2, _⟩ => show win0_5.index t 2 * 1024 + 1 * q.val = q.val; rw [hi.2.2]; omega

theorem branch_at (q : Fin 1024) : (iblk m c 6 t : Vec Ideal S1x1x1024 .f32) (ix3 0 0 q)
    = (m ((c : Thread nD τ).loc main_arg6) : Vec Ideal S1x1x1024 .f32) (ix3 0 0 q) := by
  have hi := (index_at t).2.2.2.2.2.2.2
  unfold iblk
  rw [View.read_apply]
  refine same (m (c.tc.loc main_arg6) : Vec Ideal S1x1x1024 .f32) fun a => ?_
  match a with
  | ⟨0, _⟩ => show win0_6.index t 0 * 1 + 1 * 0 = 0; rw [hi.1]
  | ⟨1, _⟩ => show win0_6.index t 1 * 1 + 1 * 0 = 0; rw [hi.2.1]
  | ⟨2, _⟩ => show win0_6.index t 2 * 1024 + 1 * q.val = q.val; rw [hi.2.2]; omega
end Reads

/-- After the run the result array is the residual plus, through the branch's gate, the sum of all points' parts. -/
theorem result_at (p q : Fin 1024) : (Value.G7 m c : S1x1024x1024.Idx → EReal) (ix3 0 p q)
    = Dense.added ((m ((c : Thread nD τ).loc main_arg5) : Vec Ideal S1x1024x1024 .f32) (ix3 0 p q))
      ((m ((c : Thread nD τ).loc main_arg6) : Vec Ideal S1x1x1024 .f32) (ix3 0 0 q)) (∑ u : Fin cfg0.N, part m c u p q) := by
  have hN : (55 : ℕ) < cfg0.N := by rw [points]; decide
  rw [Value.G7_last m c, ← Value.outsAt0_sweep m c 55 hN, last_block m c ⟨55, hN⟩ rfl, closed_at,
    sum_at m c ⟨55, hN⟩ points.symm, residual_at, branch_at]
  rfl

end Cert.Context
end
-- ==== Proof.Context.Reference.lean ====
/- What the reference of the context's experts computes, read at an index. -/
module

public import proofs.«01_k».proof.Proof.Gen.Reference6Ideal.Run
public import Idealize.ShloMosaic.Lib.Pointwise
public import Idealize.ShloMosaic.Lib.IdealHost

@[expose] public section

set_option maxRecDepth 16384

noncomputable section

namespace Cert.Context.Ref

open Cert.Reference6Ideal Cert.Reference6Ideal.Gen Idealize.ShloMosaic Idealize.ShloMosaic.TcCoe Idealize.SL.Sem

variable (x : FVec Ideal S1x1024x1024 .bf16) (wg wu w : FVec Ideal S16x1024x3584 .f32) (wd : FVec Ideal S16x3584x1024 .f32)
  (g : FVec Ideal S1x1024x128 .f32) (a : FVec Ideal S1x1024x1024 .f32) (s : FVec Ideal S1x1x1024 .f32)

/-- Every token's product with the matrices of the first eight experts. -/
def product : FVec Ideal S8x1x1024x3584 .f32 :=
  transpose S8x1x1024x3584 [0, 2, 3, 1] (Host.dotGeneral dot_S8x1024x3584_S1x1024x1024_S8x3584x1x1024_1_2_02_01_n_n none
    (extractStridedSlice S8x1024x3584 ![0, 0, 0] w slices_S16x1024x3584_S8x1024x3584_0_0_0) (extf .f32 x bitsLt_bf16_f32))
    transposes_S8x3584x1x1024_S8x1x1024x3584_0_2_3_1

/-- The swish. -/
def swish (b : FVec Ideal S8x1x1024x3584 .f32) : FVec Ideal S8x1x1024x3584 .f32 :=
  mulf b (Host.divf (broadcastInDim S8x1x1024x3584 ![] bcast_S_S8x1x1024x3584 (constant S_ .f32 0x3F800000#32))
    (addf (broadcastInDim S8x1x1024x3584 ![] bcast_S_S8x1x1024x3584 (constant S_ .f32 0x3F800000#32)) (Host.exp (Host.negf b))))

/-- The eight experts' outputs for every token. -/
def outputs (b : FVec Ideal S8x1x1024x3584 .f32) : FVec Ideal S8x1x1024x1024 .f32 :=
  Host.dotGeneral dot_S8x1x1024x3584_S8x3584x1024_S8x1x1024x1024_3_1_12_2_0_0 none b
    (extractStridedSlice S8x3584x1024 ![0, 0, 0] wd slices_S16x3584x1024_S8x3584x1024_0_0_0)

/-- The outputs weighed by the gates. -/
def weighed (y : FVec Ideal S8x1x1024x1024 .f32) : FVec Ideal S8x1x1024x1024 .f32 :=
  mulf (broadcastInDim S8x1x1024x1024 ![0, 1, 2, 3] bcast_S8x1x1024x1_S8x1x1024x1024_0_1_2_3
    (broadcastInDim S8x1x1024x1 ![0, 1, 2] bcast_S8x1x1024_S8x1x1024x1_0_1_2 (transpose S8x1x1024 [2, 0, 1]
      (extractStridedSlice S1x1024x8 ![0, 0, 0] g slices_S1x1024x128_S1x1024x8_0_0_0) transposes_S1x1024x8_S8x1x1024_2_0_1))) y

/-- Their sum over the experts. -/
def total (y : FVec Ideal S8x1x1024x1024 .f32) : FVec Ideal S1x1024x1024 .f32 :=
  Host.reduceAdd y (constant S_ .f32 0x00000000#32) reducesTo_S8x1x1024x1024_S1x1024x1024_d0 h_S_

/-- The reference's result: the sum, through the branch's gate, added to the residual. -/
def output : FVec Ideal S1x1024x1024 .f32 :=
  addf a (mulf (broadcastInDim S1x1024x1024 ![0, 1, 2] bcast_S1x1x1024_S1x1024x1024_0_1_2 s)
    (total (weighed g (outputs wd (mulf (swish (product x wg)) (product x wu))))))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = output (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

theorem product_at (e : Fin 8) (r : Fin 1024) (k : Fin 3584) :
    product x w (ix4 e 0 r k) = ∑ d : Fin 1024, w (ix3 ⟨e.val, by omega⟩ d k) * x (ix3 0 r d) := by
  pointwise [product]

theorem swish_at (b : FVec Ideal S8x1x1024x3584 .f32) (e : Fin 8) (r : Fin 1024) (k : Fin 3584) :
    swish b (ix4 e 0 r k) = b (ix4 e 0 r k) * Ideal.div 1 (1 + Ideal.exp (-b (ix4 e 0 r k))) := by
  pointwise [swish, Ideal.ofBits_one_f32]

theorem outputs_at (b : FVec Ideal S8x1x1024x3584 .f32) (e : Fin 8) (r q : Fin 1024) :
    outputs wd b (ix4 e 0 r q) = ∑ k : Fin 3584, b (ix4 e 0 r k) * wd (ix3 ⟨e.val, by omega⟩ k q) := by
  pointwise [outputs]

theorem weighed_at (y : FVec Ideal S8x1x1024x1024 .f32) (e : Fin 8) (r q : Fin 1024) :
    weighed g y (ix4 e 0 r q) = g (ix3 0 r ⟨e.val, by omega⟩) * y (ix4 e 0 r q) := by
  pointwise [weighed]

theorem total_at (y : FVec Ideal S8x1x1024x1024 .f32) (r q : Fin 1024) :
    total y (ix3 0 r q) = ∑ e : Fin 8, y (ix4 e 0 r q) := by
  pointwise [total, Ideal.ofBits_zero_f32]

theorem output_at (r q : Fin 1024) : output x wg wu wd g a s (ix3 0 r q) = a (ix3 0 r q)
    + s (ix3 0 0 q) * total (weighed g (outputs wd (mulf (swish (product x wg)) (product x wu)))) (ix3 0 r q) := by
  generalize ht : total (weighed g (outputs wd (mulf (swish (product x wg)) (product x wu)))) = y
  unfold output
  rw [ht]
  pointwise []

end Cert.Context.Ref
end
-- ==== Proof.Context.Pre.lean ====
/- What the precondition says of the arguments: the gates of the eight experts are finite and not negative. -/
module

public import proofs.«01_k».proof.Proof.Gen.Pre_weighing
public import Idealize.ShloMosaic.Lib.Pointwise
public import Idealize.ShloMosaic.Lib.IdealHost
public import Idealize.ShloMosaic.Lib.ReduceAll
public import Idealize.ShloMosaic.Lib.Affine

@[expose] public section

set_option maxRecDepth 16384

noncomputable section

namespace Cert.Context.Pre

open Cert.Pre_weighing Cert.Pre_weighing.Facts Idealize.ShloMosaic

/-- A number at least zero and below infinity is a real that is not negative. -/
theorem weight_of (z : EReal) (h : IntOp.andi (FloatOps.cmpf (F := Ideal) (φ := .f32) .oge z (Ideal.ofBits .f32 0x00000000#32))
    (FloatOps.cmpf (F := Ideal) (φ := .f32) .olt z (Ideal.ofBits .f32 0x7F800000#32)) = 1#1) : ∃ r : ℝ, 0 ≤ r ∧ z = r := by
  obtain ⟨h1, h2⟩ := IntOp.andi_eq_one.1 h
  have e2 : Ideal.ofBits .f32 0x7F800000#32 = ⊤ := by simp [Ideal.ofBits, Ideal.ieee]
  rw [Ideal.ofBits_zero_f32] at h1
  rw [e2] at h2
  induction z with
  | bot => exact absurd h1 (by simp [FloatOps.cmpf, Ideal.cmp])
  | top => exact absurd h2 (by simp [FloatOps.cmpf, Ideal.cmp])
  | coe r =>
    refine ⟨r, ?_, rfl⟩
    by_contra n
    exact absurd h1 (by simp [FloatOps.cmpf, Ideal.cmp, n])

variable [Facts] (a0 : FVec Ideal S1x1024x1024 .bf16) (a1 a2 : FVec Ideal S16x1024x3584 .f32) (a3 : FVec Ideal S16x3584x1024 .f32)
  (a4 : FVec Ideal S1x1024x128 .f32) (a5 : FVec Ideal S1x1024x1024 .f32) (a6 : FVec Ideal S1x1x1024 .f32)

theorem slice_at (r : Fin 1024) (e : Fin 8) :
    extractStridedSlice S1x1024x8 ![0, 0, 0] a4 slices_S1x1024x128_S1x1024x8_0_0_0 (ix3 0 r e) = a4 (ix3 0 r ⟨e.val, by omega⟩) := by
  pointwise []

theorem weights_of (h : fn (F := Ideal) a0 a1 a2 a3 a4 a5 a6 = fun _ => 1#1) (r : Fin 1024) (e : Fin 8) :
    ∃ w : ℝ, 0 ≤ w ∧ a4 (ix3 0 r ⟨e.val, by omega⟩) = w := by
  obtain ⟨w, h0, hw⟩ := weight_of _ (Host.reduce_andi_all _ _ _ _ _ (congrFun h ix0) (ix3 0 r e))
  exact ⟨w, h0, (slice_at a4 r e).symm.trans hw⟩

end Cert.Context.Pre
end
-- ==== Proof.Context.Meet.lean ====
/- The result array of the context's experts is the reference's, token by token. The kernel weighs every block of an expert's hidden
   columns by the expert's gate and the reference the expert's whole output; the gates being finite and not negative, both are the same sum. -/
module

public import proofs.«01_k».proof.Proof.Context.Array
public import proofs.«01_k».proof.Proof.Context.Reference
public import proofs.«01_k».proof.Proof.Context.Pre
public import proofs.«01_k».proof.Proof.Attn.Softmax

@[expose] public section

set_option maxRecDepth 16384

noncomputable section

namespace Cert.Context

open Cert.Kernel6Ideal Cert.Kernel6Ideal.Gen Idealize.ShloMosaic Idealize.ShloMosaic.TcCoe

section Sums
variable (x : Vec Ideal S1x1024x1024 .bf16) (wg wu : Vec Ideal S16x1024x3584 .f32) (wd : Vec Ideal S16x3584x1024 .f32)
  (g : Vec Ideal S1x1024x128 .f32) (a : Vec Ideal S1x1024x1024 .f32) (s : Vec Ideal S1x1x1024 .f32)

/-- Hidden column `l` of expert `e` for token `p`, taken through the expert's second matrix to column `q`. -/
def share (p q : Fin 1024) (e : Fin 8) (l : Fin 3584) : EReal :=
  Dense.gated (∑ d : Fin 1024, x (ix3 0 p d) * wg (ix3 ⟨e.val, by omega⟩ d l)) (∑ d : Fin 1024, x (ix3 0 p d) * wu (ix3 ⟨e.val, by omega⟩ d l))
    * wd (ix3 ⟨e.val, by omega⟩ l q)

theorem reference_at (p q : Fin 1024) : Ref.output x wg wu wd g a s (ix3 0 p q)
    = Dense.added (a (ix3 0 p q)) (s (ix3 0 0 q)) (∑ e : Fin 8, (∑ l : Fin 3584, share x wg wu wd p q e l) * g (ix3 0 p ⟨e.val, by omega⟩)) := by
  refine (Ref.output_at x wg wu wd g a s p q).trans (congrArg (fun b => a (ix3 0 p q) + s (ix3 0 0 q) * b) ?_)
  rw [Ref.total_at]
  refine Finset.sum_congr rfl fun e _ => ?_
  rw [Ref.weighed_at, Ref.outputs_at, mul_comm]
  refine congrArg (· * _) (Finset.sum_congr rfl fun l _ => ?_)
  refine congrArg (· * _) ?_
  have hp : ∀ w : FVec Ideal Cert.Reference6Ideal.S16x1024x3584 .f32,
      Ref.product x w (ix4 e 0 p l) = ∑ d : Fin 1024, x (ix3 0 p d) * w (ix3 ⟨e.val, by omega⟩ d l) := fun w =>
    (Ref.product_at x w e p l).trans (Finset.sum_congr rfl fun d _ => mul_comm _ _)
  exact congrArg₂ (· * ·) ((Ref.swish_at (Ref.product x wg) e p l).trans (congrArg (fun z => z * Ideal.div 1 (1 + Ideal.exp (-z))) (hp wg))) (hp wu)
end Sums

variable (m : (ℓ : Loc nD τ sig) → Buf (Elt Ideal) ℓ) (c : Dev nD)

/-- A point's part in terms of the arrays. -/
theorem part_eq (t : Fin cfg0.N) (p q : Fin 1024) : part m c t p q
    = (∑ k : Fin 512, share (m ((c : Thread nD τ).loc main_arg0)) (m ((c : Thread nD τ).loc main_arg1)) (m ((c : Thread nD τ).loc main_arg2))
        (m ((c : Thread nD τ).loc main_arg3)) p q (expertOf t) (columnOf t k))
      * (m ((c : Thread nD τ).loc main_arg4) : Vec Ideal S1x1024x128 .f32) (ix3 0 p ⟨(expertOf t).val, by omega⟩) := by
  unfold part share
  rw [weight_at, part_at]
  simp only [token_at, gateMatrix_at, upMatrix_at, downMatrix_at]

/-- All points' parts are the experts' outputs, each weighed by its gate. -/
theorem parts_eq (p q : Fin 1024) (h : ∀ e : Fin 8, ∃ r : ℝ, 0 ≤ r
      ∧ (m ((c : Thread nD τ).loc main_arg4) : Vec Ideal S1x1024x128 .f32) (ix3 0 p ⟨e.val, by omega⟩) = (r : EReal)) :
    ∑ t : Fin cfg0.N, part m c t p q
      = ∑ e : Fin 8, (∑ l : Fin 3584, share (m ((c : Thread nD τ).loc main_arg0)) (m ((c : Thread nD τ).loc main_arg1))
          (m ((c : Thread nD τ).loc main_arg2)) (m ((c : Thread nD τ).loc main_arg3)) p q e l)
        * (m ((c : Thread nD τ).loc main_arg4) : Vec Ideal S1x1024x128 .f32) (ix3 0 p ⟨e.val, by omega⟩) := by
  have into : ∀ {ι : Type} [Fintype ι] (f : ι → EReal) (e : Fin 8),
      (∑ i, f i) * (m ((c : Thread nD τ).loc main_arg4) : Vec Ideal S1x1024x128 .f32) (ix3 0 p ⟨e.val, by omega⟩)
        = ∑ i, f i * (m ((c : Thread nD τ).loc main_arg4) : Vec Ideal S1x1024x128 .f32) (ix3 0 p ⟨e.val, by omega⟩) := fun f e => by
    obtain ⟨r, h0, hr⟩ := h e
    rw [hr]
    exact Attn.sum_mul_pos _ f r h0
  simp only [part_eq, into]
  exact Fin.sum_points_lanes_congr 7 (fun t k ha hl => rfl) points rfl

/-- Arrays that agree at every token and column are equal. -/
theorem array_ext {f g : S1x1024x1024.Idx → EReal} (h : ∀ p q, f (ix3 0 p q) = g (ix3 0 p q)) : f = g := funext fun i => by
  have hi : i = ix3 0 ⟨(i 1).val, (i 1).isLt⟩ ⟨(i 2).val, (i 2).isLt⟩ := by
    funext a
    match a with
    | ⟨0, _⟩ => exact Fin.ext (by have : (i 0).val < 1 := (i 0).isLt; show (i 0).val = 0; omega)
    | ⟨1, _⟩ => rfl
    | ⟨2, _⟩ => rfl
  exact (congrArg f hi).trans ((h _ _).trans (congrArg g hi.symm))

/-- The kernel's result is the reference's. -/
theorem result_eq (h : ∀ (p : Fin 1024) (e : Fin 8), ∃ r : ℝ, 0 ≤ r
      ∧ (m ((c : Thread nD τ).loc main_arg4) : Vec Ideal S1x1024x128 .f32) (ix3 0 p ⟨e.val, by omega⟩) = (r : EReal)) :
    (Value.G7 m c : S1x1024x1024.Idx → EReal) = Ref.output (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) :=
  array_ext fun p q => (result_at m c p q).trans
    ((congrArg (Dense.added _ _) (parts_eq m c p q (h p))).trans (reference_at _ _ _ _ _ _ _ p q).symm)

end Cert.Context
end
-- ==== Proof.Modulation.Block.lean ====
/- What one grid point of the modulation computes: the swish of the conditioning times 1536 columns of a layer's matrix, plus the
   layer's bias. -/
module

public import proofs.«01_k».proof.Proof.Gen.Kernel7Ideal.Value
public import Idealize.ShloMosaic.Lib.Pointwise
public import Idealize.ShloMosaic.Lib.Pipeline.ReadBack

@[expose] public section

set_option maxRecDepth 16384

noncomputable section

namespace Cert.Modulation

open Cert.Kernel7Ideal Cert.Kernel7Ideal.Gen Idealize.ShloMosaic Idealize.ShloMosaic.TcCoe

/-- The swish of a number. -/
def swish (z : EReal) : EReal := z * Ideal.div 1 (1 + Ideal.exp (-z))

/-- One entry: the swish of a row of the conditioning times a column of a matrix, plus a bias. -/
def entry (x w : Fin 1024 → EReal) (b : EReal) : EReal := ∑ d : Fin 1024, swish (x d) * w d + b

variable (x : Vec Ideal S8x1024 .f32) (w : Vec Ideal S1x1024x1536 .f32) (b : Vec Ideal S1x1x1536 .f32)

/-- The block a point stores, index by index. -/
def block (y : S1x8x1536.Idx) : EReal :=
  entry (fun d => x (ix2 (y 1) d)) (fun d => w (ix3 0 d (y 2))) (b (ix3 0 0 (y 2)))

theorem stored_at (u : Fin 1) (r : Fin 8) (q : Fin 1536) : k0_pay1 x w b (ix3 u r q) = block x w b (ix3 u r q) := by
  unfold block entry swish
  pointwise [k0_pay1, Ideal.ofBits_zero_f32, Ideal.ofBits_one_f32, zero_sub]

theorem out_eq : out0_3 x w b = block x w b := by
  unfold out0_3
  rw [View.canon_unit_zero (by decide), View.ld_unit_lit _ x (by decide), View.ld_unit_lit _ w (by decide), View.ld_unit_lit _ b (by decide)]
  funext y
  have hy : y = ix3 ⟨(y 0).val, (y 0).isLt⟩ ⟨(y 1).val, (y 1).isLt⟩ ⟨(y 2).val, (y 2).isLt⟩ := by
    funext a; match a with | ⟨0, _⟩ => rfl | ⟨1, _⟩ => rfl | ⟨2, _⟩ => rfl
  exact (congrArg _ hy).trans ((stored_at x w b _ _ _).trans (congrArg (block x w b) hy.symm))

end Cert.Modulation
end
-- ==== Proof.Modulation.Array.lean ====
/- What the modulation's result array holds after the run: every block is written once, by one grid point, from the blocks of the
   arguments that the point reads. -/
module

public import proofs.«01_k».proof.Proof.Modulation.Block

@[expose] public section

set_option maxRecDepth 16384

noncomputable section

namespace Cert.Modulation

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Layer `t / 4` and block `t % 4` of the columns at point `t`; the conditioning stays at its one block. -/
theorem index_at : ∀ t : Fin grid0.N, (win0_0.index t 0 = 0 ∧ win0_0.index t 1 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = t.val % 4)
    ∧ (win0_3.index t 0 = t.val / 4 ∧ win0_3.index t 1 = 0 ∧ win0_3.index t 2 = t.val % 4) := by
  decide +kernel

/-- The point that serves layer `l` and the block of column `n`. -/
def pointOf (l : Fin 4) (n : Fin 6144) : Fin cfg0.N := ⟨4 * l.val + n.val / 1536, by rw [show cfg0.N = 16 from N_0]; omega⟩

/-- Equal coordinates, equal values. -/
theorem same {δ : Type} {s : Shape} (f : s.Idx → δ) {i j : s.Idx} (h : ∀ a, (i a).val = (j a).val) : f i = f j :=
  congrArg f (funext fun a => Fin.ext (h a))

/-- The bias as the region finds it: the argument with an axis put in. -/
theorem staged : V m c main_v0 = shapeCast S4x1x6144 (m ((c : Thread nD τ).loc main_arg2) : Vec Ideal S4x6144 .f32) shapeCasts_S4x6144_S4x1x6144 := by
  refine Eq.trans (b := (StableHlo.reshape main_arg2 main_v0 (rfl : (.f32 : EltTy) = .f32) shapeCasts_S4x6144_S4x1x6144 : HloOp τ sig (Elt Ideal)).result
    (fun b => m (c, b)) main_v0) rfl ?_
  exact StableHlo.reshape_result main_arg2 main_v0 (rfl : (.f32 : EltTy) = .f32) shapeCasts_S4x6144_S4x1x6144 _ _ _

theorem axis_at (b : FVec Ideal S4x6144 .f32) (l : Fin 4) (n : Fin 6144) :
    shapeCast S4x1x6144 b shapeCasts_S4x6144_S4x1x6144 (ix3 l 0 n) = b (ix2 l n) := by
  pointwise []

theorem staged_at (l : Fin 4) (n : Fin 6144) : (V m c main_v0 : Vec Ideal S4x1x6144 .f32) (ix3 l 0 n)
    = (m ((c : Thread nD τ).loc main_arg2) : Vec Ideal S4x6144 .f32) (ix2 l n) := by
  rw [staged]
  exact axis_at _ l n

section Reads
variable (l : Fin 4) (n : Fin 6144)

theorem rows_at (t : Fin cfg0.N) (r : Fin 8) (d : Fin 1024) : (iblk m c 0 t : Vec Ideal S8x1024 .f32) (ix2 r d)
    = (m ((c : Thread nD τ).loc main_arg0) : Vec Ideal S8x1024 .f32) (ix2 r d) := by
  have hi := (index_at t).1
  rw [← V_main_arg0 m c]
  unfold iblk
  rw [View.read_apply]
  refine same (V m c main_arg0 : Vec Ideal S8x1024 .f32) fun a => ?_
  match a with
  | ⟨0, _⟩ => show win0_0.index t 0 * 8 + 1 * r.val = r.val; rw [hi.1]; omega
  | ⟨1, _⟩ => show win0_0.index t 1 * 1024 + 1 * d.val = d.val; rw [hi.2]; omega

theorem matrix_at (d : Fin 1024) : (iblk m c 1 (pointOf l n) : Vec Ideal S1x1024x1536 .f32) (ix3 0 d ⟨n.val % 1536, by omega⟩)
    = (m ((c : Thread nD τ).loc main_arg1) : Vec Ideal S4x1024x6144 .f32) (ix3 l d n) := by
  have hi := (index_at (pointOf l n)).2.1
  rw [← V_main_arg1 m c]
  unfold iblk
  rw [View.read_apply]
  refine same (V m c main_arg1 : Vec Ideal S4x1024x6144 .f32) fun a => ?_
  match a with
  | ⟨0, _⟩ => show win0_1.index (pointOf l n) 0 * 1 + 1 * 0 = l.val; rw [hi.1]; unfold pointOf; dsimp only; omega
  | ⟨1, _⟩ => show win0_1.index (pointOf l n) 1 * 1024 + 1 * d.val = d.val; rw [hi.2.1]; omega
  | ⟨2, _⟩ => show win0_1.index (pointOf l n) 2 * 1536 + 1 * (n.val % 1536) = n.val; rw [hi.2.2]; unfold pointOf; dsimp only; omega

theorem bias_at : (iblk m c 2 (pointOf l n) : Vec Ideal S1x1x1536 .f32) (ix3 0 0 ⟨n.val % 1536, by omega⟩)
    = (m ((c : Thread nD τ).loc main_arg2) : Vec Ideal S4x6144 .f32) (ix2 l n) := by
  have hi := (index_at (pointOf l n)).2.2.1
  rw [← staged_at m c]
  unfold iblk
  rw [View.read_apply]
  refine same (V m c main_v0 : Vec Ideal S4x1x6144 .f32) fun a => ?_
  match a with
  | ⟨0, _⟩ => show win0_2.index (pointOf l n) 0 * 1 + 1 * 0 = l.val; rw [hi.1]; unfold pointOf; dsimp only; omega
  | ⟨1, _⟩ => show win0_2.index (pointOf l n) 1 * 1 + 1 * 0 = 0; rw [hi.2.1]
  | ⟨2, _⟩ => show win0_2.index (pointOf l n) 2 * 1536 + 1 * (n.val % 1536) = n.val; rw [hi.2.2]; unfold pointOf; dsimp only; omega
end Reads

/-- The result array. -/
def result : S4x8x6144.Idx → EReal := fun i =>
  block (iblk m c 0 (pointOf (i 0) (i 2))) (iblk m c 1 (pointOf (i 0) (i 2))) (iblk m c 2 (pointOf (i 0) (i 2)))
    (ix3 0 (i 1) ⟨(i 2).val % 1536, by omega⟩)

/-- At an index that lies in point `t`'s block it has that block's value. -/
theorem result_block (t : Fin cfg0.N) (y : S1x8x1536.Idx) (z : S4x8x6144.Idx)
    (e0 : (z 0).val = t.val / 4 * 1 + 1 * (y 0).val) (e1 : (z 1).val = 0 * 8 + 1 * (y 1).val) (e2 : (z 2).val = t.val % 4 * 1536 + 1 * (y 2).val) :
    block (iblk m c 0 t) (iblk m c 1 t) (iblk m c 2 t) y = result m c z := by
  have ht : t.val < 16 := lt_of_lt_of_eq t.isLt N_0
  have h0 : (y 0).val < 1 := (y 0).isLt
  have h2 : (y 2).val < 1536 := (y 2).isLt
  have hp : pointOf (z 0) (z 2) = t := Fin.ext (by unfold pointOf; dsimp only; omega)
  unfold result
  rw [hp]
  refine same (block (iblk m c 0 t) (iblk m c 1 t) (iblk m c 2 t)) fun a => ?_
  match a with
  | ⟨0, _⟩ => show (y 0).val = 0; omega
  | ⟨1, _⟩ => show (y 1).val = (z 1).val; omega
  | ⟨2, _⟩ => show (y 2).val = (z 2).val % 1536; omega

/-- After the run the result array is `result`. -/
theorem final : (dats m 0 c).arrAt 3 cfg0.N = result m c :=
  (dats m 0 c).arrAt_eq_of_cover 3 (result m c) (fun t _ => by
    obtain ⟨i0, i1, i2⟩ := (index_at t).2.2.2
    rw [Value.flushed3, out_eq]
    funext y
    rw [View.read_apply]
    refine result_block m c t y _ ?_ ?_ ?_
    · rw [← i0]; rfl
    · rw [← i1]; rfl
    · rw [← i2]; rfl) fun i => by
    refine ⟨pointOf (i 0) (i 2), flush0_3 _, ?_⟩
    show i ∈ ((View.whole main_v1).slice (win0_3.rect (pointOf (i 0) (i 2)))).set
    rw [View.set_slice_whole, Rect.mem_set_unit]
    intro a
    have h0 : (i 0).val < 4 := (i 0).isLt
    have h1 : (i 1).val < 8 := (i 1).isLt
    have h2 : (i 2).val < 6144 := (i 2).isLt
    have hp : (pointOf (i 0) (i 2)).val = 4 * (i 0).val + (i 2).val / 1536 := rfl
    obtain ⟨e0, e1, e2⟩ := (index_at (pointOf (i 0) (i 2))).2.2.2
    match a with
    | ⟨0, _⟩ => show win0_3.index (pointOf (i 0) (i 2)) 0 * 1 ≤ (i 0).val ∧ (i 0).val < win0_3.index (pointOf (i 0) (i 2)) 0 * 1 + 1; omega
    | ⟨1, _⟩ => show win0_3.index (pointOf (i 0) (i 2)) 1 * 8 ≤ (i 1).val ∧ (i 1).val < win0_3.index (pointOf (i 0) (i 2)) 1 * 8 + 8; omega
    | ⟨2, _⟩ => show win0_3.index (pointOf (i 0) (i 2)) 2 * 1536 ≤ (i 2).val ∧ (i 2).val < win0_3.index (pointOf (i 0) (i 2)) 2 * 1536 + 1536; omega

end Cert.Modulation
end
-- ==== Proof.Modulation.Reference.lean ====
/- What the modulation's reference computes, read at an index. -/
module

public import proofs.«01_k».proof.Proof.Gen.Reference7Ideal.Run
public import proofs.«01_k».proof.Proof.Modulation.Block
public import Idealize.ShloMosaic.Lib.IdealHost

@[expose] public section

set_option maxRecDepth 16384

noncomputable section

namespace Cert.Modulation.Ref

open Cert.Reference7Ideal Cert.Reference7Ideal.Gen Idealize.ShloMosaic Idealize.ShloMosaic.TcCoe Idealize.SL.Sem

variable (x : FVec Ideal S8x1024 .f32) (w : FVec Ideal S4x1024x6144 .f32) (b : FVec Ideal S4x6144 .f32)

/-- The swish of the conditioning. -/
def activated : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

/-- The product with every layer's matrix, plus the layer's bias. -/
def scaled (y : FVec Ideal S8x1024 .f32) : FVec Ideal S4x8x6144 .f32 :=
  addf (transpose S4x8x6144 [0, 2, 1] (Host.dotGeneral dot_S4x1024x6144_S8x1024_S4x6144x8_1_1_02_0_n_n none w y) transposes_S4x6144x8_S4x8x6144_0_2_1)
    (broadcastInDim S4x8x6144 ![0, 1, 2] bcast_S4x1x6144_S4x8x6144_0_1_2 (broadcastInDim S4x1x6144 ![0, 2] bcast_S4x6144_S4x1x6144_0_2 b))

/-- The reference's result. -/
def output : FVec Ideal S4x8x6144 .f32 := scaled w b (activated x)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = output (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

theorem activated_at (r : Fin 8) (d : Fin 1024) : activated x (ix2 r d) = swish (x (ix2 r d)) := by
  unfold swish
  pointwise [activated, Ideal.ofBits_one_f32]

theorem scaled_at (y : FVec Ideal S8x1024 .f32) (l : Fin 4) (r : Fin 8) (n : Fin 6144) :
    scaled w b y (ix3 l r n) = ∑ d : Fin 1024, w (ix3 l d n) * y (ix2 r d) + b (ix2 l n) := by
  pointwise [scaled]

theorem output_at (l : Fin 4) (r : Fin 8) (n : Fin 6144) :
    output x w b (ix3 l r n) = entry (fun d => x (ix2 r d)) (fun d => w (ix3 l d n)) (b (ix2 l n)) :=
  (scaled_at w b _ l r n).trans (congrArg (· + _) (Finset.sum_congr rfl fun d _ => (mul_comm _ _).trans (congrArg (· * _) (activated_at x r d))))

end Cert.Modulation.Ref
end
-- ==== Proof.Modulation.Meet.lean ====
/- The modulation's result array is the reference's, entry by entry. -/
module

public import proofs.«01_k».proof.Proof.Modulation.Array
public import proofs.«01_k».proof.Proof.Modulation.Reference

@[expose] public section

set_option maxRecDepth 16384

noncomputable section

namespace Cert.Modulation

open Cert.Kernel7Ideal Cert.Kernel7Ideal.Gen Idealize.ShloMosaic Idealize.ShloMosaic.TcCoe

variable (m : (ℓ : Loc nD τ sig) → Buf (Elt Ideal) ℓ) (c : Dev nD)

/-- The kernel's result at an index. -/
theorem result_at (l : Fin 4) (r : Fin 8) (n : Fin 6144) : result m c (ix3 l r n)
    = entry (fun d => (m ((c : Thread nD τ).loc main_arg0) : Vec Ideal S8x1024 .f32) (ix2 r d))
      (fun d => (m ((c : Thread nD τ).loc main_arg1) : Vec Ideal S4x1024x6144 .f32) (ix3 l d n))
      ((m ((c : Thread nD τ).loc main_arg2) : Vec Ideal S4x6144 .f32) (ix2 l n)) := by
  have e : result m c (ix3 l r n)
      = entry (fun d => (iblk m c 0 (pointOf l n) : Vec Ideal S8x1024 .f32) (ix2 r d))
        (fun d => (iblk m c 1 (pointOf l n) : Vec Ideal S1x1024x1536 .f32) (ix3 0 d ⟨n.val % 1536, by omega⟩))
        ((iblk m c 2 (pointOf l n) : Vec Ideal S1x1x1536 .f32) (ix3 0 0 ⟨n.val % 1536, by omega⟩)) := rfl
  rw [e, bias_at]
  simp only [rows_at, matrix_at]

/-- Arrays that agree at every layer, row and column are equal. -/
theorem array_ext {f g : S4x8x6144.Idx → EReal} (h : ∀ l r n, f (ix3 l r n) = g (ix3 l r n)) : f = g := funext fun i => by
  have hi : i = ix3 ⟨(i 0).val, (i 0).isLt⟩ ⟨(i 1).val, (i 1).isLt⟩ ⟨(i 2).val, (i 2).isLt⟩ := by
    funext a; match a with | ⟨0, _⟩ => rfl | ⟨1, _⟩ => rfl | ⟨2, _⟩ => rfl
  exact (congrArg f hi).trans ((h _ _ _).trans (congrArg g hi.symm))

/-- The kernel's result is the reference's. -/
theorem result_eq : result m c = Ref.output (m ((c : Thread nD τ).loc main_arg0)) (m ((c : Thread nD τ).loc main_arg1))
    (m ((c : Thread nD τ).loc main_arg2)) :=
  array_ext fun l r n => (result_at m c l r n).trans (Ref.output_at _ _ _ l r n).symm

end Cert.Modulation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_prepared
public import proofs.«01_k».proof.Proof.Gen.Pre_routed
public import proofs.«01_k».proof.Proof.Gen.Pre_weighing
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Attn.Meet
public import proofs.«01_k».proof.Proof.Experts.Words
public import proofs.«01_k».proof.Proof.Experts.Meet
public import proofs.«01_k».proof.Proof.Dense.Meet
public import proofs.«01_k».proof.Proof.Dense.SecondMeet
public import proofs.«01_k».proof.Proof.Conv.Meet
public import Idealize.ShloMosaic.Lib.Quiescent
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Context.Meet
public import proofs.«01_k».proof.Proof.Modulation.Meet

@[expose] public section

noncomputable section

namespace Cert.Proof

open Idealize.ShloMosaic Idealize.ShloMosaic.TcCoe Idealize.SL.Sem

/-- The kernel as printed runs, keeps its arguments and ends with every semaphore at zero. -/
theorem frame_kernel : Cert.quiescent_Kernel := fun m ρ _ => Cert.Kernel.Gen.frame m ρ

/-- So does its idealization, whatever the arguments hold. -/
theorem frame_kernelIdeal : Cert.quiescent_KernelIdeal := fun m ρ _ => Cert.KernelIdeal.Gen.frame m ρ

/-- The reference runs and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.Attn.Ref.run m ρ)

/-- From equal arguments that meet the precondition, the kernel's attention and the reference's are the same array. -/
theorem algebraic : Cert.algebraic_KernelIdeal_ReferenceIdeal_pre_prepared := fun m ρ m' ρ' hpre hag =>
  ⟨fun c => Cert.Attn.result m c,
    (θ_run Cert.KernelIdeal.defs _ _).mono (fun _ h c => ⟨(h c).1.trans (Cert.Attn.final_eq m c), (h c).2⟩) (Cert.KernelIdeal.Value.run_blocks m ρ),
    (θ_run Cert.ReferenceIdeal.defs _ _).mono (fun _ h c => ⟨(h c).1.trans (by
      obtain ⟨e0, e1, e2, -⟩ := hag c
      rw [e0, e1, e2]
      exact (Cert.Attn.result_eq m c (Cert.Attn.Pre.prepared _ _ _ _ _ (hpre c))).symm), (h c).2⟩) (Cert.Attn.Ref.run m' ρ')⟩

/-- The experts' kernel as printed runs on admitted tables, keeps its arguments and ends with every semaphore at zero. -/
theorem frame_kernel2 : Cert.quiescent_Kernel2 := fun m ρ hpre =>
  Cert.Experts.Words.run m ρ (Cert.Experts.routed _ _ _ _ _ _ (hpre 0))

/-- So does its idealization. -/
theorem frame_kernel2Ideal : Cert.quiescent_Kernel2Ideal := fun m ρ hpre =>
  (θ_run Cert.Kernel2Ideal.defs _ _).mono (fun _ h => ⟨fun c => (h.1 c).2, h.2⟩)
    (Cert.Experts.run m ρ (Cert.Experts.routed _ _ _ _ _ _ (hpre 0)))

/-- The experts' reference runs and keeps its arguments; it has no semaphore. -/
theorem frame_reference2 : Cert.quiescent_Reference2Ideal := fun m ρ _ =>
  (θ_run Cert.Reference2Ideal.defs _ _).mono (fun r h => ⟨fun c => (h c).2, sem_eq_zero_of_no_sems (by decide) r.2⟩) (Cert.Experts.Ref.run m ρ)

/-- From equal arguments that meet the precondition, the kernel's experts' output and the reference's are the same array. -/
theorem algebraic2 : Cert.algebraic_Kernel2Ideal_Reference2Ideal := fun m ρ m' ρ' hpre hag =>
  ⟨fun c => Cert.Experts.final m c (Cert.Experts.routed _ _ _ _ _ _ (hpre 0)),
    (θ_run Cert.Kernel2Ideal.defs _ _).mono (fun _ h c => ⟨(h.1 c).1.trans (Cert.Experts.final_eq m c _), (h.1 c).2⟩)
      (Cert.Experts.run m ρ (Cert.Experts.routed _ _ _ _ _ _ (hpre 0))),
    (θ_run Cert.Reference2Ideal.defs _ _).mono (fun _ h c => ⟨(h c).1.trans (by
      obtain ⟨e0, e1, e2, e3, e4, e5⟩ := hag c
      obtain rfl : c = 0 := Subsingleton.elim _ _
      rw [e0, e1, e2, e3, e4, e5]
      exact Cert.Experts.output_eq _ _ _ _ _ _ _), (h c).2⟩) (Cert.Experts.Ref.run m' ρ')⟩

/-- The output projection with the feed-forward as printed runs, keeps its arguments and ends with every semaphore at zero. -/
theorem frame_kernel3 : Cert.quiescent_Kernel3 := fun m ρ _ => Cert.Kernel3.Gen.frame m ρ

/-- So does its idealization. -/
theorem frame_kernel3Ideal : Cert.quiescent_Kernel3Ideal := fun m ρ _ => Cert.Kernel3Ideal.Gen.frame m ρ

/-- Its reference runs and keeps its arguments; it has no semaphore. -/
theorem frame_reference3 : Cert.quiescent_Reference3Ideal := fun m ρ _ =>
  (θ_run Cert.Reference3Ideal.defs _ _).mono (fun r h => ⟨fun c => (h c).2, sem_eq_zero_of_no_sems (by decide) r.2⟩) (Cert.Dense.Ref.run m ρ)

/-- From equal arguments, the kernel's stream after the feed-forward and the reference's are the same array. -/
theorem algebraic3 : Cert.algebraic_Kernel3Ideal_Reference3Ideal := fun m ρ m' ρ' _ hag =>
  ⟨fun c => Cert.Dense.result m c,
    (θ_run Cert.Kernel3Ideal.defs _ _).mono (fun _ h c => ⟨(h c).1.trans (Cert.Dense.final_eq m c), (h c).2⟩) (Cert.Kernel3Ideal.Value.run_blocks m ρ),
    (θ_run Cert.Reference3Ideal.defs _ _).mono (fun _ h c => ⟨(h c).1.trans (by
      obtain ⟨e0, e1, e2, e3, e4, e5, e6, e7, e8, e9, e10, e11⟩ := hag c
      rw [e0, e1, e2, e3, e4, e5, e6, e7, e8, e9, e10, e11]
      exact (Cert.Dense.result_eq m c).symm), (h c).2⟩) (Cert.Dense.Ref.run m' ρ')⟩

/-- The kernel of the convolution's input as printed runs, keeps its arguments and ends with every semaphore at zero. -/
theorem frame_kernel4 : Cert.quiescent_Kernel4 := fun m ρ _ => Cert.Kernel4.Gen.frame m ρ

/-- So does its idealization. -/
theorem frame_kernel4Ideal : Cert.quiescent_Kernel4Ideal := fun m ρ _ => Cert.Kernel4Ideal.Gen.frame m ρ

/-- Its reference runs and keeps its arguments; it has no semaphore. -/
theorem frame_reference4 : Cert.quiescent_Reference4Ideal := fun m ρ _ =>
  (θ_run Cert.Reference4Ideal.defs _ _).mono (fun r h => ⟨fun c => (h c).2.2, sem_eq_zero_of_no_sems (by decide) r.2⟩) (Cert.Conv.Ref.run m ρ)

/-- From equal arguments, the kernel's gates and signals and the reference's are the same two arrays. -/
theorem algebraic4 : Cert.algebraic_Kernel4Ideal_Reference4Ideal := fun m ρ m' ρ' _ hag =>
  ⟨fun c => Cert.Conv.gates m c, fun c => Cert.Conv.signals m c,
    (θ_run Cert.Kernel4Ideal.defs _ _).mono (fun _ h c => ⟨(h c).1.trans (Cert.Conv.gates_final m c),
      (h c).2.1.trans (Cert.Conv.signals_final m c), (h c).2.2⟩) (Cert.Kernel4Ideal.Value.run_blocks m ρ),
    (θ_run Cert.Reference4Ideal.defs _ _).mono (fun _ h c => by
      obtain ⟨e0, e1, e2, e3, e4⟩ := hag c
      refine ⟨(h c).1.trans ?_, (h c).2.1.trans ?_, (h c).2.2⟩ <;> rw [e0, e1, e2, e3, e4]
      · exact (Cert.Conv.gates_eq m c).symm
      · exact (Cert.Conv.signals_eq m c).symm) (Cert.Conv.Ref.run m' ρ')⟩

/-- The kernel of the second layer's output projection as printed runs, keeps its arguments and ends with every semaphore at zero. -/
theorem frame_kernel5 : Cert.quiescent_Kernel5 := fun m ρ _ => Cert.Kernel5.Gen.frame m ρ

/-- So does its idealization. -/
theorem frame_kernel5Ideal : Cert.quiescent_Kernel5Ideal := fun m ρ _ => Cert.Kernel5Ideal.Gen.frame m ρ

/-- Its reference runs and keeps its arguments; it has no semaphore. -/
theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- From equal arguments, the second layer's stream after the feed-forward and its reference's are the same array. -/
theorem algebraic5 : Cert.algebraic_Kernel5Ideal_Reference5Ideal := fun m ρ m' ρ' _ hag =>
  ⟨fun c => Cert.Dense.Second.result m c,
    (θ_run Cert.Kernel5Ideal.defs _ _).mono (fun _ h c => ⟨(h c).1.trans (Cert.Dense.Second.final_eq m c), (h c).2⟩) (Cert.Kernel5Ideal.Value.run_blocks m ρ),
    (θ_run Cert.Reference5Ideal.defs _ _).mono (fun _ h c => ⟨(h c).1.trans ((Cert.Dense.Second.Ref.result_eq m' c).trans (by
      obtain ⟨e0, e1, e2, e3, e4, e5, e6, e7, e8, e9, e10, e11⟩ := hag c
      unfold Cert.Dense.Second.Ref.output
      rw [e0, e1, e2, e3, e4, e5, e6, e7, e8, e9, e10, e11]
      exact (Cert.Dense.Second.result_eq m c).symm)), (h c).2⟩) (Cert.Reference5Ideal.Value.run m' ρ')⟩

/-- The kernel of the context's experts as printed runs, keeps its arguments and ends with every semaphore at zero. -/
theorem frame_kernel6 : Cert.quiescent_Kernel6 := fun m ρ _ => Cert.Kernel6.Gen.frame m ρ

/-- So does its idealization, whatever the gates hold. -/
theorem frame_kernel6Ideal : Cert.quiescent_Kernel6Ideal := fun m ρ _ => Cert.Kernel6Ideal.Gen.frame m ρ

/-- Its reference runs and keeps its arguments; it has no semaphore. -/
theorem frame_reference6 : Cert.quiescent_Reference6Ideal := fun m ρ _ =>
  (θ_run Cert.Reference6Ideal.defs _ _).mono (fun r h => ⟨fun c => (h c).2, sem_eq_zero_of_no_sems (by decide) r.2⟩) (Cert.Context.Ref.run m ρ)

/-- From equal arguments that meet the precondition, the context's stream after the experts and its reference's are the same array. -/
theorem algebraic6 : Cert.algebraic_Kernel6Ideal_Reference6Ideal_pre_weighing := fun m ρ m' ρ' hpre hag =>
  ⟨fun c => Cert.Kernel6Ideal.Value.G7 m c, Cert.Kernel6Ideal.Value.run m ρ,
    (θ_run Cert.Reference6Ideal.defs _ _).mono (fun _ h c => ⟨(h c).1.trans (by
      obtain ⟨e0, e1, e2, e3, e4, e5, e6⟩ := hag c
      rw [e0, e1, e2, e3, e4, e5, e6]
      exact (Cert.Context.result_eq m c (Cert.Context.Pre.weights_of _ _ _ _ _ _ _ (hpre c))).symm), (h c).2⟩) (Cert.Context.Ref.run m' ρ')⟩

/-- The kernel of the modulation as printed runs, keeps its arguments and ends with every semaphore at zero. -/
theorem frame_kernel7 : Cert.quiescent_Kernel7 := fun m ρ _ => Cert.Kernel7.Gen.frame m ρ

/-- So does its idealization. -/
theorem frame_kernel7Ideal : Cert.quiescent_Kernel7Ideal := fun m ρ _ => Cert.Kernel7Ideal.Gen.frame m ρ

/-- Its reference runs and keeps its arguments; it has no semaphore. -/
theorem frame_reference7 : Cert.quiescent_Reference7Ideal := fun m ρ _ =>
  (θ_run Cert.Reference7Ideal.defs _ _).mono (fun r h => ⟨fun c => (h c).2, sem_eq_zero_of_no_sems (by decide) r.2⟩) (Cert.Modulation.Ref.run m ρ)

/-- From equal arguments, the kernel's modulation and the reference's are the same array. -/
theorem algebraic7 : Cert.algebraic_Kernel7Ideal_Reference7Ideal := fun m ρ m' ρ' _ hag =>
  ⟨fun c => Cert.Modulation.result m c,
    (θ_run Cert.Kernel7Ideal.defs _ _).mono (fun _ h c => ⟨(h c).1.trans (Cert.Modulation.final m c), (h c).2⟩) (Cert.Kernel7Ideal.Value.run_blocks m ρ),
    (θ_run Cert.Reference7Ideal.defs _ _).mono (fun _ h c => ⟨(h c).1.trans (by
      obtain ⟨e0, e1, e2⟩ := hag c
      rw [e0, e1, e2]
      exact (Cert.Modulation.result_eq m c).symm), (h c).2⟩) (Cert.Modulation.Ref.run m' ρ')⟩

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_prepared.Gen.facts, Cert.Pre_routed.Gen.facts, Cert.Pre_weighing.Gen.facts,
    frame_kernel, frame_kernelIdeal, fun m ρ _ => frame_kernelIdeal m ρ trivial, frame_reference,
    fun m ρ _ => frame_reference m ρ trivial,
    frame_kernel2, frame_kernel2Ideal, frame_reference2, fun m ρ _ => frame_reference2 m ρ trivial,
    frame_kernel3, frame_kernel3Ideal, frame_reference3,
    frame_kernel4, frame_kernel4Ideal, frame_reference4,
    frame_kernel5, frame_kernel5Ideal, frame_reference5,
    frame_kernel6, frame_kernel6Ideal, fun m ρ _ => frame_kernel6Ideal m ρ trivial, frame_reference6,
    fun m ρ _ => frame_reference6 m ρ trivial,
    frame_kernel7, frame_kernel7Ideal, frame_reference7,
    trivial, algebraic, trivial, algebraic2, trivial, algebraic3, trivial, algebraic4, trivial, algebraic5, trivial, algebraic6,
    trivial, algebraic7⟩

end Cert.Proof

end
